-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_projection [hPre_finite_projection : Cert.Pre_finite_projection.Facts] (m : (ℓ : Loc Cert.InprojIdeal.nD Cert.InprojIdeal.τ Cert.InprojIdeal.sig) → Buf (Elt Ideal) ℓ) : Prop :=
  ∀ c : Dev Cert.InprojIdeal.nD,
    (Cert.Pre_finite_projection.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))) = (fun _ => 1#1)

def Pre_InprojReferenceIdeal (m : (ℓ : Loc Cert.InprojReferenceIdeal.nD Cert.InprojReferenceIdeal.τ Cert.InprojReferenceIdeal.sig) → Buf (Elt Ideal) ℓ) : Prop :=
  True

def Pre_InprojReferenceIdeal_finite_projection [hPre_finite_projection : Cert.Pre_finite_projection.Facts] (m : (ℓ : Loc Cert.InprojReferenceIdeal.nD Cert.InprojReferenceIdeal.τ Cert.InprojReferenceIdeal.sig) → Buf (Elt Ideal) ℓ) : Prop :=
  ∀ c : Dev Cert.InprojReferenceIdeal.nD,
    (Cert.Pre_finite_projection.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6))) = (fun _ => 1#1)

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddReferenceIdeal (m : (ℓ : Loc Cert.OddReferenceIdeal.nD Cert.OddReferenceIdeal.τ Cert.OddReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojIdeal_pre_finite_projection [hInprojIdeal : Cert.InprojIdeal.Facts] [hPre_finite_projection : Cert.Pre_finite_projection.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_projection m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def quiescent_InprojReferenceIdeal_pre_finite_projection [hInprojReferenceIdeal : Cert.InprojReferenceIdeal.Facts] [hPre_finite_projection : Cert.Pre_finite_projection.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal_finite_projection m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6)
      ∧ r.2.mem ((c.tc : Thread Cert.Odd.nD Cert.Odd.τ).loc Cert.Odd.main_arg7) = m ((c.tc : Thread Cert.Odd.nD Cert.Odd.τ).loc Cert.Odd.main_arg7)
      ∧ r.2.mem ((c.tc : Thread Cert.Odd.nD Cert.Odd.τ).loc Cert.Odd.main_arg8) = m ((c.tc : Thread Cert.Odd.nD Cert.Odd.τ).loc Cert.Odd.main_arg8)
      ∧ r.2.mem ((c.tc : Thread Cert.Odd.nD Cert.Odd.τ).loc Cert.Odd.main_arg9) = m ((c.tc : Thread Cert.Odd.nD Cert.Odd.τ).loc Cert.Odd.main_arg9))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
      ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
      ∧ r.2.mem ((c.tc : Thread Cert.OddIdeal.nD Cert.OddIdeal.τ).loc Cert.OddIdeal.main_arg9) = m ((c.tc : Thread Cert.OddIdeal.nD Cert.OddIdeal.τ).loc Cert.OddIdeal.main_arg9))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2)
      ∧ r.2.mem ((c.tc : Thread Cert.OddReferenceIdeal.nD Cert.OddReferenceIdeal.τ).loc Cert.OddReferenceIdeal.main_arg3) = m ((c.tc : Thread Cert.OddReferenceIdeal.nD Cert.OddReferenceIdeal.τ).loc Cert.OddReferenceIdeal.main_arg3)
      ∧ r.2.mem ((c.tc : Thread Cert.OddReferenceIdeal.nD Cert.OddReferenceIdeal.τ).loc Cert.OddReferenceIdeal.main_arg4) = m ((c.tc : Thread Cert.OddReferenceIdeal.nD Cert.OddReferenceIdeal.τ).loc Cert.OddReferenceIdeal.main_arg4)
      ∧ r.2.mem ((c.tc : Thread Cert.OddReferenceIdeal.nD Cert.OddReferenceIdeal.τ).loc Cert.OddReferenceIdeal.main_arg5) = m ((c.tc : Thread Cert.OddReferenceIdeal.nD Cert.OddReferenceIdeal.τ).loc Cert.OddReferenceIdeal.main_arg5)
      ∧ r.2.mem ((c.tc : Thread Cert.OddReferenceIdeal.nD Cert.OddReferenceIdeal.τ).loc Cert.OddReferenceIdeal.main_arg6) = m ((c.tc : Thread Cert.OddReferenceIdeal.nD Cert.OddReferenceIdeal.τ).loc Cert.OddReferenceIdeal.main_arg6)
      ∧ r.2.mem ((c.tc : Thread Cert.OddReferenceIdeal.nD Cert.OddReferenceIdeal.τ).loc Cert.OddReferenceIdeal.main_arg7) = m ((c.tc : Thread Cert.OddReferenceIdeal.nD Cert.OddReferenceIdeal.τ).loc Cert.OddReferenceIdeal.main_arg7)
      ∧ r.2.mem ((c.tc : Thread Cert.OddReferenceIdeal.nD Cert.OddReferenceIdeal.τ).loc Cert.OddReferenceIdeal.main_arg8) = m ((c.tc : Thread Cert.OddReferenceIdeal.nD Cert.OddReferenceIdeal.τ).loc Cert.OddReferenceIdeal.main_arg8)
      ∧ r.2.mem ((c.tc : Thread Cert.OddReferenceIdeal.nD Cert.OddReferenceIdeal.τ).loc Cert.OddReferenceIdeal.main_arg9) = m ((c.tc : Thread Cert.OddReferenceIdeal.nD Cert.OddReferenceIdeal.τ).loc Cert.OddReferenceIdeal.main_arg9))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Inproj_InprojIdeal : Prop :=
  True

def algebraic_InprojIdeal_InprojReferenceIdeal_pre_finite_projection [hInprojIdeal : Cert.InprojIdeal.Facts] [hInprojReferenceIdeal : Cert.InprojReferenceIdeal.Facts] [hPre_finite_projection : Cert.Pre_finite_projection.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal_finite_projection m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v52_0)) (v1 : (c : Dev Cert.InprojIdeal.nD) → Buf (Elt Ideal) ((c.tc : Thread Cert.InprojIdeal.nD Cert.InprojIdeal.τ).loc Cert.InprojIdeal.main_v52_1)) (v2 : (c : Dev Cert.InprojIdeal.nD) → Buf (Elt Ideal) ((c.tc : Thread Cert.InprojIdeal.nD Cert.InprojIdeal.τ).loc Cert.InprojIdeal.main_v52_2)) (v3 : (c : Dev Cert.InprojIdeal.nD) → Buf (Elt Ideal) ((c.tc : Thread Cert.InprojIdeal.nD Cert.InprojIdeal.τ).loc Cert.InprojIdeal.main_v52_3)) (v4 : (c : Dev Cert.InprojIdeal.nD) → Buf (Elt Ideal) ((c.tc : Thread Cert.InprojIdeal.nD Cert.InprojIdeal.τ).loc Cert.InprojIdeal.main_v52_4)) (v5 : (c : Dev Cert.InprojIdeal.nD) → Buf (Elt Ideal) ((c.tc : Thread Cert.InprojIdeal.nD Cert.InprojIdeal.τ).loc Cert.InprojIdeal.main_v52_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v52_0) = v0 c
          ∧ r.2.mem ((c.tc : Thread Cert.InprojIdeal.nD Cert.InprojIdeal.τ).loc Cert.InprojIdeal.main_v52_1) = v1 c
          ∧ r.2.mem ((c.tc : Thread Cert.InprojIdeal.nD Cert.InprojIdeal.τ).loc Cert.InprojIdeal.main_v52_2) = v2 c
          ∧ r.2.mem ((c.tc : Thread Cert.InprojIdeal.nD Cert.InprojIdeal.τ).loc Cert.InprojIdeal.main_v52_3) = v3 c
          ∧ r.2.mem ((c.tc : Thread Cert.InprojIdeal.nD Cert.InprojIdeal.τ).loc Cert.InprojIdeal.main_v52_4) = v4 c
          ∧ r.2.mem ((c.tc : Thread Cert.InprojIdeal.nD Cert.InprojIdeal.τ).loc Cert.InprojIdeal.main_v52_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v265) = v0 c
          ∧ r.2.mem ((c.tc : Thread Cert.InprojReferenceIdeal.nD Cert.InprojReferenceIdeal.τ).loc Cert.InprojReferenceIdeal.main_v267) = v1 c
          ∧ r.2.mem ((c.tc : Thread Cert.InprojReferenceIdeal.nD Cert.InprojReferenceIdeal.τ).loc Cert.InprojReferenceIdeal.main_v269) = v2 c
          ∧ r.2.mem ((c.tc : Thread Cert.InprojReferenceIdeal.nD Cert.InprojReferenceIdeal.τ).loc Cert.InprojReferenceIdeal.main_v270) = v3 c
          ∧ r.2.mem ((c.tc : Thread Cert.InprojReferenceIdeal.nD Cert.InprojReferenceIdeal.τ).loc Cert.InprojReferenceIdeal.main_v272) = v4 c
          ∧ r.2.mem ((c.tc : Thread Cert.InprojReferenceIdeal.nD Cert.InprojReferenceIdeal.τ).loc Cert.InprojReferenceIdeal.main_v274) = v5 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6))

def preserves_Odd_OddIdeal : Prop :=
  True

def algebraic_OddIdeal_OddReferenceIdeal [hOddIdeal : Cert.OddIdeal.Facts] [hOddReferenceIdeal : Cert.OddReferenceIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddIdeal m →
    (∀ c : Dev Cert.OddIdeal.nD,
      m' ((c.tc : Thread Cert.OddReferenceIdeal.nD Cert.OddReferenceIdeal.τ).loc Cert.OddReferenceIdeal.main_arg0) = m ((c.tc : Thread Cert.OddIdeal.nD Cert.OddIdeal.τ).loc Cert.OddIdeal.main_arg0)
      ∧ m' ((c.tc : Thread Cert.OddReferenceIdeal.nD Cert.OddReferenceIdeal.τ).loc Cert.OddReferenceIdeal.main_arg1) = m ((c.tc : Thread Cert.OddIdeal.nD Cert.OddIdeal.τ).loc Cert.OddIdeal.main_arg1)
      ∧ m' ((c.tc : Thread Cert.OddReferenceIdeal.nD Cert.OddReferenceIdeal.τ).loc Cert.OddReferenceIdeal.main_arg2) = m ((c.tc : Thread Cert.OddIdeal.nD Cert.OddIdeal.τ).loc Cert.OddIdeal.main_arg2)
      ∧ m' ((c.tc : Thread Cert.OddReferenceIdeal.nD Cert.OddReferenceIdeal.τ).loc Cert.OddReferenceIdeal.main_arg3) = m ((c.tc : Thread Cert.OddIdeal.nD Cert.OddIdeal.τ).loc Cert.OddIdeal.main_arg3)
      ∧ m' ((c.tc : Thread Cert.OddReferenceIdeal.nD Cert.OddReferenceIdeal.τ).loc Cert.OddReferenceIdeal.main_arg4) = m ((c.tc : Thread Cert.OddIdeal.nD Cert.OddIdeal.τ).loc Cert.OddIdeal.main_arg4)
      ∧ m' ((c.tc : Thread Cert.OddReferenceIdeal.nD Cert.OddReferenceIdeal.τ).loc Cert.OddReferenceIdeal.main_arg5) = m ((c.tc : Thread Cert.OddIdeal.nD Cert.OddIdeal.τ).loc Cert.OddIdeal.main_arg5)
      ∧ m' ((c.tc : Thread Cert.OddReferenceIdeal.nD Cert.OddReferenceIdeal.τ).loc Cert.OddReferenceIdeal.main_arg6) = m ((c.tc : Thread Cert.OddIdeal.nD Cert.OddIdeal.τ).loc Cert.OddIdeal.main_arg6)
      ∧ m' ((c.tc : Thread Cert.OddReferenceIdeal.nD Cert.OddReferenceIdeal.τ).loc Cert.OddReferenceIdeal.main_arg7) = m ((c.tc : Thread Cert.OddIdeal.nD Cert.OddIdeal.τ).loc Cert.OddIdeal.main_arg7)
      ∧ m' ((c.tc : Thread Cert.OddReferenceIdeal.nD Cert.OddReferenceIdeal.τ).loc Cert.OddReferenceIdeal.main_arg8) = m ((c.tc : Thread Cert.OddIdeal.nD Cert.OddIdeal.τ).loc Cert.OddIdeal.main_arg8)
      ∧ m' ((c.tc : Thread Cert.OddReferenceIdeal.nD Cert.OddReferenceIdeal.τ).loc Cert.OddReferenceIdeal.main_arg9) = m ((c.tc : Thread Cert.OddIdeal.nD Cert.OddIdeal.τ).loc Cert.OddIdeal.main_arg9)) →
    ∃ (v0 : (c : Dev Cert.OddIdeal.nD) → Buf (Elt Ideal) ((c.tc : Thread Cert.OddIdeal.nD Cert.OddIdeal.τ).loc Cert.OddIdeal.main_v10_0)) (v1 : (c : Dev Cert.OddIdeal.nD) → Buf (Elt Ideal) ((c.tc : Thread Cert.OddIdeal.nD Cert.OddIdeal.τ).loc Cert.OddIdeal.main_v10_1)) (v2 : (c : Dev Cert.OddIdeal.nD) → Buf (Elt Ideal) ((c.tc : Thread Cert.OddIdeal.nD Cert.OddIdeal.τ).loc Cert.OddIdeal.main_v10_2)) (v3 : (c : Dev Cert.OddIdeal.nD) → Buf (Elt Ideal) ((c.tc : Thread Cert.OddIdeal.nD Cert.OddIdeal.τ).loc Cert.OddIdeal.main_v10_3)) (v4 : (c : Dev Cert.OddIdeal.nD) → Buf (Elt Ideal) ((c.tc : Thread Cert.OddIdeal.nD Cert.OddIdeal.τ).loc Cert.OddIdeal.main_v10_4)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v10_0) = v0 c
          ∧ r.2.mem ((c.tc : Thread Cert.OddIdeal.nD Cert.OddIdeal.τ).loc Cert.OddIdeal.main_v10_1) = v1 c
          ∧ r.2.mem ((c.tc : Thread Cert.OddIdeal.nD Cert.OddIdeal.τ).loc Cert.OddIdeal.main_v10_2) = v2 c
          ∧ r.2.mem ((c.tc : Thread Cert.OddIdeal.nD Cert.OddIdeal.τ).loc Cert.OddIdeal.main_v10_3) = v3 c
          ∧ r.2.mem ((c.tc : Thread Cert.OddIdeal.nD Cert.OddIdeal.τ).loc Cert.OddIdeal.main_v10_4) = v4 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
          ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
          ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
          ∧ r.2.mem ((c.tc : Thread Cert.OddIdeal.nD Cert.OddIdeal.τ).loc Cert.OddIdeal.main_arg9) = m ((c.tc : Thread Cert.OddIdeal.nD Cert.OddIdeal.τ).loc Cert.OddIdeal.main_arg9))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v221) = v0 c
          ∧ r.2.mem ((c.tc : Thread Cert.OddReferenceIdeal.nD Cert.OddReferenceIdeal.τ).loc Cert.OddReferenceIdeal.main_v222) = v1 c
          ∧ r.2.mem ((c.tc : Thread Cert.OddReferenceIdeal.nD Cert.OddReferenceIdeal.τ).loc Cert.OddReferenceIdeal.main_v223) = v2 c
          ∧ r.2.mem ((c.tc : Thread Cert.OddReferenceIdeal.nD Cert.OddReferenceIdeal.τ).loc Cert.OddReferenceIdeal.main_v224) = v3 c
          ∧ r.2.mem ((c.tc : Thread Cert.OddReferenceIdeal.nD Cert.OddReferenceIdeal.τ).loc Cert.OddReferenceIdeal.main_v220) = v4 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1)
          ∧ r.2.mem ((c.tc : Thread Cert.OddReferenceIdeal.nD Cert.OddReferenceIdeal.τ).loc Cert.OddReferenceIdeal.main_arg2) = m' ((c.tc : Thread Cert.OddReferenceIdeal.nD Cert.OddReferenceIdeal.τ).loc Cert.OddReferenceIdeal.main_arg2)
          ∧ r.2.mem ((c.tc : Thread Cert.OddReferenceIdeal.nD Cert.OddReferenceIdeal.τ).loc Cert.OddReferenceIdeal.main_arg3) = m' ((c.tc : Thread Cert.OddReferenceIdeal.nD Cert.OddReferenceIdeal.τ).loc Cert.OddReferenceIdeal.main_arg3)
          ∧ r.2.mem ((c.tc : Thread Cert.OddReferenceIdeal.nD Cert.OddReferenceIdeal.τ).loc Cert.OddReferenceIdeal.main_arg4) = m' ((c.tc : Thread Cert.OddReferenceIdeal.nD Cert.OddReferenceIdeal.τ).loc Cert.OddReferenceIdeal.main_arg4)
          ∧ r.2.mem ((c.tc : Thread Cert.OddReferenceIdeal.nD Cert.OddReferenceIdeal.τ).loc Cert.OddReferenceIdeal.main_arg5) = m' ((c.tc : Thread Cert.OddReferenceIdeal.nD Cert.OddReferenceIdeal.τ).loc Cert.OddReferenceIdeal.main_arg5)
          ∧ r.2.mem ((c.tc : Thread Cert.OddReferenceIdeal.nD Cert.OddReferenceIdeal.τ).loc Cert.OddReferenceIdeal.main_arg6) = m' ((c.tc : Thread Cert.OddReferenceIdeal.nD Cert.OddReferenceIdeal.τ).loc Cert.OddReferenceIdeal.main_arg6)
          ∧ r.2.mem ((c.tc : Thread Cert.OddReferenceIdeal.nD Cert.OddReferenceIdeal.τ).loc Cert.OddReferenceIdeal.main_arg7) = m' ((c.tc : Thread Cert.OddReferenceIdeal.nD Cert.OddReferenceIdeal.τ).loc Cert.OddReferenceIdeal.main_arg7)
          ∧ r.2.mem ((c.tc : Thread Cert.OddReferenceIdeal.nD Cert.OddReferenceIdeal.τ).loc Cert.OddReferenceIdeal.main_arg8) = m' ((c.tc : Thread Cert.OddReferenceIdeal.nD Cert.OddReferenceIdeal.τ).loc Cert.OddReferenceIdeal.main_arg8)
          ∧ r.2.mem ((c.tc : Thread Cert.OddReferenceIdeal.nD Cert.OddReferenceIdeal.τ).loc Cert.OddReferenceIdeal.main_arg9) = m' ((c.tc : Thread Cert.OddReferenceIdeal.nD Cert.OddReferenceIdeal.τ).loc Cert.OddReferenceIdeal.main_arg9))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hOdd : Cert.Odd.Facts) (hOddIdeal : Cert.OddIdeal.Facts) (hOddReferenceIdeal : Cert.OddReferenceIdeal.Facts) (hPre_finite_scores : Cert.Pre_finite_scores.Facts) (hPre_finite_projection : Cert.Pre_finite_projection.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Inproj (hInproj := hInproj)
    ∧ quiescent_InprojIdeal (hInprojIdeal := hInprojIdeal)
    ∧ quiescent_InprojIdeal_pre_finite_projection (hInprojIdeal := hInprojIdeal) (hPre_finite_projection := hPre_finite_projection)
    ∧ quiescent_InprojReferenceIdeal (hInprojReferenceIdeal := hInprojReferenceIdeal)
    ∧ quiescent_InprojReferenceIdeal_pre_finite_projection (hInprojReferenceIdeal := hInprojReferenceIdeal) (hPre_finite_projection := hPre_finite_projection)
    ∧ quiescent_Odd (hOdd := hOdd)
    ∧ quiescent_OddIdeal (hOddIdeal := hOddIdeal)
    ∧ quiescent_OddReferenceIdeal (hOddReferenceIdeal := hOddReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Inproj_InprojIdeal
    ∧ algebraic_InprojIdeal_InprojReferenceIdeal_pre_finite_projection (hInprojIdeal := hInprojIdeal) (hInprojReferenceIdeal := hInprojReferenceIdeal) (hPre_finite_projection := hPre_finite_projection)
    ∧ preserves_Odd_OddIdeal
    ∧ algebraic_OddIdeal_OddReferenceIdeal (hOddIdeal := hOddIdeal) (hOddReferenceIdeal := hOddReferenceIdeal)
-- ==== Pre_finite_projection.lean ====
abbrev S33792x1024 : Shape := ⟨2, ![33792, 1024]⟩
abbrev S1024 : Shape := ⟨1, ![1024]⟩
abbrev S8x1024 : Shape := ⟨2, ![8, 1024]⟩
abbrev S1024x3840 : Shape := ⟨2, ![1024, 3840]⟩
abbrev S64 : Shape := ⟨1, ![64]⟩
abbrev S_ : Shape := ⟨0, ![]⟩
abbrev S1x1024 : Shape := ⟨2, ![1, 1024]⟩
abbrev S3840x1024 : Shape := ⟨2, ![3840, 1024]⟩
abbrev S37632x1024 : Shape := ⟨2, ![37632, 1024]⟩
abbrev S37640x1024 : Shape := ⟨2, ![37640, 1024]⟩

class Facts : Prop where
  bcast_S_S33792x1024 : S_.BroadcastsInDim S33792x1024 (![] : Fin 0 → Fin S33792x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S33792x1024_0_1 : S1x1024.BroadcastsInDim S33792x1024 (![0, 1] : Fin 2 → Fin S33792x1024.rank)
  transposes_S1024x3840_S3840x1024_1_0 : S1024x3840.Transposes [1, 0] S3840x1024
  bcast_S_S3840x1024 : S_.BroadcastsInDim S3840x1024 (![] : Fin 0 → Fin S3840x1024.rank)
  concatenates_S33792x1024_S3840x1024_S37632x1024_d0 : Shape.Concatenates [S33792x1024, S3840x1024] S37632x1024 0
  bcast_S_S8x1024 : S_.BroadcastsInDim S8x1024 (![] : Fin 0 → Fin S8x1024.rank)
  concatenates_S37632x1024_S8x1024_S37640x1024_d0 : Shape.Concatenates [S37632x1024, S8x1024] S37640x1024 0

variable [Facts]

def fn_part1 {F : FTy → Type} [FloatOps F] (main_v13 : IVec S37632x1024 1) (main_v16 : IVec S8x1024 1) (main_v17 : FVec F S8x1024 .f32) (main_v18 : FVec F S8x1024 .f32) : IVec S37640x1024 1 :=
  let main_v19 : IVec S8x1024 1 := cmpf .olt main_v17 main_v18
  let main_v20 : IVec S8x1024 1 := andi main_v16 main_v19
  let main_v21 : IVec S37640x1024 1 := (fun a b => concatenate S37640x1024 0 [⟨S37632x1024, a⟩, ⟨S8x1024, b⟩] concatenates_S37632x1024_S8x1024_S37640x1024_d0) main_v13 main_v20
  main_v21

def fn {F : FTy → Type} [FloatOps F] (main_arg0 : FVec F S33792x1024 .f32) (main_arg1 : FVec F S1024 .f32) (main_arg2 : FVec F S8x1024 .f32) (main_arg3 : FVec F S8x1024 .f32) (main_arg4 : FVec F S1024x3840 .f32) (main_arg5 : FVec F S64 .f32) (main_arg6 : FVec F S64 .f32) : IVec S37640x1024 1 :=
  let main_v0 : FVec F S33792x1024 .f32 := Host.absf main_arg0
  let main_cst : FVec F S_ .f32 := constant S_ .f32 0x7F800000#32
  let main_v1 : FVec F S33792x1024 .f32 := broadcastInDim S33792x1024 ![] bcast_S_S33792x1024 main_cst
  let main_v2 : IVec S33792x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : IVec S1x1024 1 := broadcastInDim S1x1024 ![1] bcast_S1024_S1x1024_1 main_v5
  let main_v7 : IVec S33792x1024 1 := broadcastInDim S33792x1024 ![0, 1] bcast_S1x1024_S33792x1024_0_1 main_v6
  let main_v8 : IVec S33792x1024 1 := andi main_v2 main_v7
  let main_v9 : FVec F S3840x1024 .f32 := (transpose S3840x1024 [1, 0] · transposes_S1024x3840_S3840x1024_1_0) main_arg4
  let main_v10 : FVec F S3840x1024 .f32 := Host.absf main_v9
  let main_cst_1 : FVec F S_ .f32 := constant S_ .f32 0x7F800000#32
  let main_v11 : FVec F S3840x1024 .f32 := broadcastInDim S3840x1024 ![] bcast_S_S3840x1024 main_cst_1
  let main_v12 : IVec S3840x1024 1 := cmpf .olt main_v10 main_v11
  let main_v13 : IVec S37632x1024 1 := (fun a b => concatenate S37632x1024 0 [⟨S33792x1024, a⟩, ⟨S3840x1024, b⟩] concatenates_S33792x1024_S3840x1024_S37632x1024_d0) main_v8 main_v12
  let main_v14 : FVec F S8x1024 .f32 := Host.absf main_arg2
  let main_cst_2 : FVec F S_ .f32 := constant S_ .f32 0x7F800000#32
  let main_v15 : FVec F S8x1024 .f32 := broadcastInDim S8x1024 ![] bcast_S_S8x1024 main_cst_2
  let main_v16 : IVec S8x1024 1 := cmpf .olt main_v14 main_v15
  let main_v17 : FVec F S8x1024 .f32 := Host.absf main_arg3
  let main_cst_3 : FVec F S_ .f32 := constant S_ .f32 0x7F800000#32
  let main_v18 : FVec F S8x1024 .f32 := broadcastInDim S8x1024 ![] bcast_S_S8x1024 main_cst_3
  fn_part1 (F := F) main_v13 main_v16 main_v17 main_v18
-- ==== Pre_finite_scores.lean ====
abbrev S8x33792x64 : Shape := ⟨3, ![8, 33792, 64]⟩
abbrev S2x33792x64 : Shape := ⟨3, ![2, 33792, 64]⟩
abbrev S_ : Shape := ⟨0, ![]⟩
abbrev S10x33792x64 : Shape := ⟨3, ![10, 33792, 64]⟩

class Facts : Prop where
  bcast_S_S8x33792x64 : S_.BroadcastsInDim S8x33792x64 (![] : Fin 0 → Fin S8x33792x64.rank)
  bitsLt_bf16_f32 : FTy.bits .bf16 < FTy.bits .f32
  bcast_S_S2x33792x64 : S_.BroadcastsInDim S2x33792x64 (![] : Fin 0 → Fin S2x33792x64.rank)
  concatenates_S8x33792x64_S2x33792x64_S10x33792x64_d0 : Shape.Concatenates [S8x33792x64, S2x33792x64] S10x33792x64 0

variable [Facts]

def fn {F : FTy → Type} [FloatOps F] (main_arg0 : FVec F S8x33792x64 .f32) (main_arg1 : FVec F S2x33792x64 .bf16) (main_arg2 : FVec F S2x33792x64 .bf16) : IVec S10x33792x64 1 :=
  let main_v0 : FVec F S8x33792x64 .f32 := Host.absf main_arg0
  let main_cst : FVec F S_ .f32 := constant S_ .f32 0x7F800000#32
  let main_v1 : FVec F S8x33792x64 .f32 := broadcastInDim S8x33792x64 ![] bcast_S_S8x33792x64 main_cst
  let main_v2 : IVec S8x33792x64 1 := cmpf .olt main_v0 main_v1
  let main_v3 : FVec F S2x33792x64 .f32 := (extf .f32 · bitsLt_bf16_f32) main_arg1
  let main_v4 : FVec F S2x33792x64 .f32 := Host.absf main_v3
  let main_cst_0 : FVec F S_ .f32 := constant S_ .f32 0x7F800000#32
  let main_v5 : FVec F S2x33792x64 .f32 := broadcastInDim S2x33792x64 ![] bcast_S_S2x33792x64 main_cst_0
  let main_v6 : IVec S2x33792x64 1 := cmpf .olt main_v4 main_v5
  let main_v7 : IVec S10x33792x64 1 := (fun a b => concatenate S10x33792x64 0 [⟨S8x33792x64, a⟩, ⟨S2x33792x64, b⟩] concatenates_S8x33792x64_S2x33792x64_S10x33792x64_d0) main_v2 main_v6
  main_v7
-- ==== Kernel.lean ====
abbrev S8x33792x64 : Shape := ⟨3, ![8, 33792, 64]⟩
abbrev S2x33792x64 : Shape := ⟨3, ![2, 33792, 64]⟩
abbrev S2x32768x64 : Shape := ⟨3, ![2, 32768, 64]⟩
abbrev S2x4x8192x64 : Shape := ⟨4, ![2, 4, 8192, 64]⟩
abbrev S2x1024x64 : Shape := ⟨3, ![2, 1024, 64]⟩
abbrev S2x4x256x64 : Shape := ⟨4, ![2, 4, 256, 64]⟩
abbrev S2x4x8448x64 : Shape := ⟨4, ![2, 4, 8448, 64]⟩
abbrev S2x4x64x8448 : Shape := ⟨4, ![2, 4, 64, 8448]⟩
abbrev S_ : Shape := ⟨0, ![]⟩
abbrev S2x4x16x8448 : Shape := ⟨4, ![2, 4, 16, 8448]⟩
abbrev S2x4x80x8448 : Shape := ⟨4, ![2, 4, 80, 8448]⟩
abbrev S2x4x80x33x256 : Shape := ⟨5, ![2, 4, 80, 33, 256]⟩
abbrev S2x4x33x80x256 : Shape := ⟨5, ![2, 4, 33, 80, 256]⟩
abbrev S8x64x33792 : Shape := ⟨3, ![8, 64, 33792]⟩
abbrev S32768x512 : Shape := ⟨2, ![32768, 512]⟩
abbrev S4x64x256 : Shape := ⟨3, ![4, 64, 256]⟩
abbrev S1x1x8448x64 : Shape := ⟨4, ![1, 1, 8448, 64]⟩
abbrev S1x1x33x80x256 : Shape := ⟨5, ![1, 1, 33, 80, 256]⟩
abbrev S256x256 : Shape := ⟨2, ![256, 256]⟩
abbrev S1x64x256 : Shape := ⟨3, ![1, 64, 256]⟩
abbrev S64x256 : Shape := ⟨2, ![64, 256]⟩
abbrev S1x256 : Shape := ⟨2, ![1, 256]⟩
abbrev S80x256 : Shape := ⟨2, ![80, 256]⟩
abbrev S1x1x256x64 : Shape := ⟨4, ![1, 1, 256, 64]⟩
abbrev S256x64 : Shape := ⟨2, ![256, 64]⟩
abbrev S256 : Shape := ⟨1, ![256]⟩
abbrev S1x1x1x80x256 : Shape := ⟨5, ![1, 1, 1, 80, 256]⟩

abbrev nBuf : Space → Nat
  | .hbm => 21
  | .vmem => 16
  | .smem => 0
  | _ => 0

abbrev bufTy : (tb : Table) → Fin (tcTables nBuf tb) → BufTy
  | .hbm, ⟨0, _⟩ => ⟨S8x33792x64, .f32⟩
  | .hbm, ⟨1, _⟩ => ⟨S2x33792x64, .bf16⟩
  | .hbm, ⟨2, _⟩ => ⟨S2x33792x64, .bf16⟩
  | .hbm, ⟨3, _⟩ => ⟨S2x32768x64, .bf16⟩
  | .hbm, ⟨4, _⟩ => ⟨S2x4x8192x64, .bf16⟩
  | .hbm, ⟨5, _⟩ => ⟨S2x1024x64, .bf16⟩
  | .hbm, ⟨6, _⟩ => ⟨S2x4x256x64, .bf16⟩
  | .hbm, ⟨7, _⟩ => ⟨S2x4x8448x64, .bf16⟩
  | .hbm, ⟨8, _⟩ => ⟨S2x32768x64, .bf16⟩
  | .hbm, ⟨9, _⟩ => ⟨S2x4x8192x64, .bf16⟩
  | .hbm, ⟨10, _⟩ => ⟨S2x1024x64, .bf16⟩
  | .hbm, ⟨11, _⟩ => ⟨S2x4x256x64, .bf16⟩
  | .hbm, ⟨12, _⟩ => ⟨S2x4x8448x64, .bf16⟩
  | .hbm, ⟨13, _⟩ => ⟨S2x4x64x8448, .bf16⟩
  | .hbm, ⟨14, _⟩ => ⟨S_, .bf16⟩
  | .hbm, ⟨15, _⟩ => ⟨S2x4x16x8448, .bf16⟩
  | .hbm, ⟨16, _⟩ => ⟨S2x4x80x8448, .bf16⟩
  | .hbm, ⟨17, _⟩ => ⟨S2x4x80x33x256, .bf16⟩
  | .hbm, ⟨18, _⟩ => ⟨S2x4x33x80x256, .bf16⟩
  | .hbm, ⟨19, _⟩ => ⟨S8x64x33792, .f32⟩
  | .hbm, ⟨20, _⟩ => ⟨S32768x512, .bf16⟩
  | .local _ .vmem, ⟨0, _⟩ => ⟨S4x64x256, .f32⟩
  | .local _ .vmem, ⟨1, _⟩ => ⟨S4x64x256, .f32⟩
  | .local _ .vmem, ⟨2, _⟩ => ⟨S1x1x8448x64, .bf16⟩
  | .local _ .vmem, ⟨3, _⟩ => ⟨S1x1x8448x64, .bf16⟩
  | .local _ .vmem, ⟨4, _⟩ => ⟨S1x1x33x80x256, .bf16⟩
  | .local _ .vmem, ⟨5, _⟩ => ⟨S1x1x33x80x256, .bf16⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S8x33792x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 32], ![false, false, false]⟩

def k0_mult1 : BitVec 32 :=
  let c0_i32 : BitVec 32 := 0#32
  let c32_i32 : BitVec 32 := 32#32
  let v28 : BitVec 32 := Scalar.minsi c0_i32 c32_i32
  let c256_i32 : BitVec 32 := 256#32
  let v29 : BitVec 32 := Scalar.muli v28 c256_i32
  v29
def k0_off1 : Fin 4 → Nat :=
  let c0_19 : Index := 0#32
  let c0_20 : Index := 0#32
  let c0_i32 : BitVec 32 := 0#32
  let c32_i32 : BitVec 32 := 32#32
  let v28 : BitVec 32 := Scalar.minsi c0_i32 c32_i32
  let c256_i32 : BitVec 32 := 256#32
  let v29 : BitVec 32 := Scalar.muli v28 c256_i32
  let v30 : BitVec 32 := v29
  let v31 : Index := Scalar.indexCast v30
  let c0_21 : Index := 0#32
  ![0, 0, v31.toNat, 0]
@[reducible] def k0_t1_loop : Scf.Loop 32 :=
  let c0_i32_38 : BitVec 32 := 0#32
  let c2_i32 : BitVec 32 := 2#32
  let v58 : BitVec 32 := Scalar.addi c0_i32_38 c2_i32
  let c1_i32 : BitVec 32 := 1#32
  ⟨c0_i32_38, v58, c1_i32⟩
def k0_mult2 (k0_t1 : Fin k0_t1_loop.trips) : BitVec 32 :=
  let c0_i32_60 : BitVec 32 := 0#32
  let c2_i32_59 : BitVec 32 := 2#32
  let c8_i32 : BitVec 32 := 8#32
  let c0_i32_38 : BitVec 32 := 0#32
  let c1_i32 : BitVec 32 := 1#32
  let arg15 : BitVec 32 := Scf.iv c0_i32_38 c1_i32 k0_t1
  let v133 : BitVec 32 := Scalar.muli c8_i32 arg15
  let c0_i32_58 : BitVec 32 := 0#32
  let v134 : BitVec 32 := Scalar.addi v133 c0_i32_58
  let v135 : BitVec 32 := Scalar.muli c2_i32_59 v134
  let v136 : BitVec 32 := Scalar.addi c0_i32_60 v135
  let c1_i32_61 : BitVec 32 := 1#32
  let v137 : BitVec 32 := Scalar.addi v136 c1_i32_61
  let c32_i32_62 : BitVec 32 := 32#32
  let v138 : BitVec 32 := Scalar.minsi v137 c32_i32_62
  let c256_i32_63 : BitVec 32 := 256#32
  let v139 : BitVec 32 := Scalar.muli v138 c256_i32_63
  v139
def k0_off2 (k0_t1 : Fin k0_t1_loop.trips) (c0_i32_58 : BitVec 32) (c1_i32_61 : BitVec 32) : Fin 4 → Nat :=
  let c0_64 : Index := 0#32
  let c0_65 : Index := 0#32
  let c0_i32_60 : BitVec 32 := 0#32
  let c2_i32_59 : BitVec 32 := 2#32
  let c8_i32 : BitVec 32 := 8#32
  let c0_i32_38 : BitVec 32 := 0#32
  let c1_i32 : BitVec 32 := 1#32
  let arg15 : BitVec 32 := Scf.iv c0_i32_38 c1_i32 k0_t1
  let v133 : BitVec 32 := Scalar.muli c8_i32 arg15
  let v134 : BitVec 32 := Scalar.addi v133 c0_i32_58
  let v135 : BitVec 32 := Scalar.muli c2_i32_59 v134
  let v136 : BitVec 32 := Scalar.addi c0_i32_60 v135
  let v137 : BitVec 32 := Scalar.addi v136 c1_i32_61
  let c32_i32_62 : BitVec 32 := 32#32
  let v138 : BitVec 32 := Scalar.minsi v137 c32_i32_62
  let c256_i32_63 : BitVec 32 := 256#32
  let v139 : BitVec 32 := Scalar.muli v138 c256_i32_63
  let v140 : BitVec 32 := v139
  let v141 : Index := Scalar.indexCast v140
  let c0_66 : Index := 0#32
  ![0, 0, v141.toNat, 0]
def k0_off3 (k0_t1 : Fin k0_t1_loop.trips) (c0_i32_58 : BitVec 32) : Fin 5 → Nat :=
  let c0_83 : Index := 0#32
  let c0_84 : Index := 0#32
  let c0_i32_60 : BitVec 32 := 0#32
  let c2_i32_59 : BitVec 32 := 2#32
  let c8_i32 : BitVec 32 := 8#32
  let c0_i32_38 : BitVec 32 := 0#32
  let c1_i32 : BitVec 32 := 1#32
  let arg15 : BitVec 32 := Scf.iv c0_i32_38 c1_i32 k0_t1
  let v133 : BitVec 32 := Scalar.muli c8_i32 arg15
  let v134 : BitVec 32 := Scalar.addi v133 c0_i32_58
  let v135 : BitVec 32 := Scalar.muli c2_i32_59 v134
  let v136 : BitVec 32 := Scalar.addi c0_i32_60 v135
  let v168 : Index := Scalar.indexCast v136
  let c0_85 : Index := 0#32
  let c0_86 : Index := 0#32
  ![0, 0, v168.toNat, 0, 0]
def k0_mult3 (k0_t1 : Fin k0_t1_loop.trips) : BitVec 32 :=
  let c0_i32_60 : BitVec 32 := 0#32
  let c2_i32_59 : BitVec 32 := 2#32
  let c8_i32 : BitVec 32 := 8#32
  let c0_i32_38 : BitVec 32 := 0#32
  let c1_i32 : BitVec 32 := 1#32
  let arg15 : BitVec 32 := Scf.iv c0_i32_38 c1_i32 k0_t1
  let v133 : BitVec 32 := Scalar.muli c8_i32 arg15
  let c0_i32_58 : BitVec 32 := 0#32
  let v134 : BitVec 32 := Scalar.addi v133 c0_i32_58
  let v135 : BitVec 32 := Scalar.muli c2_i32_59 v134
  let v136 : BitVec 32 := Scalar.addi c0_i32_60 v135
  let c2_i32_99 : BitVec 32 := 2#32
  let v219 : BitVec 32 := Scalar.addi v136 c2_i32_99
  let c32_i32_100 : BitVec 32 := 32#32
  let v220 : BitVec 32 := Scalar.minsi v219 c32_i32_100
  let c256_i32_101 : BitVec 32 := 256#32
  let v221 : BitVec 32 := Scalar.muli v220 c256_i32_101
  v221
def k0_off4 (k0_t1 : Fin k0_t1_loop.trips) (c0_i32_58 : BitVec 32) : Fin 5 → Nat :=
  let c0_122 : Index := 0#32
  let c0_123 : Index := 0#32
  let c0_i32_60 : BitVec 32 := 0#32
  let c2_i32_59 : BitVec 32 := 2#32
  let c8_i32 : BitVec 32 := 8#32
  let c0_i32_38 : BitVec 32 := 0#32
  let c1_i32 : BitVec 32 := 1#32
  let arg15 : BitVec 32 := Scf.iv c0_i32_38 c1_i32 k0_t1
  let v133 : BitVec 32 := Scalar.muli c8_i32 arg15
  let v134 : BitVec 32 := Scalar.addi v133 c0_i32_58
  let v135 : BitVec 32 := Scalar.muli c2_i32_59 v134
  let v136 : BitVec 32 := Scalar.addi c0_i32_60 v135
  let c1_i32_121 : BitVec 32 := 1#32
  let v250 : BitVec 32 := Scalar.addi v136 c1_i32_121
  let v251 : Index := Scalar.indexCast v250
  let c0_124 : Index := 0#32
  let c0_125 : Index := 0#32
  ![0, 0, v251.toNat, 0, 0]
def k0_mult4 (k0_t1 : Fin k0_t1_loop.trips) : BitVec 32 :=
  let c0_i32_141 : BitVec 32 := 0#32
  let c2_i32_140 : BitVec 32 := 2#32
  let c8_i32_138 : BitVec 32 := 8#32
  let c0_i32_38 : BitVec 32 := 0#32
  let c1_i32 : BitVec 32 := 1#32
  let arg15 : BitVec 32 := Scf.iv c0_i32_38 c1_i32 k0_t1
  let v302 : BitVec 32 := Scalar.muli c8_i32_138 arg15
  let c1_i32_139 : BitVec 32 := 1#32
  let v303 : BitVec 32 := Scalar.addi v302 c1_i32_139
  let v304 : BitVec 32 := Scalar.muli c2_i32_140 v303
  let v305 : BitVec 32 := Scalar.addi c0_i32_141 v304
  let c1_i32_142 : BitVec 32 := 1#32
  let v306 : BitVec 32 := Scalar.addi v305 c1_i32_142
  let c32_i32_143 : BitVec 32 := 32#32
  let v307 : BitVec 32 := Scalar.minsi v306 c32_i32_143
  let c256_i32_144 : BitVec 32 := 256#32
  let v308 : BitVec 32 := Scalar.muli v307 c256_i32_144
  v308
def k0_mult5 (k0_t1 : Fin k0_t1_loop.trips) : BitVec 32 :=
  let c0_i32_141 : BitVec 32 := 0#32
  let c2_i32_140 : BitVec 32 := 2#32
  let c8_i32_138 : BitVec 32 := 8#32
  let c0_i32_38 : BitVec 32 := 0#32
  let c1_i32 : BitVec 32 := 1#32
  let arg15 : BitVec 32 := Scf.iv c0_i32_38 c1_i32 k0_t1
  let v302 : BitVec 32 := Scalar.muli c8_i32_138 arg15
  let c1_i32_139 : BitVec 32 := 1#32
  let v303 : BitVec 32 := Scalar.addi v302 c1_i32_139
  let v304 : BitVec 32 := Scalar.muli c2_i32_140 v303
  let v305 : BitVec 32 := Scalar.addi c0_i32_141 v304
  let c2_i32_180 : BitVec 32 := 2#32
  let v388 : BitVec 32 := Scalar.addi v305 c2_i32_180
  let c32_i32_181 : BitVec 32 := 32#32
  let v389 : BitVec 32 := Scalar.minsi v388 c32_i32_181
  let c256_i32_182 : BitVec 32 := 256#32
  let v390 : BitVec 32 := Scalar.muli v389 c256_i32_182
  v390
def k0_mult6 (k0_t1 : Fin k0_t1_loop.trips) : BitVec 32 :=
  let c0_i32_222 : BitVec 32 := 0#32
  let c2_i32_221 : BitVec 32 := 2#32
  let c8_i32_219 : BitVec 32 := 8#32
  let c0_i32_38 : BitVec 32 := 0#32
  let c1_i32 : BitVec 32 := 1#32
  let arg15 : BitVec 32 := Scf.iv c0_i32_38 c1_i32 k0_t1
  let v471 : BitVec 32 := Scalar.muli c8_i32_219 arg15
  let c2_i32_220 : BitVec 32 := 2#32
  let v472 : BitVec 32 := Scalar.addi v471 c2_i32_220
  let v473 : BitVec 32 := Scalar.muli c2_i32_221 v472
  let v474 : BitVec 32 := Scalar.addi c0_i32_222 v473
  let c1_i32_223 : BitVec 32 := 1#32
  let v475 : BitVec 32 := Scalar.addi v474 c1_i32_223
  let c32_i32_224 : BitVec 32 := 32#32
  let v476 : BitVec 32 := Scalar.minsi v475 c32_i32_224
  let c256_i32_225 : BitVec 32 := 256#32
  let v477 : BitVec 32 := Scalar.muli v476 c256_i32_225
  v477
def k0_mult7 (k0_t1 : Fin k0_t1_loop.trips) : BitVec 32 :=
  let c0_i32_222 : BitVec 32 := 0#32
  let c2_i32_221 : BitVec 32 := 2#32
  let c8_i32_219 : BitVec 32 := 8#32
  let c0_i32_38 : BitVec 32 := 0#32
  let c1_i32 : BitVec 32 := 1#32
  let arg15 : BitVec 32 := Scf.iv c0_i32_38 c1_i32 k0_t1
  let v471 : BitVec 32 := Scalar.muli c8_i32_219 arg15
  let c2_i32_220 : BitVec 32 := 2#32
  let v472 : BitVec 32 := Scalar.addi v471 c2_i32_220
  let v473 : BitVec 32 := Scalar.muli c2_i32_221 v472
  let v474 : BitVec 32 := Scalar.addi c0_i32_222 v473
  let c2_i32_261 : BitVec 32 := 2#32
  let v557 : BitVec 32 := Scalar.addi v474 c2_i32_261
  let c32_i32_262 : BitVec 32 := 32#32
  let v558 : BitVec 32 := Scalar.minsi v557 c32_i32_262
  let c256_i32_263 : BitVec 32 := 256#32
  let v559 : BitVec 32 := Scalar.muli v558 c256_i32_263
  v559
def k0_mult8 (k0_t1 : Fin k0_t1_loop.trips) : BitVec 32 :=
  let c0_i32_302 : BitVec 32 := 0#32
  let c2_i32_301 : BitVec 32 := 2#32
  let c8_i32_300 : BitVec 32 := 8#32
  let c0_i32_38 : BitVec 32 := 0#32
  let c1_i32 : BitVec 32 := 1#32
  let arg15 : BitVec 32 := Scf.iv c0_i32_38 c1_i32 k0_t1
  let v640 : BitVec 32 := Scalar.muli c8_i32_300 arg15
  let c3_i32 : BitVec 32 := 3#32
  let v641 : BitVec 32 := Scalar.addi v640 c3_i32
  let v642 : BitVec 32 := Scalar.muli c2_i32_301 v641
  let v643 : BitVec 32 := Scalar.addi c0_i32_302 v642
  let c1_i32_303 : BitVec 32 := 1#32
  let v644 : BitVec 32 := Scalar.addi v643 c1_i32_303
  let c32_i32_304 : BitVec 32 := 32#32
  let v645 : BitVec 32 := Scalar.minsi v644 c32_i32_304
  let c256_i32_305 : BitVec 32 := 256#32
  let v646 : BitVec 32 := Scalar.muli v645 c256_i32_305
  v646
def k0_mult9 (k0_t1 : Fin k0_t1_loop.trips) : BitVec 32 :=
  let c0_i32_302 : BitVec 32 := 0#32
  let c2_i32_301 : BitVec 32 := 2#32
  let c8_i32_300 : BitVec 32 := 8#32
  let c0_i32_38 : BitVec 32 := 0#32
  let c1_i32 : BitVec 32 := 1#32
  let arg15 : BitVec 32 := Scf.iv c0_i32_38 c1_i32 k0_t1
  let v640 : BitVec 32 := Scalar.muli c8_i32_300 arg15
  let c3_i32 : BitVec 32 := 3#32
  let v641 : BitVec 32 := Scalar.addi v640 c3_i32
  let v642 : BitVec 32 := Scalar.muli c2_i32_301 v641
  let v643 : BitVec 32 := Scalar.addi c0_i32_302 v642
  let c2_i32_341 : BitVec 32 := 2#32
  let v726 : BitVec 32 := Scalar.addi v643 c2_i32_341
  let c32_i32_342 : BitVec 32 := 32#32
  let v727 : BitVec 32 := Scalar.minsi v726 c32_i32_342
  let c256_i32_343 : BitVec 32 := 256#32
  let v728 : BitVec 32 := Scalar.muli v727 c256_i32_343
  v728
def k0_mult10 (k0_t1 : Fin k0_t1_loop.trips) : BitVec 32 :=
  let c0_i32_382 : BitVec 32 := 0#32
  let c2_i32_381 : BitVec 32 := 2#32
  let c8_i32_380 : BitVec 32 := 8#32
  let c0_i32_38 : BitVec 32 := 0#32
  let c1_i32 : BitVec 32 := 1#32
  let arg15 : BitVec 32 := Scf.iv c0_i32_38 c1_i32 k0_t1
  let v809 : BitVec 32 := Scalar.muli c8_i32_380 arg15
  let c4_i32 : BitVec 32 := 4#32
  let v810 : BitVec 32 := Scalar.addi v809 c4_i32
  let v811 : BitVec 32 := Scalar.muli c2_i32_381 v810
  let v812 : BitVec 32 := Scalar.addi c0_i32_382 v811
  let c1_i32_383 : BitVec 32 := 1#32
  let v813 : BitVec 32 := Scalar.addi v812 c1_i32_383
  let c32_i32_384 : BitVec 32 := 32#32
  let v814 : BitVec 32 := Scalar.minsi v813 c32_i32_384
  let c256_i32_385 : BitVec 32 := 256#32
  let v815 : BitVec 32 := Scalar.muli v814 c256_i32_385
  v815
def k0_mult11 (k0_t1 : Fin k0_t1_loop.trips) : BitVec 32 :=
  let c0_i32_382 : BitVec 32 := 0#32
  let c2_i32_381 : BitVec 32 := 2#32
  let c8_i32_380 : BitVec 32 := 8#32
  let c0_i32_38 : BitVec 32 := 0#32
  let c1_i32 : BitVec 32 := 1#32
  let arg15 : BitVec 32 := Scf.iv c0_i32_38 c1_i32 k0_t1
  let v809 : BitVec 32 := Scalar.muli c8_i32_380 arg15
  let c4_i32 : BitVec 32 := 4#32
  let v810 : BitVec 32 := Scalar.addi v809 c4_i32
  let v811 : BitVec 32 := Scalar.muli c2_i32_381 v810
  let v812 : BitVec 32 := Scalar.addi c0_i32_382 v811
  let c2_i32_421 : BitVec 32 := 2#32
  let v895 : BitVec 32 := Scalar.addi v812 c2_i32_421
  let c32_i32_422 : BitVec 32 := 32#32
  let v896 : BitVec 32 := Scalar.minsi v895 c32_i32_422
  let c256_i32_423 : BitVec 32 := 256#32
  let v897 : BitVec 32 := Scalar.muli v896 c256_i32_423
  v897
def k0_mult12 (k0_t1 : Fin k0_t1_loop.trips) : BitVec 32 :=
  let c0_i32_462 : BitVec 32 := 0#32
  let c2_i32_461 : BitVec 32 := 2#32
  let c8_i32_460 : BitVec 32 := 8#32
  let c0_i32_38 : BitVec 32 := 0#32
  let c1_i32 : BitVec 32 := 1#32
  let arg15 : BitVec 32 := Scf.iv c0_i32_38 c1_i32 k0_t1
  let v978 : BitVec 32 := Scalar.muli c8_i32_460 arg15
  let c5_i32 : BitVec 32 := 5#32
  let v979 : BitVec 32 := Scalar.addi v978 c5_i32
  let v980 : BitVec 32 := Scalar.muli c2_i32_461 v979
  let v981 : BitVec 32 := Scalar.addi c0_i32_462 v980
  let c1_i32_463 : BitVec 32 := 1#32
  let v982 : BitVec 32 := Scalar.addi v981 c1_i32_463
  let c32_i32_464 : BitVec 32 := 32#32
  let v983 : BitVec 32 := Scalar.minsi v982 c32_i32_464
  let c256_i32_465 : BitVec 32 := 256#32
  let v984 : BitVec 32 := Scalar.muli v983 c256_i32_465
  v984
def k0_mult13 (k0_t1 : Fin k0_t1_loop.trips) : BitVec 32 :=
  let c0_i32_462 : BitVec 32 := 0#32
  let c2_i32_461 : BitVec 32 := 2#32
  let c8_i32_460 : BitVec 32 := 8#32
  let c0_i32_38 : BitVec 32 := 0#32
  let c1_i32 : BitVec 32 := 1#32
  let arg15 : BitVec 32 := Scf.iv c0_i32_38 c1_i32 k0_t1
  let v978 : BitVec 32 := Scalar.muli c8_i32_460 arg15
  let c5_i32 : BitVec 32 := 5#32
  let v979 : BitVec 32 := Scalar.addi v978 c5_i32
  let v980 : BitVec 32 := Scalar.muli c2_i32_461 v979
  let v981 : BitVec 32 := Scalar.addi c0_i32_462 v980
  let c2_i32_501 : BitVec 32 := 2#32
  let v1064 : BitVec 32 := Scalar.addi v981 c2_i32_501
  let c32_i32_502 : BitVec 32 := 32#32
  let v1065 : BitVec 32 := Scalar.minsi v1064 c32_i32_502
  let c256_i32_503 : BitVec 32 := 256#32
  let v1066 : BitVec 32 := Scalar.muli v1065 c256_i32_503
  v1066
def k0_mult14 (k0_t1 : Fin k0_t1_loop.trips) : BitVec 32 :=
  let c0_i32_542 : BitVec 32 := 0#32
  let c2_i32_541 : BitVec 32 := 2#32
  let c8_i32_540 : BitVec 32 := 8#32
  let c0_i32_38 : BitVec 32 := 0#32
  let c1_i32 : BitVec 32 := 1#32
  let arg15 : BitVec 32 := Scf.iv c0_i32_38 c1_i32 k0_t1
  let v1147 : BitVec 32 := Scalar.muli c8_i32_540 arg15
  let c6_i32 : BitVec 32 := 6#32
  let v1148 : BitVec 32 := Scalar.addi v1147 c6_i32
  let v1149 : BitVec 32 := Scalar.muli c2_i32_541 v1148
  let v1150 : BitVec 32 := Scalar.addi c0_i32_542 v1149
  let c1_i32_543 : BitVec 32 := 1#32
  let v1151 : BitVec 32 := Scalar.addi v1150 c1_i32_543
  let c32_i32_544 : BitVec 32 := 32#32
  let v1152 : BitVec 32 := Scalar.minsi v1151 c32_i32_544
  let c256_i32_545 : BitVec 32 := 256#32
  let v1153 : BitVec 32 := Scalar.muli v1152 c256_i32_545
  v1153
def k0_mult15 (k0_t1 : Fin k0_t1_loop.trips) : BitVec 32 :=
  let c0_i32_542 : BitVec 32 := 0#32
  let c2_i32_541 : BitVec 32 := 2#32
  let c8_i32_540 : BitVec 32 := 8#32
  let c0_i32_38 : BitVec 32 := 0#32
  let c1_i32 : BitVec 32 := 1#32
  let arg15 : BitVec 32 := Scf.iv c0_i32_38 c1_i32 k0_t1
  let v1147 : BitVec 32 := Scalar.muli c8_i32_540 arg15
  let c6_i32 : BitVec 32 := 6#32
  let v1148 : BitVec 32 := Scalar.addi v1147 c6_i32
  let v1149 : BitVec 32 := Scalar.muli c2_i32_541 v1148
  let v1150 : BitVec 32 := Scalar.addi c0_i32_542 v1149
  let c2_i32_581 : BitVec 32 := 2#32
  let v1233 : BitVec 32 := Scalar.addi v1150 c2_i32_581
  let c32_i32_582 : BitVec 32 := 32#32
  let v1234 : BitVec 32 := Scalar.minsi v1233 c32_i32_582
  let c256_i32_583 : BitVec 32 := 256#32
  let v1235 : BitVec 32 := Scalar.muli v1234 c256_i32_583
  v1235
def k0_mult16 (k0_t1 : Fin k0_t1_loop.trips) : BitVec 32 :=
  let c0_i32_622 : BitVec 32 := 0#32
  let c2_i32_621 : BitVec 32 := 2#32
  let c8_i32_620 : BitVec 32 := 8#32
  let c0_i32_38 : BitVec 32 := 0#32
  let c1_i32 : BitVec 32 := 1#32
  let arg15 : BitVec 32 := Scf.iv c0_i32_38 c1_i32 k0_t1
  let v1316 : BitVec 32 := Scalar.muli c8_i32_620 arg15
  let c7_i32 : BitVec 32 := 7#32
  let v1317 : BitVec 32 := Scalar.addi v1316 c7_i32
  let v1318 : BitVec 32 := Scalar.muli c2_i32_621 v1317
  let v1319 : BitVec 32 := Scalar.addi c0_i32_622 v1318
  let c1_i32_623 : BitVec 32 := 1#32
  let v1320 : BitVec 32 := Scalar.addi v1319 c1_i32_623
  let c32_i32_624 : BitVec 32 := 32#32
  let v1321 : BitVec 32 := Scalar.minsi v1320 c32_i32_624
  let c256_i32_625 : BitVec 32 := 256#32
  let v1322 : BitVec 32 := Scalar.muli v1321 c256_i32_625
  v1322
def k0_mult17 (k0_t1 : Fin k0_t1_loop.trips) : BitVec 32 :=
  let c0_i32_622 : BitVec 32 := 0#32
  let c2_i32_621 : BitVec 32 := 2#32
  let c8_i32_620 : BitVec 32 := 8#32
  let c0_i32_38 : BitVec 32 := 0#32
  let c1_i32 : BitVec 32 := 1#32
  let arg15 : BitVec 32 := Scf.iv c0_i32_38 c1_i32 k0_t1
  let v1316 : BitVec 32 := Scalar.muli c8_i32_620 arg15
  let c7_i32 : BitVec 32 := 7#32
  let v1317 : BitVec 32 := Scalar.addi v1316 c7_i32
  let v1318 : BitVec 32 := Scalar.muli c2_i32_621 v1317
  let v1319 : BitVec 32 := Scalar.addi c0_i32_622 v1318
  let c2_i32_661 : BitVec 32 := 2#32
  let v1402 : BitVec 32 := Scalar.addi v1319 c2_i32_661
  let c32_i32_662 : BitVec 32 := 32#32
  let v1403 : BitVec 32 := Scalar.minsi v1402 c32_i32_662
  let c256_i32_663 : BitVec 32 := 256#32
  let v1404 : BitVec 32 := Scalar.muli v1403 c256_i32_663
  v1404
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![arg1.toNat, c0_i32_0.toNat, v2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S4x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x33x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | "scale" => some (((1 / 8) * (Real.log 2)⁻¹ : ℝ) : EReal)
  | _ => none
-- ==== ReferenceIdeal.lean ====
abbrev S8x33792x64 : Shape := ⟨3, ![8, 33792, 64]⟩
abbrev S2x33792x64 : Shape := ⟨3, ![2, 33792, 64]⟩
abbrev S8x32768x64 : Shape := ⟨3, ![8, 32768, 64]⟩
abbrev S2x4x4x8192x64 : Shape := ⟨5, ![2, 4, 4, 8192, 64]⟩
abbrev S2x32768x64 : Shape := ⟨3, ![2, 32768, 64]⟩
abbrev S2x4x8192x64 : Shape := ⟨4, ![2, 4, 8192, 64]⟩
abbrev S2x1024x64 : Shape := ⟨3, ![2, 1024, 64]⟩
abbrev S2x4x256x64 : Shape := ⟨4, ![2, 4, 256, 64]⟩
abbrev S2x4x8448x64 : Shape := ⟨4, ![2, 4, 8448, 64]⟩
abbrev S2x4x4x8192x8448 : Shape := ⟨5, ![2, 4, 4, 8192, 8448]⟩
abbrev S_ : Shape := ⟨0, ![]⟩
abbrev S2x4x4x8192 : Shape := ⟨4, ![2, 4, 4, 8192]⟩
abbrev S2x4x4x8192x1 : Shape := ⟨5, ![2, 4, 4, 8192, 1]⟩
abbrev S4x2x64x4x8192 : Shape := ⟨5, ![4, 2, 64, 4, 8192]⟩
abbrev S4x8192x2x4x64 : Shape := ⟨5, ![4, 8192, 2, 4, 64]⟩
abbrev S32768x512 : Shape := ⟨2, ![32768, 512]⟩

abbrev nBuf : Space → Nat
  | .hbm => 39
  | .vmem => 0
  | .smem => 0
  | _ => 0

abbrev bufTy : (tb : Table) → Fin (tcTables nBuf tb) → BufTy
  | .hbm, ⟨0, _⟩ => ⟨S8x33792x64, .f32⟩
  | .hbm, ⟨1, _⟩ => ⟨S2x33792x64, .bf16⟩
  | .hbm, ⟨2, _⟩ => ⟨S2x33792x64, .bf16⟩
  | .hbm, ⟨3, _⟩ => ⟨S8x32768x64, .f32⟩
  | .hbm, ⟨4, _⟩ => ⟨S2x4x4x8192x64, .f32⟩
  | .hbm, ⟨5, _⟩ => ⟨S2x33792x64, .f32⟩
  | .hbm, ⟨6, _⟩ => ⟨S2x32768x64, .f32⟩
  | .hbm, ⟨7, _⟩ => ⟨S2x4x8192x64, .f32⟩
  | .hbm, ⟨8, _⟩ => ⟨S2x1024x64, .f32⟩
  | .hbm, ⟨9, _⟩ => ⟨S2x4x256x64, .f32⟩
  | .hbm, ⟨10, _⟩ => ⟨S2x4x8448x64, .f32⟩
  | .hbm, ⟨11, _⟩ => ⟨S2x33792x64, .f32⟩
  | .hbm, ⟨12, _⟩ => ⟨S2x32768x64, .f32⟩
  | .hbm, ⟨13, _⟩ => ⟨S2x4x8192x64, .f32⟩
  | .hbm, ⟨14, _⟩ => ⟨S2x1024x64, .f32⟩
  | .hbm, ⟨15, _⟩ => ⟨S2x4x256x64, .f32⟩
  | .hbm, ⟨16, _⟩ => ⟨S2x4x8448x64, .f32⟩
  | .hbm, ⟨17, _⟩ => ⟨S2x4x4x8192x8448, .f32⟩
  | .hbm, ⟨18, _⟩ => ⟨S_, .f32⟩
  | .hbm, ⟨19, _⟩ => ⟨S2x4x4x8192x8448, .f32⟩
  | .hbm, ⟨20, _⟩ => ⟨S2x4x4x8192x8448, .f32⟩
  | .hbm, ⟨21, _⟩ => ⟨S_, .f32⟩
  | .hbm, ⟨22, _⟩ => ⟨S2x4x4x8192, .f32⟩
  | .hbm, ⟨23, _⟩ => ⟨S_, .f32⟩
  | .hbm, ⟨24, _⟩ => ⟨S2x4x4x8192, .f32⟩
  | .hbm, ⟨25, _⟩ => ⟨S2x4x4x8192, .f32⟩
  | .hbm, ⟨26, _⟩ => ⟨S2x4x4x8192x1, .f32⟩
  | .hbm, ⟨27, _⟩ => ⟨S2x4x4x8192x8448, .f32⟩
  | .hbm, ⟨28, _⟩ => ⟨S2x4x4x8192x8448, .f32⟩
  | .hbm, ⟨29, _⟩ => ⟨S2x4x4x8192x8448, .f32⟩
  | .hbm, ⟨30, _⟩ => ⟨S_, .f32⟩
  | .hbm, ⟨31, _⟩ => ⟨S2x4x4x8192, .f32⟩
  | .hbm, ⟨32, _⟩ => ⟨S2x4x4x8192x1, .f32⟩
  | .hbm, ⟨33, _⟩ => ⟨S2x4x4x8192x8448, .f32⟩
  | .hbm, ⟨34, _⟩ => ⟨S2x4x4x8192x8448, .f32⟩
  | .hbm, ⟨35, _⟩ => ⟨S4x2x64x4x8192, .f32⟩
  | .hbm, ⟨36, _⟩ => ⟨S4x8192x2x4x64, .f32⟩
  | .hbm, ⟨37, _⟩ => ⟨S32768x512, .f32⟩
  | .hbm, ⟨38, _⟩ => ⟨S32768x512, .bf16⟩
  | _, _ => ⟨S8x33792x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Inproj.lean ====
abbrev S33792x1024 : Shape := ⟨2, ![33792, 1024]⟩
abbrev S1024 : Shape := ⟨1, ![1024]⟩
abbrev S8x1024 : Shape := ⟨2, ![8, 1024]⟩
abbrev S1024x3840 : Shape := ⟨2, ![1024, 3840]⟩
abbrev S64 : Shape := ⟨1, ![64]⟩
abbrev S128 : Shape := ⟨1, ![128]⟩
abbrev S128x128 : Shape := ⟨2, ![128, 128]⟩
abbrev S8x1x1024 : Shape := ⟨3, ![8, 1, 1024]⟩
abbrev S8192 : Shape := ⟨1, ![8192]⟩
abbrev S_ : Shape := ⟨0, ![]⟩
abbrev S16 : Shape := ⟨1, ![16]⟩
abbrev S1x128 : Shape := ⟨2, ![1, 128]⟩
abbrev S8192x1 : Shape := ⟨2, ![8192, 1]⟩
abbrev S8192x128 : Shape := ⟨2, ![8192, 128]⟩
abbrev S128x1 : Shape := ⟨2, ![128, 1]⟩
abbrev S512x128 : Shape := ⟨2, ![512, 128]⟩
abbrev S8704x128 : Shape := ⟨2, ![8704, 128]⟩
abbrev S1x64 : Shape := ⟨2, ![1, 64]⟩
abbrev S2x64 : Shape := ⟨2, ![2, 64]⟩
abbrev S1x1024 : Shape := ⟨2, ![1, 1024]⟩
abbrev S33792x512 : Shape := ⟨2, ![33792, 512]⟩
abbrev S33792x2048 : Shape := ⟨2, ![33792, 2048]⟩
abbrev S8x33792x64 : Shape := ⟨3, ![8, 33792, 64]⟩
abbrev S2x33792x64 : Shape := ⟨3, ![2, 33792, 64]⟩
abbrev S512x1024 : Shape := ⟨2, ![512, 1024]⟩
abbrev S1x1x1024 : Shape := ⟨3, ![1, 1, 1024]⟩
abbrev S512x512 : Shape := ⟨2, ![512, 512]⟩
abbrev S512x2048 : Shape := ⟨2, ![512, 2048]⟩
abbrev S8x512x64 : Shape := ⟨3, ![8, 512, 64]⟩
abbrev S2x512x64 : Shape := ⟨3, ![2, 512, 64]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1024x512 : Shape := ⟨2, ![1024, 512]⟩
abbrev S512x64 : Shape := ⟨2, ![512, 64]⟩
abbrev S1x512x64 : Shape := ⟨3, ![1, 512, 64]⟩

abbrev nBuf : Space → Nat
  | .hbm => 125
  | .vmem => 29
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x3840, .f32⟩
  | .hbm, ⟨5, _⟩ => ⟨S64, .f32⟩
  | .hbm, ⟨6, _⟩ => ⟨S64, .f32⟩
  | .hbm, ⟨7, _⟩ => ⟨S128, .i32⟩
  | .hbm, ⟨8, _⟩ => ⟨S128, .i32⟩
  | .hbm, ⟨9, _⟩ => ⟨S128, .i1⟩
  | .hbm, ⟨10, _⟩ => ⟨S128x128, .f32⟩
  | .hbm, ⟨11, _⟩ => ⟨S8x1x1024, .f32⟩
  | .hbm, ⟨12, _⟩ => ⟨S8x1x1024, .f32⟩
  | .hbm, ⟨13, _⟩ => ⟨S1024x3840, .bf16⟩
  | .hbm, ⟨14, _⟩ => ⟨S8192, .i32⟩
  | .hbm, ⟨15, _⟩ => ⟨S_, .i32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S_, .i32⟩
  | .hbm, ⟨49, _⟩ => ⟨S_, .i1⟩
  | .hbm, ⟨50, _⟩ => ⟨S8192, .i1⟩
  | .hbm, ⟨51, _⟩ => ⟨S8192, .i1⟩
  | .hbm, ⟨52, _⟩ => ⟨S8192, .i1⟩
  | .hbm, ⟨53, _⟩ => ⟨S8192, .i32⟩
  | .hbm, ⟨54, _⟩ => ⟨S8192, .i32⟩
  | .hbm, ⟨55, _⟩ => ⟨S8192, .i32⟩
  | .hbm, ⟨56, _⟩ => ⟨S8192, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S1x128, .i32⟩
  | .hbm, ⟨66, _⟩ => ⟨S_, .i32⟩
  | .hbm, ⟨67, _⟩ => ⟨S1x128, .i32⟩
  | .hbm, ⟨68, _⟩ => ⟨S1x128, .i1⟩
  | .hbm, ⟨69, _⟩ => ⟨S8192x1, .f32⟩
  | .hbm, ⟨70, _⟩ => ⟨S8192x1, .f32⟩
  | .hbm, ⟨71, _⟩ => ⟨S8192x128, .i1⟩
  | .hbm, ⟨72, _⟩ => ⟨S8192x128, .f32⟩
  | .hbm, ⟨73, _⟩ => ⟨S8192x128, .f32⟩
  | .hbm, ⟨74, _⟩ => ⟨S8192x128, .f32⟩
  | .hbm, ⟨75, _⟩ => ⟨S_, .i32⟩
  | .hbm, ⟨76, _⟩ => ⟨S128, .i32⟩
  | .hbm, ⟨77, _⟩ => ⟨S128, .i1⟩
  | .hbm, ⟨78, _⟩ => ⟨S_, .i32⟩
  | .hbm, ⟨79, _⟩ => ⟨S128, .i32⟩
  | .hbm, ⟨80, _⟩ => ⟨S128, .i32⟩
  | .hbm, ⟨81, _⟩ => ⟨S128, .i32⟩
  | .hbm, ⟨82, _⟩ => ⟨S128x1, .i32⟩
  | .hbm, ⟨83, _⟩ => ⟨S128, .f32⟩
  | .hbm, ⟨84, _⟩ => ⟨S1x128, .f32⟩
  | .hbm, ⟨85, _⟩ => ⟨S8192x128, .f32⟩
  | .hbm, ⟨86, _⟩ => ⟨S8192x128, .f32⟩
  | .hbm, ⟨87, _⟩ => ⟨S8192x128, .f32⟩
  | .hbm, ⟨88, _⟩ => ⟨S8192x128, .f32⟩
  | .hbm, ⟨89, _⟩ => ⟨S1x128, .i1⟩
  | .hbm, ⟨90, _⟩ => ⟨S8192x128, .f32⟩
  | .hbm, ⟨91, _⟩ => ⟨S_, .f32⟩
  | .hbm, ⟨92, _⟩ => ⟨S_, .f32⟩
  | .hbm, ⟨93, _⟩ => ⟨S8192x128, .i1⟩
  | .hbm, ⟨94, _⟩ => ⟨S8192x128, .f32⟩
  | .hbm, ⟨95, _⟩ => ⟨S8192x128, .f32⟩
  | .hbm, ⟨96, _⟩ => ⟨S1x128, .i1⟩
  | .hbm, ⟨97, _⟩ => ⟨S_, .f32⟩
  | .hbm, ⟨98, _⟩ => ⟨S_, .f32⟩
  | .hbm, ⟨99, _⟩ => ⟨S8192x128, .i1⟩
  | .hbm, ⟨100, _⟩ => ⟨S8192x128, .f32⟩
  | .hbm, ⟨101, _⟩ => ⟨S8192x128, .f32⟩
  | .hbm, ⟨102, _⟩ => ⟨S_, .f32⟩
  | .hbm, ⟨103, _⟩ => ⟨S512x128, .f32⟩
  | .hbm, ⟨104, _⟩ => ⟨S_, .f32⟩
  | .hbm, ⟨105, _⟩ => ⟨S512x128, .f32⟩
  | .hbm, ⟨106, _⟩ => ⟨S8704x128, .f32⟩
  | .hbm, ⟨107, _⟩ => ⟨S8704x128, .f32⟩
  | .hbm, ⟨108, _⟩ => ⟨S8704x128, .f32⟩
  | .hbm, ⟨109, _⟩ => ⟨S128x128, .bf16⟩
  | .hbm, ⟨110, _⟩ => ⟨S1x64, .f32⟩
  | .hbm, ⟨111, _⟩ => ⟨S2x64, .f32⟩
  | .hbm, ⟨112, _⟩ => ⟨S128, .f32⟩
  | .hbm, ⟨113, _⟩ => ⟨S1x128, .f32⟩
  | .hbm, ⟨114, _⟩ => ⟨S1x64, .f32⟩
  | .hbm, ⟨115, _⟩ => ⟨S2x64, .f32⟩
  | .hbm, ⟨116, _⟩ => ⟨S128, .f32⟩
  | .hbm, ⟨117, _⟩ => ⟨S1x128, .f32⟩
  | .hbm, ⟨118, _⟩ => ⟨S1x1024, .f32⟩
  | .hbm, ⟨119, _⟩ => ⟨S33792x512, .bf16⟩
  | .hbm, ⟨120, _⟩ => ⟨S33792x512, .bf16⟩
  | .hbm, ⟨121, _⟩ => ⟨S33792x2048, .bf16⟩
  | .hbm, ⟨122, _⟩ => ⟨S8x33792x64, .f32⟩
  | .hbm, ⟨123, _⟩ => ⟨S2x33792x64, .bf16⟩
  | .hbm, ⟨124, _⟩ => ⟨S2x33792x64, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3840, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x128, .f32⟩
  | .local _ .vmem, ⟨15, _⟩ => ⟨S1x128, .f32⟩
  | .local _ .vmem, ⟨16, _⟩ => ⟨S128x128, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x2048, .bf16⟩
  | .local _ .vmem, ⟨22, _⟩ => ⟨S512x2048, .bf16⟩
  | .local _ .vmem, ⟨23, _⟩ => ⟨S8x512x64, .f32⟩
  | .local _ .vmem, ⟨24, _⟩ => ⟨S8x512x64, .f32⟩
  | .local _ .vmem, ⟨25, _⟩ => ⟨S2x512x64, .bf16⟩
  | .local _ .vmem, ⟨26, _⟩ => ⟨S2x512x64, .bf16⟩
  | .local _ .vmem, ⟨27, _⟩ => ⟨S2x512x64, .bf16⟩
  | .local _ .vmem, ⟨28, _⟩ => ⟨S2x512x64, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v4 : Ref sig .tc := ⟨.hbm, 32, rfl⟩
abbrev main_v5 : Ref sig .tc := ⟨.hbm, 33, rfl⟩
abbrev main_c_3 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_cst_4 : Ref sig .tc := ⟨.hbm, 59, rfl⟩
abbrev main_v10 : Ref sig .tc := ⟨.hbm, 60, rfl⟩
abbrev main_v11 : Ref sig .tc := ⟨.hbm, 61, rfl⟩
abbrev main_cst_5 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_c_6 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v19 : Ref sig .tc := ⟨.hbm, 74, rfl⟩
abbrev main_c_7 : Ref sig .tc := ⟨.hbm, 75, rfl⟩
abbrev main_v20 : Ref sig .tc := ⟨.hbm, 76, rfl⟩
abbrev main_v21 : Ref sig .tc := ⟨.hbm, 77, rfl⟩
abbrev main_c_8 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_cst_9 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v34 : Ref sig .tc := ⟨.hbm, 95, rfl⟩
abbrev main_v35 : Ref sig .tc := ⟨.hbm, 96, rfl⟩
abbrev main_cst_10 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v36 : Ref sig .tc := ⟨.hbm, 101, rfl⟩
abbrev main_cst_11 : Ref sig .tc := ⟨.hbm, 102, rfl⟩
abbrev main_v37 : Ref sig .tc := ⟨.hbm, 103, rfl⟩
abbrev main_cst_12 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52_0 : Ref sig .tc := ⟨.hbm, 119, rfl⟩
abbrev main_v52_1 : Ref sig .tc := ⟨.hbm, 120, rfl⟩
abbrev main_v52_2 : Ref sig .tc := ⟨.hbm, 121, rfl⟩
abbrev main_v52_3 : Ref sig .tc := ⟨.hbm, 122, rfl⟩
abbrev main_v52_4 : Ref sig .tc := ⟨.hbm, 123, rfl⟩
abbrev main_v52_5 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c512_i32 : BitVec 32 := 512#32
  let v0 : BitVec 32 := Scalar.muli arg0 c512_i32
  let c32768_i32 : BitVec 32 := 32768#32
  let v1 : BitVec 1 := Scalar.cmpi .slt v0 c32768_i32
  let c8192_i32 : BitVec 32 := 8192#32
  let c0_i32 : BitVec 32 := 0#32
  let v2 : BitVec 1 := Scalar.cmpi .eq c8192_i32 c0_i32
  let c1_i32 : BitVec 32 := 1#32
  let v3 : BitVec 32 := Scalar.select v2 c1_i32 c8192_i32
  let v4 : BitVec 32 := Scalar.remsi v0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c512_i32_3 : BitVec 32 := 512#32
  let v12 : BitVec 32 := Scalar.divsi v11 c512_i32_3
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c0_i32_6 : BitVec 32 := 0#32
  let v18 : BitVec 1 := Scalar.cmpi .sgt c512_i32_3 c0_i32_6
  let v19 : BitVec 32 := Scalar.extui v18
  let c0_i32_7 : BitVec 32 := 0#32
  let v20 : BitVec 1 := Scalar.cmpi .slt c512_i32_3 c0_i32_7
  let v21 : BitVec 32 := Scalar.extui v20
  let v22 : BitVec 32 := Scalar.subi v19 v21
  let v23 : BitVec 1 := Scalar.cmpi .ne v17 v22
  let v24 : BitVec 32 := Scalar.remsi v11 c512_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let c16_i32 : BitVec 32 := 16#32
  let v29 : BitVec 32 := Scalar.select v1 v28 c16_i32
  let c0_i32_10 : BitVec 32 := 0#32
  let c0_i32_11 : BitVec 32 := 0#32
  ![v29.toNat, c0_i32_10.toNat]

def cc0_transform_6 (i : grid0.Coords) : Fin 2 → Nat :=
  let arg0 : BitVec 32 := BitVec.ofNat 32 (i 0).val
  let c512_i32 : BitVec 32 := 512#32
  let v0 : BitVec 32 := Scalar.muli arg0 c512_i32
  let c32768_i32 : BitVec 32 := 32768#32
  let v1 : BitVec 1 := Scalar.cmpi .slt v0 c32768_i32
  let c8192_i32 : BitVec 32 := 8192#32
  let c0_i32 : BitVec 32 := 0#32
  let v2 : BitVec 1 := Scalar.cmpi .eq c8192_i32 c0_i32
  let c1_i32 : BitVec 32 := 1#32
  let v3 : BitVec 32 := Scalar.select v2 c1_i32 c8192_i32
  let v4 : BitVec 32 := Scalar.remsi v0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c512_i32_3 : BitVec 32 := 512#32
  let v12 : BitVec 32 := Scalar.divsi v11 c512_i32_3
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c0_i32_6 : BitVec 32 := 0#32
  let v18 : BitVec 1 := Scalar.cmpi .sgt c512_i32_3 c0_i32_6
  let v19 : BitVec 32 := Scalar.extui v18
  let c0_i32_7 : BitVec 32 := 0#32
  let v20 : BitVec 1 := Scalar.cmpi .slt c512_i32_3 c0_i32_7
  let v21 : BitVec 32 := Scalar.extui v20
  let v22 : BitVec 32 := Scalar.subi v19 v21
  let v23 : BitVec 1 := Scalar.cmpi .ne v17 v22
  let v24 : BitVec 32 := Scalar.remsi v11 c512_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let c16_i32 : BitVec 32 := 16#32
  let v29 : BitVec 32 := Scalar.select v1 v28 c16_i32
  let c0_i32_10 : BitVec 32 := 0#32
  let c0_i32_11 : BitVec 32 := 0#32
  ![v29.toNat, c0_i32_10.toNat]

def cc0_transform_7 (i : grid0.Coords) : Fin 2 → Nat :=
  let arg0 : BitVec 32 := BitVec.ofNat 32 (i 0).val
  let c512_i32 : BitVec 32 := 512#32
  let v0 : BitVec 32 := Scalar.muli arg0 c512_i32
  let c32768_i32 : BitVec 32 := 32768#32
  let v1 : BitVec 1 := Scalar.cmpi .slt v0 c32768_i32
  let c8192_i32 : BitVec 32 := 8192#32
  let c0_i32 : BitVec 32 := 0#32
  let v2 : BitVec 1 := Scalar.cmpi .eq c8192_i32 c0_i32
  let c1_i32 : BitVec 32 := 1#32
  let v3 : BitVec 32 := Scalar.select v2 c1_i32 c8192_i32
  let v4 : BitVec 32 := Scalar.remsi v0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c512_i32_3 : BitVec 32 := 512#32
  let v12 : BitVec 32 := Scalar.divsi v11 c512_i32_3
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c0_i32_6 : BitVec 32 := 0#32
  let v18 : BitVec 1 := Scalar.cmpi .sgt c512_i32_3 c0_i32_6
  let v19 : BitVec 32 := Scalar.extui v18
  let c0_i32_7 : BitVec 32 := 0#32
  let v20 : BitVec 1 := Scalar.cmpi .slt c512_i32_3 c0_i32_7
  let v21 : BitVec 32 := Scalar.extui v20
  let v22 : BitVec 32 := Scalar.subi v19 v21
  let v23 : BitVec 1 := Scalar.cmpi .ne v17 v22
  let v24 : BitVec 32 := Scalar.remsi v11 c512_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let c16_i32 : BitVec 32 := 16#32
  let v29 : BitVec 32 := Scalar.select v1 v28 c16_i32
  let c0_i32_10 : BitVec 32 := 0#32
  let c0_i32_11 : BitVec 32 := 0#32
  ![v29.toNat, c0_i32_10.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3840 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InprojReferenceIdeal.lean ====
abbrev S33792x1024 : Shape := ⟨2, ![33792, 1024]⟩
abbrev S1024 : Shape := ⟨1, ![1024]⟩
abbrev S8x1024 : Shape := ⟨2, ![8, 1024]⟩
abbrev S1024x3840 : Shape := ⟨2, ![1024, 3840]⟩
abbrev S64 : Shape := ⟨1, ![64]⟩
abbrev S128 : Shape := ⟨1, ![128]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x2x16 : Shape := ⟨3, ![8192, 2, 16]⟩
abbrev S32768x1024 : Shape := ⟨2, ![32768, 1024]⟩
abbrev S4x8192x1024 : Shape := ⟨3, ![4, 8192, 1024]⟩
abbrev S4x1024 : Shape := ⟨2, ![4, 1024]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3840 : Shape := ⟨3, ![4, 8192, 3840]⟩
abbrev S4x8192x512 : Shape := ⟨3, ![4, 8192, 512]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x128 : Shape := ⟨3, ![4, 8192, 128]⟩
abbrev S4x8192x2x64 : Shape := ⟨4, ![4, 8192, 2, 64]⟩
abbrev S4x8192x2 : Shape := ⟨3, ![4, 8192, 2]⟩
abbrev S4x8192x2x1 : Shape := ⟨4, ![4, 8192, 2, 1]⟩
abbrev S4x8192x8x2x2x16 : Shape := ⟨6, ![4, 8192, 8, 2, 2, 16]⟩
abbrev S4x8192x8x2x1x16 : Shape := ⟨6, ![4, 8192, 8, 2, 1, 16]⟩
abbrev S4x8192x8x2x16 : Shape := ⟨5, ![4, 8192, 8, 2, 16]⟩
abbrev S1x8192x1x2x16 : Shape := ⟨5, ![1, 8192, 1, 2, 16]⟩
abbrev S4x8192x2x2x2x16 : Shape := ⟨6, ![4, 8192, 2, 2, 2, 16]⟩
abbrev S4x8192x2x2x1x16 : Shape := ⟨6, ![4, 8192, 2, 2, 1, 16]⟩
abbrev S4x8192x2x2x16 : Shape := ⟨5, ![4, 8192, 2, 2, 16]⟩
abbrev S32768x512 : Shape := ⟨2, ![32768, 512]⟩
abbrev S4x8192x2048 : Shape := ⟨3, ![4, 8192, 2048]⟩
abbrev S32768x2048 : Shape := ⟨2, ![32768, 2048]⟩
abbrev S32768x8x64 : Shape := ⟨3, ![32768, 8, 64]⟩
abbrev S8x32768x64 : Shape := ⟨3, ![8, 32768, 64]⟩
abbrev S32768x2x64 : Shape := ⟨3, ![32768, 2, 64]⟩
abbrev S2x32768x64 : Shape := ⟨3, ![2, 32768, 64]⟩
abbrev S1024x1024 : Shape := ⟨2, ![1024, 1024]⟩
abbrev S4x256x1024 : Shape := ⟨3, ![4, 256, 1024]⟩
abbrev S1x1024 : Shape := ⟨2, ![1, 1024]⟩
abbrev S4x256 : Shape := ⟨2, ![4, 256]⟩
abbrev S4x256x1 : Shape := ⟨3, ![4, 256, 1]⟩
abbrev S4x256x3840 : Shape := ⟨3, ![4, 256, 3840]⟩
abbrev S4x256x512 : Shape := ⟨3, ![4, 256, 512]⟩
abbrev S4x256x8x64 : Shape := ⟨4, ![4, 256, 8, 64]⟩
abbrev S4x256x8 : Shape := ⟨3, ![4, 256, 8]⟩
abbrev S4x256x8x1 : Shape := ⟨4, ![4, 256, 8, 1]⟩
abbrev S4x256x128 : Shape := ⟨3, ![4, 256, 128]⟩
abbrev S4x256x2x64 : Shape := ⟨4, ![4, 256, 2, 64]⟩
abbrev S4x256x2 : Shape := ⟨3, ![4, 256, 2]⟩
abbrev S4x256x2x1 : Shape := ⟨4, ![4, 256, 2, 1]⟩
abbrev S1024x512 : Shape := ⟨2, ![1024, 512]⟩
abbrev S4x256x2048 : Shape := ⟨3, ![4, 256, 2048]⟩
abbrev S1024x2048 : Shape := ⟨2, ![1024, 2048]⟩
abbrev S1024x8x64 : Shape := ⟨3, ![1024, 8, 64]⟩
abbrev S8x1024x64 : Shape := ⟨3, ![8, 1024, 64]⟩
abbrev S1024x2x64 : Shape := ⟨3, ![1024, 2, 64]⟩
abbrev S2x1024x64 : Shape := ⟨3, ![2, 1024, 64]⟩
abbrev S33792x512 : Shape := ⟨2, ![33792, 512]⟩
abbrev S33792x2048 : Shape := ⟨2, ![33792, 2048]⟩
abbrev S8x33792x64 : Shape := ⟨3, ![8, 33792, 64]⟩
abbrev S2x33792x64 : Shape := ⟨3, ![2, 33792, 64]⟩

abbrev nBuf : Space → Nat
  | .hbm => 306
  | .vmem => 0
  | .smem => 0
  | _ => 0

abbrev hbmTy0_0 (i : Nat) : BufTy := match i % 128 with
  | 0 => ⟨S33792x1024, .f32⟩
  | 1 => ⟨S1024, .f32⟩
  | 2 => ⟨S8x1024, .f32⟩
  | 3 => ⟨S8x1024, .f32⟩
  | 4 => ⟨S1024x3840, .f32⟩
  | 5 => ⟨S64, .f32⟩
  | 6 => ⟨S64, .f32⟩
  | 7 => ⟨S128, .i32⟩
  | 8 => ⟨S128x64, .i32⟩
  | 9 => ⟨S8192, .i32⟩
  | 10 => ⟨S8192, .f32⟩
  | 11 => ⟨S64, .i32⟩
  | 12 => ⟨S1x64, .i32⟩
  | 13 => ⟨S128x64, .i32⟩
  | 14 => ⟨S8192, .i32⟩
  | 15 => ⟨S8192, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S8192x1, .f32⟩
  | 25 => ⟨S1x16, .f32⟩
  | 26 => ⟨S8192x16, .f32⟩
  | 27 => ⟨S8192x16, .f32⟩
  | 28 => ⟨S8192x16, .f32⟩
  | 29 => ⟨S8192x1, .f32⟩
  | 30 => ⟨S1x16, .f32⟩
  | 31 => ⟨S8192x16, .f32⟩
  | 32 => ⟨S8192x16, .f32⟩
  | 33 => ⟨S8192x16, .f32⟩
  | 34 => ⟨S8192x1x16, .f32⟩
  | 35 => ⟨S8192x1x16, .f32⟩
  | 36 => ⟨S8192x2x16, .f32⟩
  | 37 => ⟨S8192x2x16, .f32⟩
  | 38 => ⟨S8192x2x16, .f32⟩
  | 39 => ⟨S32768x1024, .f32⟩
  | 40 => ⟨S4x8192x1024, .f32⟩
  | 41 => ⟨S4x1024, .f32⟩
  | 42 => ⟨S4x1x1024, .f32⟩
  | 43 => ⟨S4x1024, .f32⟩
  | 44 => ⟨S4x1x1024, .f32⟩
  | 45 => ⟨S4x8192x1024, .f32⟩
  | 46 => ⟨S_, .f32⟩
  | 47 => ⟨S4x8192, .f32⟩
  | 48 => ⟨S4x8192x1, .f32⟩
  | 49 => ⟨S_, .f32⟩
  | 50 => ⟨S4x8192x1, .f32⟩
  | 51 => ⟨S4x8192x1, .f32⟩
  | 52 => ⟨S_, .f32⟩
  | 53 => ⟨S4x8192x1, .f32⟩
  | 54 => ⟨S4x8192x1, .f32⟩
  | 55 => ⟨S4x8192x1, .f32⟩
  | 56 => ⟨S4x8192x1024, .f32⟩
  | 57 => ⟨S4x8192x1024, .f32⟩
  | 58 => ⟨S1x1x1024, .f32⟩
  | 59 => ⟨S4x8192x1024, .f32⟩
  | 60 => ⟨S4x8192x1024, .f32⟩
  | 61 => ⟨S_, .f32⟩
  | 62 => ⟨S4x1x1024, .f32⟩
  | 63 => ⟨S4x1x1024, .f32⟩
  | 64 => ⟨S4x8192x1024, .f32⟩
  | 65 => ⟨S4x8192x1024, .f32⟩
  | 66 => ⟨S4x8192x1024, .f32⟩
  | 67 => ⟨S4x8192x1024, .f32⟩
  | 68 => ⟨S4x8192x3840, .f32⟩
  | 69 => ⟨S4x8192x512, .f32⟩
  | 70 => ⟨S4x8192x8x64, .f32⟩
  | 71 => ⟨S4x8192x512, .f32⟩
  | 72 => ⟨S4x8192x8x64, .f32⟩
  | 73 => ⟨S4x8192x512, .f32⟩
  | 74 => ⟨S4x8192x8x64, .f32⟩
  | 75 => ⟨S4x8192x8x64, .f32⟩
  | 76 => ⟨S_, .f32⟩
  | 77 => ⟨S4x8192x8, .f32⟩
  | 78 => ⟨S4x8192x8x1, .f32⟩
  | 79 => ⟨S_, .f32⟩
  | 80 => ⟨S4x8192x8x1, .f32⟩
  | 81 => ⟨S4x8192x8x1, .f32⟩
  | 82 => ⟨S_, .f32⟩
  | 83 => ⟨S4x8192x8x1, .f32⟩
  | 84 => ⟨S4x8192x8x1, .f32⟩
  | 85 => ⟨S4x8192x8x1, .f32⟩
  | 86 => ⟨S4x8192x8x64, .f32⟩
  | 87 => ⟨S4x8192x8x64, .f32⟩
  | 88 => ⟨S1x1x1x64, .f32⟩
  | 89 => ⟨S4x8192x8x64, .f32⟩
  | 90 => ⟨S4x8192x8x64, .f32⟩
  | 91 => ⟨S4x8192x128, .f32⟩
  | 92 => ⟨S4x8192x2x64, .f32⟩
  | 93 => ⟨S4x8192x2x64, .f32⟩
  | 94 => ⟨S_, .f32⟩
  | 95 => ⟨S4x8192x2, .f32⟩
  | 96 => ⟨S4x8192x2x1, .f32⟩
  | 97 => ⟨S_, .f32⟩
  | 98 => ⟨S4x8192x2x1, .f32⟩
  | 99 => ⟨S4x8192x2x1, .f32⟩
  | 100 => ⟨S_, .f32⟩
  | 101 => ⟨S4x8192x2x1, .f32⟩
  | 102 => ⟨S4x8192x2x1, .f32⟩
  | 103 => ⟨S4x8192x2x1, .f32⟩
  | 104 => ⟨S4x8192x2x64, .f32⟩
  | 105 => ⟨S4x8192x2x64, .f32⟩
  | 106 => ⟨S1x1x1x64, .f32⟩
  | 107 => ⟨S4x8192x2x64, .f32⟩
  | 108 => ⟨S4x8192x2x64, .f32⟩
  | 109 => ⟨S4x8192x8x2x2x16, .f32⟩
  | 110 => ⟨S4x8192x8x2x1x16, .f32⟩
  | 111 => ⟨S4x8192x8x2x16, .f32⟩
  | 112 => ⟨S4x8192x8x2x1x16, .f32⟩
  | 113 => ⟨S4x8192x8x2x16, .f32⟩
  | 114 => ⟨S1x8192x1x2x16, .f32⟩
  | 115 => ⟨S1x8192x1x2x16, .f32⟩
  | 116 => ⟨S4x8192x8x2x16, .f32⟩
  | 117 => ⟨S4x8192x8x2x16, .f32⟩
  | 118 => ⟨S4x8192x8x2x16, .f32⟩
  | 119 => ⟨S4x8192x8x2x16, .f32⟩
  | 120 => ⟨S4x8192x8x2x16, .f32⟩
  | 121 => ⟨S4x8192x8x2x16, .f32⟩
  | 122 => ⟨S4x8192x8x2x16, .f32⟩
  | 123 => ⟨S4x8192x8x2x16, .f32⟩
  | 124 => ⟨S4x8192x8x2x16, .f32⟩
  | 125 => ⟨S4x8192x8x2x16, .f32⟩
  | 126 => ⟨S4x8192x8x2x1x16, .f32⟩
  | 127 => ⟨S4x8192x8x2x1x16, .f32⟩
  | _ => ⟨S33792x1024, .f32⟩

abbrev hbmTy0_1 (i : Nat) : BufTy := match i % 128 with
  | 0 => ⟨S4x8192x8x2x2x16, .f32⟩
  | 1 => ⟨S4x8192x8x64, .f32⟩
  | 2 => ⟨S4x8192x8x2x2x16, .f32⟩
  | 3 => ⟨S4x8192x8x2x1x16, .f32⟩
  | 4 => ⟨S4x8192x8x2x16, .f32⟩
  | 5 => ⟨S4x8192x8x2x1x16, .f32⟩
  | 6 => ⟨S4x8192x8x2x16, .f32⟩
  | 7 => ⟨S1x8192x1x2x16, .f32⟩
  | 8 => ⟨S1x8192x1x2x16, .f32⟩
  | 9 => ⟨S4x8192x8x2x16, .f32⟩
  | 10 => ⟨S4x8192x8x2x16, .f32⟩
  | 11 => ⟨S4x8192x8x2x16, .f32⟩
  | 12 => ⟨S4x8192x8x2x16, .f32⟩
  | 13 => ⟨S4x8192x8x2x16, .f32⟩
  | 14 => ⟨S4x8192x8x2x16, .f32⟩
  | 15 => ⟨S4x8192x8x2x16, .f32⟩
  | 16 => ⟨S4x8192x8x2x16, .f32⟩
  | 17 => ⟨S4x8192x8x2x16, .f32⟩
  | 18 => ⟨S4x8192x8x2x16, .f32⟩
  | 19 => ⟨S4x8192x8x2x1x16, .f32⟩
  | 20 => ⟨S4x8192x8x2x1x16, .f32⟩
  | 21 => ⟨S4x8192x8x2x2x16, .f32⟩
  | 22 => ⟨S4x8192x8x64, .f32⟩
  | 23 => ⟨S4x8192x8x2x2x16, .f32⟩
  | 24 => ⟨S4x8192x8x2x1x16, .f32⟩
  | 25 => ⟨S4x8192x8x2x16, .f32⟩
  | 26 => ⟨S4x8192x8x2x1x16, .f32⟩
  | 27 => ⟨S4x8192x8x2x16, .f32⟩
  | 28 => ⟨S1x8192x1x2x16, .f32⟩
  | 29 => ⟨S1x8192x1x2x16, .f32⟩
  | 30 => ⟨S4x8192x8x2x16, .f32⟩
  | 31 => ⟨S4x8192x8x2x16, .f32⟩
  | 32 => ⟨S4x8192x8x2x16, .f32⟩
  | 33 => ⟨S4x8192x8x2x16, .f32⟩
  | 34 => ⟨S4x8192x8x2x16, .f32⟩
  | 35 => ⟨S4x8192x8x2x16, .f32⟩
  | 36 => ⟨S4x8192x8x2x16, .f32⟩
  | 37 => ⟨S4x8192x8x2x16, .f32⟩
  | 38 => ⟨S4x8192x8x2x16, .f32⟩
  | 39 => ⟨S4x8192x8x2x16, .f32⟩
  | 40 => ⟨S4x8192x8x2x1x16, .f32⟩
  | 41 => ⟨S4x8192x8x2x1x16, .f32⟩
  | 42 => ⟨S4x8192x8x2x2x16, .f32⟩
  | 43 => ⟨S4x8192x8x64, .f32⟩
  | 44 => ⟨S4x8192x2x2x2x16, .f32⟩
  | 45 => ⟨S4x8192x2x2x1x16, .f32⟩
  | 46 => ⟨S4x8192x2x2x16, .f32⟩
  | 47 => ⟨S4x8192x2x2x1x16, .f32⟩
  | 48 => ⟨S4x8192x2x2x16, .f32⟩
  | 49 => ⟨S1x8192x1x2x16, .f32⟩
  | 50 => ⟨S1x8192x1x2x16, .f32⟩
  | 51 => ⟨S4x8192x2x2x16, .f32⟩
  | 52 => ⟨S4x8192x2x2x16, .f32⟩
  | 53 => ⟨S4x8192x2x2x16, .f32⟩
  | 54 => ⟨S4x8192x2x2x16, .f32⟩
  | 55 => ⟨S4x8192x2x2x16, .f32⟩
  | 56 => ⟨S4x8192x2x2x16, .f32⟩
  | 57 => ⟨S4x8192x2x2x16, .f32⟩
  | 58 => ⟨S4x8192x2x2x16, .f32⟩
  | 59 => ⟨S4x8192x2x2x16, .f32⟩
  | 60 => ⟨S4x8192x2x2x16, .f32⟩
  | 61 => ⟨S4x8192x2x2x1x16, .f32⟩
  | 62 => ⟨S4x8192x2x2x1x16, .f32⟩
  | 63 => ⟨S4x8192x2x2x2x16, .f32⟩
  | 64 => ⟨S4x8192x2x64, .f32⟩
  | 65 => ⟨S4x8192x128, .f32⟩
  | 66 => ⟨S4x8192x2x64, .f32⟩
  | 67 => ⟨S32768x512, .f32⟩
  | 68 => ⟨S_, .f32⟩
  | 69 => ⟨S4x8192x8x64, .f32⟩
  | 70 => ⟨S4x8192x8x64, .f32⟩
  | 71 => ⟨S32768x512, .f32⟩
  | 72 => ⟨S4x8192x2048, .f32⟩
  | 73 => ⟨S32768x2048, .f32⟩
  | 74 => ⟨S32768x8x64, .f32⟩
  | 75 => ⟨S8x32768x64, .f32⟩
  | 76 => ⟨S32768x2x64, .f32⟩
  | 77 => ⟨S2x32768x64, .f32⟩
  | 78 => ⟨S32768x2x64, .f32⟩
  | 79 => ⟨S2x32768x64, .f32⟩
  | 80 => ⟨S1024x1024, .f32⟩
  | 81 => ⟨S4x256x1024, .f32⟩
  | 82 => ⟨S1x1024, .f32⟩
  | 83 => ⟨S1024, .f32⟩
  | 84 => ⟨S1x1024, .f32⟩
  | 85 => ⟨S1024, .f32⟩
  | 86 => ⟨S4x256x1024, .f32⟩
  | 87 => ⟨S_, .f32⟩
  | 88 => ⟨S4x256, .f32⟩
  | 89 => ⟨S4x256x1, .f32⟩
  | 90 => ⟨S_, .f32⟩
  | 91 => ⟨S4x256x1, .f32⟩
  | 92 => ⟨S4x256x1, .f32⟩
  | 93 => ⟨S_, .f32⟩
  | 94 => ⟨S4x256x1, .f32⟩
  | 95 => ⟨S4x256x1, .f32⟩
  | 96 => ⟨S4x256x1, .f32⟩
  | 97 => ⟨S4x256x1024, .f32⟩
  | 98 => ⟨S4x256x1024, .f32⟩
  | 99 => ⟨S1x1x1024, .f32⟩
  | 100 => ⟨S4x256x1024, .f32⟩
  | 101 => ⟨S4x256x1024, .f32⟩
  | 102 => ⟨S_, .f32⟩
  | 103 => ⟨S1024, .f32⟩
  | 104 => ⟨S1024, .f32⟩
  | 105 => ⟨S1x1x1024, .f32⟩
  | 106 => ⟨S4x256x1024, .f32⟩
  | 107 => ⟨S4x256x1024, .f32⟩
  | 108 => ⟨S1x1x1024, .f32⟩
  | 109 => ⟨S4x256x1024, .f32⟩
  | 110 => ⟨S4x256x1024, .f32⟩
  | 111 => ⟨S4x256x3840, .f32⟩
  | 112 => ⟨S4x256x512, .f32⟩
  | 113 => ⟨S4x256x8x64, .f32⟩
  | 114 => ⟨S4x256x512, .f32⟩
  | 115 => ⟨S4x256x8x64, .f32⟩
  | 116 => ⟨S4x256x512, .f32⟩
  | 117 => ⟨S4x256x8x64, .f32⟩
  | 118 => ⟨S4x256x8x64, .f32⟩
  | 119 => ⟨S_, .f32⟩
  | 120 => ⟨S4x256x8, .f32⟩
  | 121 => ⟨S4x256x8x1, .f32⟩
  | 122 => ⟨S_, .f32⟩
  | 123 => ⟨S4x256x8x1, .f32⟩
  | 124 => ⟨S4x256x8x1, .f32⟩
  | 125 => ⟨S_, .f32⟩
  | 126 => ⟨S4x256x8x1, .f32⟩
  | 127 => ⟨S4x256x8x1, .f32⟩
  | _ => ⟨S33792x1024, .f32⟩

abbrev hbmTy0_2 (i : Nat) : BufTy := match i % 128 with
  | 0 => ⟨S4x256x8x1, .f32⟩
  | 1 => ⟨S4x256x8x64, .f32⟩
  | 2 => ⟨S4x256x8x64, .f32⟩
  | 3 => ⟨S1x1x1x64, .f32⟩
  | 4 => ⟨S4x256x8x64, .f32⟩
  | 5 => ⟨S4x256x8x64, .f32⟩
  | 6 => ⟨S4x256x128, .f32⟩
  | 7 => ⟨S4x256x2x64, .f32⟩
  | 8 => ⟨S4x256x2x64, .f32⟩
  | 9 => ⟨S_, .f32⟩
  | 10 => ⟨S4x256x2, .f32⟩
  | 11 => ⟨S4x256x2x1, .f32⟩
  | 12 => ⟨S_, .f32⟩
  | 13 => ⟨S4x256x2x1, .f32⟩
  | 14 => ⟨S4x256x2x1, .f32⟩
  | 15 => ⟨S_, .f32⟩
  | 16 => ⟨S4x256x2x1, .f32⟩
  | 17 => ⟨S4x256x2x1, .f32⟩
  | 18 => ⟨S4x256x2x1, .f32⟩
  | 19 => ⟨S4x256x2x64, .f32⟩
  | 20 => ⟨S4x256x2x64, .f32⟩
  | 21 => ⟨S1x1x1x64, .f32⟩
  | 22 => ⟨S4x256x2x64, .f32⟩
  | 23 => ⟨S4x256x2x64, .f32⟩
  | 24 => ⟨S4x256x128, .f32⟩
  | 25 => ⟨S4x256x2x64, .f32⟩
  | 26 => ⟨S1024x512, .f32⟩
  | 27 => ⟨S_, .f32⟩
  | 28 => ⟨S4x256x8x64, .f32⟩
  | 29 => ⟨S4x256x8x64, .f32⟩
  | 30 => ⟨S1024x512, .f32⟩
  | 31 => ⟨S4x256x2048, .f32⟩
  | 32 => ⟨S1024x2048, .f32⟩
  | 33 => ⟨S1024x8x64, .f32⟩
  | 34 => ⟨S8x1024x64, .f32⟩
  | 35 => ⟨S1024x2x64, .f32⟩
  | 36 => ⟨S2x1024x64, .f32⟩
  | 37 => ⟨S1024x2x64, .f32⟩
  | 38 => ⟨S2x1024x64, .f32⟩
  | 39 => ⟨S33792x512, .f32⟩
  | 40 => ⟨S33792x512, .bf16⟩
  | 41 => ⟨S33792x512, .f32⟩
  | 42 => ⟨S33792x512, .bf16⟩
  | 43 => ⟨S33792x2048, .f32⟩
  | 44 => ⟨S33792x2048, .bf16⟩
  | 45 => ⟨S8x33792x64, .f32⟩
  | 46 => ⟨S2x33792x64, .f32⟩
  | 47 => ⟨S2x33792x64, .bf16⟩
  | 48 => ⟨S2x33792x64, .f32⟩
  | 49 => ⟨S2x33792x64, .bf16⟩
  | _ => ⟨S33792x1024, .f32⟩

abbrev hbmTy (i : Nat) : BufTy := match i / 128 with
  | 0 => hbmTy0_0 i
  | 1 => hbmTy0_1 i
  | 2 => hbmTy0_2 i
  | _ => ⟨S33792x1024, .f32⟩

abbrev bufTy : (tb : Table) → Fin (tcTables nBuf tb) → BufTy
  | .hbm, ⟨i, _⟩ => hbmTy i
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_5 : Ref sig .tc := ⟨.hbm, 76, rfl⟩
abbrev main_v63 : Ref sig .tc := ⟨.hbm, 77, rfl⟩
abbrev main_v64 : Ref sig .tc := ⟨.hbm, 78, rfl⟩
abbrev main_cst_6 : Ref sig .tc := ⟨.hbm, 79, rfl⟩
abbrev main_v65 : Ref sig .tc := ⟨.hbm, 80, rfl⟩
abbrev main_v66 : Ref sig .tc := ⟨.hbm, 81, rfl⟩
abbrev main_cst_7 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_8 : Ref sig .tc := ⟨.hbm, 94, rfl⟩
abbrev main_v78 : Ref sig .tc := ⟨.hbm, 95, rfl⟩
abbrev main_v79 : Ref sig .tc := ⟨.hbm, 96, rfl⟩
abbrev main_cst_9 : Ref sig .tc := ⟨.hbm, 97, rfl⟩
abbrev main_v80 : Ref sig .tc := ⟨.hbm, 98, rfl⟩
abbrev main_v81 : Ref sig .tc := ⟨.hbm, 99, rfl⟩
abbrev main_cst_10 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_cst_11 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_cst_12 : Ref sig .tc := ⟨.hbm, 215, rfl⟩
abbrev main_v195 : Ref sig .tc := ⟨.hbm, 216, rfl⟩
abbrev main_v196 : Ref sig .tc := ⟨.hbm, 217, rfl⟩
abbrev main_cst_13 : Ref sig .tc := ⟨.hbm, 218, rfl⟩
abbrev main_v197 : Ref sig .tc := ⟨.hbm, 219, rfl⟩
abbrev main_v198 : Ref sig .tc := ⟨.hbm, 220, rfl⟩
abbrev main_cst_14 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_cst_15 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_cst_16 : Ref sig .tc := ⟨.hbm, 247, rfl⟩
abbrev main_v223 : Ref sig .tc := ⟨.hbm, 248, rfl⟩
abbrev main_v224 : Ref sig .tc := ⟨.hbm, 249, rfl⟩
abbrev main_cst_17 : Ref sig .tc := ⟨.hbm, 250, rfl⟩
abbrev main_v225 : Ref sig .tc := ⟨.hbm, 251, rfl⟩
abbrev main_v226 : Ref sig .tc := ⟨.hbm, 252, rfl⟩
abbrev main_cst_18 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_cst_19 : Ref sig .tc := ⟨.hbm, 265, rfl⟩
abbrev main_v238 : Ref sig .tc := ⟨.hbm, 266, rfl⟩
abbrev main_v239 : Ref sig .tc := ⟨.hbm, 267, rfl⟩
abbrev main_cst_20 : Ref sig .tc := ⟨.hbm, 268, rfl⟩
abbrev main_v240 : Ref sig .tc := ⟨.hbm, 269, rfl⟩
abbrev main_v241 : Ref sig .tc := ⟨.hbm, 270, rfl⟩
abbrev main_cst_21 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_v251 : Ref sig .tc := ⟨.hbm, 281, rfl⟩
abbrev main_v252 : Ref sig .tc := ⟨.hbm, 282, rfl⟩
abbrev main_cst_22 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩

abbrev nD : Nat := 1
abbrev τ : Topo := Topo.v7x

variable {F : FTy → Type} [FloatOps F]
-- ==== Odd.lean ====
abbrev S33792x1024 : Shape := ⟨2, ![33792, 1024]⟩
abbrev S1024 : Shape := ⟨1, ![1024]⟩
abbrev S8x1024 : Shape := ⟨2, ![8, 1024]⟩
abbrev S1024x4128 : Shape := ⟨2, ![1024, 4128]⟩
abbrev S3x3072 : Shape := ⟨2, ![3, 3072]⟩
abbrev S8 : Shape := ⟨1, ![8]⟩
abbrev S66 : Shape := ⟨1, ![66]⟩
abbrev S8x1x1024 : Shape := ⟨3, ![8, 1, 1024]⟩
abbrev S_ : Shape := ⟨0, ![]⟩
abbrev S1024x4224 : Shape := ⟨2, ![1024, 4224]⟩
abbrev S112 : Shape := ⟨1, ![112]⟩
abbrev S128 : Shape := ⟨1, ![128]⟩
abbrev S1x128 : Shape := ⟨2, ![1, 128]⟩
abbrev S1x1024 : Shape := ⟨2, ![1, 1024]⟩
abbrev S33792x128 : Shape := ⟨2, ![33792, 128]⟩
abbrev S512x1024 : Shape := ⟨2, ![512, 1024]⟩
abbrev S1x1x1024 : Shape := ⟨3, ![1, 1, 1024]⟩
abbrev S512x128 : Shape := ⟨2, ![512, 128]⟩
abbrev S528x1024 : Shape := ⟨2, ![528, 1024]⟩
abbrev S528 : Shape := ⟨1, ![528]⟩
abbrev S528x1 : Shape := ⟨2, ![528, 1]⟩
abbrev S1 : Shape := ⟨1, ![1]⟩
abbrev S1024x256 : Shape := ⟨2, ![1024, 256]⟩
abbrev S528x256 : Shape := ⟨2, ![528, 256]⟩
abbrev S512x256 : Shape := ⟨2, ![512, 256]⟩
abbrev S16x256 : Shape := ⟨2, ![16, 256]⟩
abbrev S3x128 : Shape := ⟨2, ![3, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x128 : Shape := ⟨2, ![1024, 128]⟩

abbrev nBuf : Space → Nat
  | .hbm => 28
  | .vmem => 25
  | .smem => 2
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x4128, .f32⟩
  | .hbm, ⟨5, _⟩ => ⟨S3x3072, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8x1x1024, .f32⟩
  | .hbm, ⟨11, _⟩ => ⟨S8x1x1024, .f32⟩
  | .hbm, ⟨12, _⟩ => ⟨S_, .i32⟩
  | .hbm, ⟨13, _⟩ => ⟨S_, .f32⟩
  | .hbm, ⟨14, _⟩ => ⟨S1024x4224, .f32⟩
  | .hbm, ⟨15, _⟩ => ⟨S1024x4224, .bf16⟩
  | .hbm, ⟨16, _⟩ => ⟨S_, .f32⟩
  | .hbm, ⟨17, _⟩ => ⟨S112, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S1x1024, .f32⟩
  | .hbm, ⟨23, _⟩ => ⟨S33792x1024, .bf16⟩
  | .hbm, ⟨24, _⟩ => ⟨S33792x1024, .bf16⟩
  | .hbm, ⟨25, _⟩ => ⟨S33792x1024, .bf16⟩
  | .hbm, ⟨26, _⟩ => ⟨S33792x1024, .bf16⟩
  | .hbm, ⟨27, _⟩ => ⟨S33792x128, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x4224, .bf16⟩
  | .local _ .vmem, ⟨12, _⟩ => ⟨S3x3072, .f32⟩
  | .local _ .vmem, ⟨13, _⟩ => ⟨S1x128, .f32⟩
  | .local _ .vmem, ⟨14, _⟩ => ⟨S1x128, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x128, .f32⟩
  | .local _ .vmem, ⟨24, _⟩ => ⟨S512x128, .f32⟩
  | .local _ .smem, ⟨0, _⟩ => ⟨S66, .i32⟩
  | .local _ .smem, ⟨1, _⟩ => ⟨S66, .i32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c_1 : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![66], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v30 : Index := Scalar.indexCast arg0
  ![v30.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4223_i32 : BitVec 32 := 4223#32
  let v2 : BitVec 32 := Scalar.minsi v1 c4223_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4224 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OddReferenceIdeal.lean ====
abbrev S33792x1024 : Shape := ⟨2, ![33792, 1024]⟩
abbrev S1024 : Shape := ⟨1, ![1024]⟩
abbrev S8x1024 : Shape := ⟨2, ![8, 1024]⟩
abbrev S1024x4128 : Shape := ⟨2, ![1024, 4128]⟩
abbrev S3x3072 : Shape := ⟨2, ![3, 3072]⟩
abbrev S8 : Shape := ⟨1, ![8]⟩
abbrev S32768x1024 : Shape := ⟨2, ![32768, 1024]⟩
abbrev S4x8192x1024 : Shape := ⟨3, ![4, 8192, 1024]⟩
abbrev S4x1024 : Shape := ⟨2, ![4, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4128 : Shape := ⟨3, ![4, 8192, 4128]⟩
abbrev S4x8192x3072 : Shape := ⟨3, ![4, 8192, 3072]⟩
abbrev S4x8194x3072 : Shape := ⟨3, ![4, 8194, 3072]⟩
abbrev S1x3072 : Shape := ⟨2, ![1, 3072]⟩
abbrev S3072 : Shape := ⟨1, ![3072]⟩
abbrev S1x1x3072 : Shape := ⟨3, ![1, 1, 3072]⟩
abbrev S4x8192x8x128 : Shape := ⟨4, ![4, 8192, 8, 128]⟩
abbrev S4x8192x8 : Shape := ⟨3, ![4, 8192, 8]⟩
abbrev S4x8192x8x1 : Shape := ⟨4, ![4, 8192, 8, 1]⟩
abbrev S4x8192x16 : Shape := ⟨3, ![4, 8192, 16]⟩
abbrev S1x1x8 : Shape := ⟨3, ![1, 1, 8]⟩
abbrev S4x8192x96 : Shape := ⟨3, ![4, 8192, 96]⟩
abbrev S4x8192x128 : Shape := ⟨3, ![4, 8192, 128]⟩
abbrev S32768x128 : Shape := ⟨2, ![32768, 128]⟩
abbrev S1024x1024 : Shape := ⟨2, ![1024, 1024]⟩
abbrev S4x256x1024 : Shape := ⟨3, ![4, 256, 1024]⟩
abbrev S1x1024 : Shape := ⟨2, ![1, 1024]⟩
abbrev S4x256 : Shape := ⟨2, ![4, 256]⟩
abbrev S4x256x1 : Shape := ⟨3, ![4, 256, 1]⟩
abbrev S4x256x4128 : Shape := ⟨3, ![4, 256, 4128]⟩
abbrev S4x256x3072 : Shape := ⟨3, ![4, 256, 3072]⟩
abbrev S4x258x3072 : Shape := ⟨3, ![4, 258, 3072]⟩
abbrev S4x256x8x128 : Shape := ⟨4, ![4, 256, 8, 128]⟩
abbrev S4x256x8 : Shape := ⟨3, ![4, 256, 8]⟩
abbrev S4x256x8x1 : Shape := ⟨4, ![4, 256, 8, 1]⟩
abbrev S4x256x16 : Shape := ⟨3, ![4, 256, 16]⟩
abbrev S4x256x96 : Shape := ⟨3, ![4, 256, 96]⟩
abbrev S4x256x128 : Shape := ⟨3, ![4, 256, 128]⟩
abbrev S1024x128 : Shape := ⟨2, ![1024, 128]⟩
abbrev S33792x128 : Shape := ⟨2, ![33792, 128]⟩

abbrev nBuf : Space → Nat
  | .hbm => 331
  | .vmem => 0
  | .smem => 0
  | _ => 0

abbrev hbmTy0_0 (i : Nat) : BufTy := match i % 128 with
  | 0 => ⟨S33792x1024, .f32⟩
  | 1 => ⟨S1024, .f32⟩
  | 2 => ⟨S8x1024, .f32⟩
  | 3 => ⟨S8x1024, .f32⟩
  | 4 => ⟨S1024x4128, .f32⟩
  | 5 => ⟨S3x3072, .f32⟩
  | 6 => ⟨S8, .f32⟩
  | 7 => ⟨S8, .f32⟩
  | 8 => ⟨S8, .f32⟩
  | 9 => ⟨S8, .f32⟩
  | 10 => ⟨S32768x1024, .f32⟩
  | 11 => ⟨S4x8192x1024, .f32⟩
  | 12 => ⟨S4x1024, .f32⟩
  | 13 => ⟨S4x1x1024, .f32⟩
  | 14 => ⟨S4x1024, .f32⟩
  | 15 => ⟨S4x1x1024, .f32⟩
  | 16 => ⟨S4x8192x1024, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S_, .f32⟩
  | 24 => ⟨S4x8192x1, .f32⟩
  | 25 => ⟨S4x8192x1, .f32⟩
  | 26 => ⟨S4x8192x1, .f32⟩
  | 27 => ⟨S4x8192x1024, .f32⟩
  | 28 => ⟨S4x8192x1024, .f32⟩
  | 29 => ⟨S1x1x1024, .f32⟩
  | 30 => ⟨S4x8192x1024, .f32⟩
  | 31 => ⟨S4x8192x1024, .f32⟩
  | 32 => ⟨S_, .f32⟩
  | 33 => ⟨S4x1x1024, .f32⟩
  | 34 => ⟨S4x1x1024, .f32⟩
  | 35 => ⟨S4x8192x1024, .f32⟩
  | 36 => ⟨S4x8192x1024, .f32⟩
  | 37 => ⟨S4x8192x1024, .f32⟩
  | 38 => ⟨S4x8192x1024, .f32⟩
  | 39 => ⟨S4x8192x4128, .f32⟩
  | 40 => ⟨S4x8192x3072, .f32⟩
  | 41 => ⟨S_, .i32⟩
  | 42 => ⟨S_, .f32⟩
  | 43 => ⟨S4x8194x3072, .f32⟩
  | 44 => ⟨S4x8192x3072, .f32⟩
  | 45 => ⟨S1x3072, .f32⟩
  | 46 => ⟨S3072, .f32⟩
  | 47 => ⟨S1x1x3072, .f32⟩
  | 48 => ⟨S4x8192x3072, .f32⟩
  | 49 => ⟨S4x8192x3072, .f32⟩
  | 50 => ⟨S4x8192x3072, .f32⟩
  | 51 => ⟨S1x3072, .f32⟩
  | 52 => ⟨S3072, .f32⟩
  | 53 => ⟨S1x1x3072, .f32⟩
  | 54 => ⟨S4x8192x3072, .f32⟩
  | 55 => ⟨S4x8192x3072, .f32⟩
  | 56 => ⟨S4x8192x3072, .f32⟩
  | 57 => ⟨S4x8192x3072, .f32⟩
  | 58 => ⟨S1x3072, .f32⟩
  | 59 => ⟨S3072, .f32⟩
  | 60 => ⟨S1x1x3072, .f32⟩
  | 61 => ⟨S4x8192x3072, .f32⟩
  | 62 => ⟨S4x8192x3072, .f32⟩
  | 63 => ⟨S4x8192x3072, .f32⟩
  | 64 => ⟨S4x8192x3072, .f32⟩
  | 65 => ⟨S4x8192x3072, .f32⟩
  | 66 => ⟨S_, .f32⟩
  | 67 => ⟨S4x8192x3072, .f32⟩
  | 68 => ⟨S4x8192x3072, .f32⟩
  | 69 => ⟨S_, .f32⟩
  | 70 => ⟨S4x8192x3072, .f32⟩
  | 71 => ⟨S4x8192x3072, .f32⟩
  | 72 => ⟨S4x8192x3072, .f32⟩
  | 73 => ⟨S4x8192x1024, .f32⟩
  | 74 => ⟨S4x8192x8x128, .f32⟩
  | 75 => ⟨S4x8192x8x128, .f32⟩
  | 76 => ⟨S_, .f32⟩
  | 77 => ⟨S4x8192x8, .f32⟩
  | 78 => ⟨S4x8192x8x1, .f32⟩
  | 79 => ⟨S_, .f32⟩
  | 80 => ⟨S4x8192x8x1, .f32⟩
  | 81 => ⟨S4x8192x8x1, .f32⟩
  | 82 => ⟨S4x8192x8x1, .f32⟩
  | 83 => ⟨S4x8192x8x128, .f32⟩
  | 84 => ⟨S4x8192x8x128, .f32⟩
  | 85 => ⟨S_, .f32⟩
  | 86 => ⟨S4x8192x8x128, .f32⟩
  | 87 => ⟨S4x8192x8x128, .f32⟩
  | 88 => ⟨S4x8192x1024, .f32⟩
  | 89 => ⟨S4x8192x8x128, .f32⟩
  | 90 => ⟨S4x8192x8x128, .f32⟩
  | 91 => ⟨S_, .f32⟩
  | 92 => ⟨S4x8192x8, .f32⟩
  | 93 => ⟨S4x8192x8x1, .f32⟩
  | 94 => ⟨S_, .f32⟩
  | 95 => ⟨S4x8192x8x1, .f32⟩
  | 96 => ⟨S4x8192x8x1, .f32⟩
  | 97 => ⟨S4x8192x8x1, .f32⟩
  | 98 => ⟨S4x8192x8x128, .f32⟩
  | 99 => ⟨S4x8192x8x128, .f32⟩
  | 100 => ⟨S4x8192x8, .f32⟩
  | 101 => ⟨S4x8192x8, .f32⟩
  | 102 => ⟨S4x8192x16, .f32⟩
  | 103 => ⟨S8, .f32⟩
  | 104 => ⟨S8, .f32⟩
  | 105 => ⟨S1x1x8, .f32⟩
  | 106 => ⟨S4x8192x8, .f32⟩
  | 107 => ⟨S4x8192x8, .f32⟩
  | 108 => ⟨S_, .f32⟩
  | 109 => ⟨S4x8192x8, .f32⟩
  | 110 => ⟨S4x8192x8, .f32⟩
  | 111 => ⟨S4x8192x8, .f32⟩
  | 112 => ⟨S4x8192x8, .f32⟩
  | 113 => ⟨S4x8192x8, .i1⟩
  | 114 => ⟨S4x8192x8, .f32⟩
  | 115 => ⟨S4x8192x8, .f32⟩
  | 116 => ⟨S4x8192x8, .f32⟩
  | 117 => ⟨S4x8192x8, .f32⟩
  | 118 => ⟨S4x8192x8, .f32⟩
  | 119 => ⟨S4x8192x8, .f32⟩
  | 120 => ⟨S4x8192x8, .f32⟩
  | 121 => ⟨S4x8192x8, .f32⟩
  | 122 => ⟨S1x1x8, .f32⟩
  | 123 => ⟨S4x8192x8, .f32⟩
  | 124 => ⟨S4x8192x8, .f32⟩
  | 125 => ⟨S8, .f32⟩
  | 126 => ⟨S8, .f32⟩
  | 127 => ⟨S1x1x8, .f32⟩
  | _ => ⟨S33792x1024, .f32⟩

abbrev hbmTy0_1 (i : Nat) : BufTy := match i % 128 with
  | 0 => ⟨S4x8192x8, .f32⟩
  | 1 => ⟨S4x8192x8, .f32⟩
  | 2 => ⟨S_, .f32⟩
  | 3 => ⟨S4x8192x8, .f32⟩
  | 4 => ⟨S4x8192x8, .f32⟩
  | 5 => ⟨S4x8192x8, .f32⟩
  | 6 => ⟨S4x8192x8, .f32⟩
  | 7 => ⟨S4x8192x8, .i1⟩
  | 8 => ⟨S4x8192x8, .f32⟩
  | 9 => ⟨S4x8192x8, .f32⟩
  | 10 => ⟨S4x8192x8, .f32⟩
  | 11 => ⟨S4x8192x8, .f32⟩
  | 12 => ⟨S4x8192x8, .f32⟩
  | 13 => ⟨S4x8192x8, .f32⟩
  | 14 => ⟨S4x8192x8, .f32⟩
  | 15 => ⟨S4x8192x8, .f32⟩
  | 16 => ⟨S1x1x8, .f32⟩
  | 17 => ⟨S4x8192x8, .f32⟩
  | 18 => ⟨S4x8192x8, .f32⟩
  | 19 => ⟨S4x8192x16, .f32⟩
  | 20 => ⟨S4x8192x16, .f32⟩
  | 21 => ⟨S_, .f32⟩
  | 22 => ⟨S4x8192x16, .f32⟩
  | 23 => ⟨S4x8192x16, .f32⟩
  | 24 => ⟨S_, .f32⟩
  | 25 => ⟨S4x8192x16, .f32⟩
  | 26 => ⟨S4x8192x16, .f32⟩
  | 27 => ⟨S_, .f32⟩
  | 28 => ⟨S4x8192x96, .f32⟩
  | 29 => ⟨S4x8192x128, .f32⟩
  | 30 => ⟨S32768x1024, .f32⟩
  | 31 => ⟨S32768x1024, .f32⟩
  | 32 => ⟨S4x8192x1024, .f32⟩
  | 33 => ⟨S32768x1024, .f32⟩
  | 34 => ⟨S4x8192x1024, .f32⟩
  | 35 => ⟨S32768x1024, .f32⟩
  | 36 => ⟨S32768x128, .f32⟩
  | 37 => ⟨S1024x1024, .f32⟩
  | 38 => ⟨S4x256x1024, .f32⟩
  | 39 => ⟨S1x1024, .f32⟩
  | 40 => ⟨S1024, .f32⟩
  | 41 => ⟨S1x1024, .f32⟩
  | 42 => ⟨S1024, .f32⟩
  | 43 => ⟨S4x256x1024, .f32⟩
  | 44 => ⟨S_, .f32⟩
  | 45 => ⟨S4x256, .f32⟩
  | 46 => ⟨S4x256x1, .f32⟩
  | 47 => ⟨S_, .f32⟩
  | 48 => ⟨S4x256x1, .f32⟩
  | 49 => ⟨S4x256x1, .f32⟩
  | 50 => ⟨S_, .f32⟩
  | 51 => ⟨S4x256x1, .f32⟩
  | 52 => ⟨S4x256x1, .f32⟩
  | 53 => ⟨S4x256x1, .f32⟩
  | 54 => ⟨S4x256x1024, .f32⟩
  | 55 => ⟨S4x256x1024, .f32⟩
  | 56 => ⟨S1x1x1024, .f32⟩
  | 57 => ⟨S4x256x1024, .f32⟩
  | 58 => ⟨S4x256x1024, .f32⟩
  | 59 => ⟨S_, .f32⟩
  | 60 => ⟨S1024, .f32⟩
  | 61 => ⟨S1024, .f32⟩
  | 62 => ⟨S1x1x1024, .f32⟩
  | 63 => ⟨S4x256x1024, .f32⟩
  | 64 => ⟨S4x256x1024, .f32⟩
  | 65 => ⟨S1x1x1024, .f32⟩
  | 66 => ⟨S4x256x1024, .f32⟩
  | 67 => ⟨S4x256x1024, .f32⟩
  | 68 => ⟨S4x256x4128, .f32⟩
  | 69 => ⟨S4x256x3072, .f32⟩
  | 70 => ⟨S_, .i32⟩
  | 71 => ⟨S_, .f32⟩
  | 72 => ⟨S4x258x3072, .f32⟩
  | 73 => ⟨S4x256x3072, .f32⟩
  | 74 => ⟨S1x3072, .f32⟩
  | 75 => ⟨S3072, .f32⟩
  | 76 => ⟨S1x1x3072, .f32⟩
  | 77 => ⟨S4x256x3072, .f32⟩
  | 78 => ⟨S4x256x3072, .f32⟩
  | 79 => ⟨S4x256x3072, .f32⟩
  | 80 => ⟨S1x3072, .f32⟩
  | 81 => ⟨S3072, .f32⟩
  | 82 => ⟨S1x1x3072, .f32⟩
  | 83 => ⟨S4x256x3072, .f32⟩
  | 84 => ⟨S4x256x3072, .f32⟩
  | 85 => ⟨S4x256x3072, .f32⟩
  | 86 => ⟨S4x256x3072, .f32⟩
  | 87 => ⟨S1x3072, .f32⟩
  | 88 => ⟨S3072, .f32⟩
  | 89 => ⟨S1x1x3072, .f32⟩
  | 90 => ⟨S4x256x3072, .f32⟩
  | 91 => ⟨S4x256x3072, .f32⟩
  | 92 => ⟨S4x256x3072, .f32⟩
  | 93 => ⟨S4x256x3072, .f32⟩
  | 94 => ⟨S4x256x3072, .f32⟩
  | 95 => ⟨S_, .f32⟩
  | 96 => ⟨S4x256x3072, .f32⟩
  | 97 => ⟨S4x256x3072, .f32⟩
  | 98 => ⟨S_, .f32⟩
  | 99 => ⟨S4x256x3072, .f32⟩
  | 100 => ⟨S4x256x3072, .f32⟩
  | 101 => ⟨S4x256x3072, .f32⟩
  | 102 => ⟨S4x256x1024, .f32⟩
  | 103 => ⟨S4x256x8x128, .f32⟩
  | 104 => ⟨S4x256x8x128, .f32⟩
  | 105 => ⟨S_, .f32⟩
  | 106 => ⟨S4x256x8, .f32⟩
  | 107 => ⟨S4x256x8x1, .f32⟩
  | 108 => ⟨S_, .f32⟩
  | 109 => ⟨S4x256x8x1, .f32⟩
  | 110 => ⟨S4x256x8x1, .f32⟩
  | 111 => ⟨S4x256x8x1, .f32⟩
  | 112 => ⟨S4x256x8x128, .f32⟩
  | 113 => ⟨S4x256x8x128, .f32⟩
  | 114 => ⟨S_, .f32⟩
  | 115 => ⟨S4x256x8x128, .f32⟩
  | 116 => ⟨S4x256x8x128, .f32⟩
  | 117 => ⟨S4x256x1024, .f32⟩
  | 118 => ⟨S4x256x8x128, .f32⟩
  | 119 => ⟨S4x256x8x128, .f32⟩
  | 120 => ⟨S_, .f32⟩
  | 121 => ⟨S4x256x8, .f32⟩
  | 122 => ⟨S4x256x8x1, .f32⟩
  | 123 => ⟨S_, .f32⟩
  | 124 => ⟨S4x256x8x1, .f32⟩
  | 125 => ⟨S4x256x8x1, .f32⟩
  | 126 => ⟨S4x256x8x1, .f32⟩
  | 127 => ⟨S4x256x8x128, .f32⟩
  | _ => ⟨S33792x1024, .f32⟩

abbrev hbmTy0_2 (i : Nat) : BufTy := match i % 128 with
  | 0 => ⟨S4x256x8x128, .f32⟩
  | 1 => ⟨S4x256x8, .f32⟩
  | 2 => ⟨S4x256x8, .f32⟩
  | 3 => ⟨S4x256x16, .f32⟩
  | 4 => ⟨S8, .f32⟩
  | 5 => ⟨S8, .f32⟩
  | 6 => ⟨S1x1x8, .f32⟩
  | 7 => ⟨S4x256x8, .f32⟩
  | 8 => ⟨S4x256x8, .f32⟩
  | 9 => ⟨S_, .f32⟩
  | 10 => ⟨S4x256x8, .f32⟩
  | 11 => ⟨S4x256x8, .f32⟩
  | 12 => ⟨S4x256x8, .f32⟩
  | 13 => ⟨S4x256x8, .f32⟩
  | 14 => ⟨S4x256x8, .i1⟩
  | 15 => ⟨S4x256x8, .f32⟩
  | 16 => ⟨S4x256x8, .f32⟩
  | 17 => ⟨S4x256x8, .f32⟩
  | 18 => ⟨S4x256x8, .f32⟩
  | 19 => ⟨S4x256x8, .f32⟩
  | 20 => ⟨S4x256x8, .f32⟩
  | 21 => ⟨S4x256x8, .f32⟩
  | 22 => ⟨S4x256x8, .f32⟩
  | 23 => ⟨S1x1x8, .f32⟩
  | 24 => ⟨S4x256x8, .f32⟩
  | 25 => ⟨S4x256x8, .f32⟩
  | 26 => ⟨S8, .f32⟩
  | 27 => ⟨S8, .f32⟩
  | 28 => ⟨S1x1x8, .f32⟩
  | 29 => ⟨S4x256x8, .f32⟩
  | 30 => ⟨S4x256x8, .f32⟩
  | 31 => ⟨S_, .f32⟩
  | 32 => ⟨S4x256x8, .f32⟩
  | 33 => ⟨S4x256x8, .f32⟩
  | 34 => ⟨S4x256x8, .f32⟩
  | 35 => ⟨S4x256x8, .f32⟩
  | 36 => ⟨S4x256x8, .i1⟩
  | 37 => ⟨S4x256x8, .f32⟩
  | 38 => ⟨S4x256x8, .f32⟩
  | 39 => ⟨S4x256x8, .f32⟩
  | 40 => ⟨S4x256x8, .f32⟩
  | 41 => ⟨S4x256x8, .f32⟩
  | 42 => ⟨S4x256x8, .f32⟩
  | 43 => ⟨S4x256x8, .f32⟩
  | 44 => ⟨S4x256x8, .f32⟩
  | 45 => ⟨S1x1x8, .f32⟩
  | 46 => ⟨S4x256x8, .f32⟩
  | 47 => ⟨S4x256x8, .f32⟩
  | 48 => ⟨S4x256x16, .f32⟩
  | 49 => ⟨S4x256x16, .f32⟩
  | 50 => ⟨S_, .f32⟩
  | 51 => ⟨S4x256x16, .f32⟩
  | 52 => ⟨S4x256x16, .f32⟩
  | 53 => ⟨S_, .f32⟩
  | 54 => ⟨S4x256x16, .f32⟩
  | 55 => ⟨S4x256x16, .f32⟩
  | 56 => ⟨S_, .f32⟩
  | 57 => ⟨S4x256x96, .f32⟩
  | 58 => ⟨S4x256x128, .f32⟩
  | 59 => ⟨S1024x1024, .f32⟩
  | 60 => ⟨S1024x1024, .f32⟩
  | 61 => ⟨S4x256x1024, .f32⟩
  | 62 => ⟨S1024x1024, .f32⟩
  | 63 => ⟨S4x256x1024, .f32⟩
  | 64 => ⟨S1024x1024, .f32⟩
  | 65 => ⟨S1024x128, .f32⟩
  | 66 => ⟨S33792x1024, .f32⟩
  | 67 => ⟨S33792x1024, .f32⟩
  | 68 => ⟨S33792x1024, .f32⟩
  | 69 => ⟨S33792x1024, .f32⟩
  | 70 => ⟨S33792x128, .f32⟩
  | 71 => ⟨S33792x1024, .bf16⟩
  | 72 => ⟨S33792x1024, .bf16⟩
  | 73 => ⟨S33792x1024, .bf16⟩
  | 74 => ⟨S33792x1024, .bf16⟩
  | _ => ⟨S33792x1024, .f32⟩

abbrev hbmTy (i : Nat) : BufTy := match i / 128 with
  | 0 => hbmTy0_0 i
  | 1 => hbmTy0_1 i
  | 2 => hbmTy0_2 i
  | _ => ⟨S33792x1024, .f32⟩

abbrev bufTy : (tb : Table) → Fin (tcTables nBuf tb) → BufTy
  | .hbm, ⟨i, _⟩ => hbmTy i
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_3 : Ref sig .tc := ⟨.hbm, 76, rfl⟩
abbrev main_v52 : Ref sig .tc := ⟨.hbm, 77, rfl⟩
abbrev main_v53 : Ref sig .tc := ⟨.hbm, 78, rfl⟩
abbrev main_cst_4 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_5 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_6 : Ref sig .tc := ⟨.hbm, 91, rfl⟩
abbrev main_v64 : Ref sig .tc := ⟨.hbm, 92, rfl⟩
abbrev main_v65 : Ref sig .tc := ⟨.hbm, 93, rfl⟩
abbrev main_cst_7 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call2_cst : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_v6 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_call3_cst : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_8 : Ref sig .tc := ⟨.hbm, 149, rfl⟩
abbrev main_v94 : Ref sig .tc := ⟨.hbm, 150, rfl⟩
abbrev main_v95 : Ref sig .tc := ⟨.hbm, 151, rfl⟩
abbrev main_cst_9 : Ref sig .tc := ⟨.hbm, 152, rfl⟩
abbrev main_v96 : Ref sig .tc := ⟨.hbm, 153, rfl⟩
abbrev main_v97 : Ref sig .tc := ⟨.hbm, 154, rfl⟩
abbrev main_cst_10 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_cst_11 : Ref sig .tc := ⟨.hbm, 172, rfl⟩
abbrev main_v114 : Ref sig .tc := ⟨.hbm, 173, rfl⟩
abbrev main_v115 : Ref sig .tc := ⟨.hbm, 174, rfl⟩
abbrev main_cst_12 : Ref sig .tc := ⟨.hbm, 175, rfl⟩
abbrev main_v116 : Ref sig .tc := ⟨.hbm, 176, rfl⟩
abbrev main_v117 : Ref sig .tc := ⟨.hbm, 177, rfl⟩
abbrev main_cst_13 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_cst_14 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_c_15 : Ref sig .tc := ⟨.hbm, 198, rfl⟩
abbrev main_call4_v0 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_call5_v0 : Ref sig .tc := ⟨.hbm, 221, rfl⟩
abbrev main_call5_v1 : Ref sig .tc := ⟨.hbm, 222, rfl⟩
abbrev main_call5_cst : Ref sig .tc := ⟨.hbm, 223, rfl⟩
abbrev main_call5_v2 : Ref sig .tc := ⟨.hbm, 224, rfl⟩
abbrev main_call5_v3 : Ref sig .tc := ⟨.hbm, 225, rfl⟩
abbrev main_call5_cst_0 : Ref sig .tc := ⟨.hbm, 226, rfl⟩
abbrev main_call5_v4 : Ref sig .tc := ⟨.hbm, 227, rfl⟩
abbrev main_call5_v5 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_cst_16 : Ref sig .tc := ⟨.hbm, 233, rfl⟩
abbrev main_v161 : Ref sig .tc := ⟨.hbm, 234, rfl⟩
abbrev main_v162 : Ref sig .tc := ⟨.hbm, 235, rfl⟩
abbrev main_cst_17 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_cst_18 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_cst_19 : Ref sig .tc := ⟨.hbm, 248, rfl⟩
abbrev main_v173 : Ref sig .tc := ⟨.hbm, 249, rfl⟩
abbrev main_v174 : Ref sig .tc := ⟨.hbm, 250, rfl⟩
abbrev main_cst_20 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_call6_cst : Ref sig .tc := ⟨.hbm, 265, rfl⟩
abbrev main_call6_v0 : Ref sig .tc := ⟨.hbm, 266, rfl⟩
abbrev main_call6_v1 : Ref sig .tc := ⟨.hbm, 267, rfl⟩
abbrev main_call6_v2 : Ref sig .tc := ⟨.hbm, 268, rfl⟩
abbrev main_call6_v3 : Ref sig .tc := ⟨.hbm, 269, rfl⟩
abbrev main_call6_v4 : Ref sig .tc := ⟨.hbm, 270, rfl⟩
abbrev main_call6_v5 : Ref sig .tc := ⟨.hbm, 271, rfl⟩
abbrev main_call6_v6 : Ref sig .tc := ⟨.hbm, 272, rfl⟩
abbrev main_call6_v7 : Ref sig .tc := ⟨.hbm, 273, rfl⟩
abbrev main_call6_v8 : Ref sig .tc := ⟨.hbm, 274, rfl⟩
abbrev main_call6_v9 : Ref sig .tc := ⟨.hbm, 275, rfl⟩
abbrev main_call6_v10 : Ref sig .tc := ⟨.hbm, 276, rfl⟩
abbrev main_call6_v11 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_call7_cst : Ref sig .tc := ⟨.hbm, 287, rfl⟩
abbrev main_call7_v0 : Ref sig .tc := ⟨.hbm, 288, rfl⟩
abbrev main_call7_v1 : Ref sig .tc := ⟨.hbm, 289, rfl⟩
abbrev main_call7_v2 : Ref sig .tc := ⟨.hbm, 290, rfl⟩
abbrev main_call7_v3 : Ref sig .tc := ⟨.hbm, 291, rfl⟩
abbrev main_call7_v4 : Ref sig .tc := ⟨.hbm, 292, rfl⟩
abbrev main_call7_v5 : Ref sig .tc := ⟨.hbm, 293, rfl⟩
abbrev main_call7_v6 : Ref sig .tc := ⟨.hbm, 294, rfl⟩
abbrev main_call7_v7 : Ref sig .tc := ⟨.hbm, 295, rfl⟩
abbrev main_call7_v8 : Ref sig .tc := ⟨.hbm, 296, rfl⟩
abbrev main_call7_v9 : Ref sig .tc := ⟨.hbm, 297, rfl⟩
abbrev main_call7_v10 : Ref sig .tc := ⟨.hbm, 298, rfl⟩
abbrev main_call7_v11 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_cst_21 : Ref sig .tc := ⟨.hbm, 306, rfl⟩
abbrev main_v203 : Ref sig .tc := ⟨.hbm, 307, rfl⟩
abbrev main_v204 : Ref sig .tc := ⟨.hbm, 308, rfl⟩
abbrev main_cst_22 : Ref sig .tc := ⟨.hbm, 309, rfl⟩
abbrev main_v205 : Ref sig .tc := ⟨.hbm, 310, rfl⟩
abbrev main_v206 : Ref sig .tc := ⟨.hbm, 311, rfl⟩
abbrev main_cst_23 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_v218 : Ref sig .tc := ⟨.hbm, 324, rfl⟩
abbrev main_v219 : Ref sig .tc := ⟨.hbm, 325, rfl⟩
abbrev main_v220 : Ref sig .tc := ⟨.hbm, 326, rfl⟩
abbrev main_v221 : Ref sig .tc := ⟨.hbm, 327, rfl⟩
abbrev main_v222 : Ref sig .tc := ⟨.hbm, 328, rfl⟩
abbrev main_v223 : Ref sig .tc := ⟨.hbm, 329, rfl⟩
abbrev main_v224 : Ref sig .tc := ⟨.hbm, 330, rfl⟩

abbrev nD : Nat := 1
abbrev τ : Topo := Topo.v7x

variable {F : FTy → Type} [FloatOps F]
-- ==== Proof.Step.lean ====
/-
  The attention kernel's body read as a short program: the scores of one key chunk against the four query heads
  (`scoresP`), the running softmax's update by one chunk (`softP`), the two alternating over the two halves of the
  scratch (`pairP`), eight times in a trip (`tripP`).
-/
module

public import proofs.«01_k».proof.Proof.Gen.KernelIdeal.Skeleton
public import proofs.«01_k».proof.Proof.Gen.KernelIdeal.Loops

@[expose] public section

noncomputable section

namespace Cert.KernelIdeal.Attn

open Cert.KernelIdeal Cert.KernelIdeal.Gen
open Idealize.ShloMosaic Idealize.SL.Sem

variable {F : FTy → Type} [FloatOps F] [Named F]

/-! ## The arithmetic of one chunk and one head -/

/-- One number per query. -/
abbrev Row (F : FTy → Type) := FVec F S1x256 .f32
/-- Scores: key by query. -/
abbrev Sc (F : FTy → Type) := FVec F S256x256 .f32
/-- A head's accumulator: column of the values by query. -/
abbrev Ac (F : FTy → Type) := FVec F S80x256 .f32
/-- A head's queries, transposed. -/
abbrev Qh (F : FTy → Type) := FVec F S64x256 .bf16
/-- A chunk of keys. -/
abbrev Kc (F : FTy → Type) := Vec F S1x1x256x64 .bf16
/-- A chunk of values. -/
abbrev Vc (F : FTy → Type) := Vec F S1x1x1x80x256 .bf16

/-- The scores of a chunk of keys (rows) against a head's queries (columns). -/
def score (q : Qh F) (k : Kc F) : Sc F :=
  matmul dot_S256x64_S64x256_S256x256_1_0_0_1_n_n none (shapeCast S256x64 k shapeCasts_S1x1x256x64_S256x64) q
    (constant S256x256 .f32 0x00000000#32)
/-- What a score buffer is stored. -/
def stored (s : Sc F) : Sc F := shapeCast S256x256 s shapeCasts_S256x256_S256x256
/-- The maximum of each column of the scores. -/
def colMax (s : Sc F) : Row F :=
  shapeCast S1x256 (multiReduction .maximumf [0] S256 s 0xFF800000#32 reduces_S256x256_S256 (.inl rfl) rfl) shapeCasts_S256_S1x256
/-- The accumulator after a chunk: the old one rescaled, plus values times exponentiated scores. -/
def accStep (v : Vc F) (m mn : Row F) (a : Ac F) (s : Sc F) : Ac F :=
  addf (mulf (broadcastTo S80x256 (exp2 (subf m mn)) broadcasts_S1x256_S80x256) a)
    (matmul dot_S80x256_S256x256_S80x256_1_0_0_1_n_n none (shapeCast S80x256 v shapeCasts_S1x1x1x80x256_S80x256)
      (truncf .bf16 (exp2 (subf s (broadcastTo S256x256 mn broadcasts_S1x256_S256x256))) bitsLt_bf16_f32)
      (constant S80x256 .f32 0x00000000#32))

/-! ## The program -/

/-- Programs of the tensor core. -/
abbrev Pr (F : FTy → Type) [FloatOps F] [Named F] : Type → Type 1 := Prog (TpuEff nD τ sig (Elt F) Λ₀ .tc)
/-- A buffer of scores. -/
abbrev SBuf := Memref sig .tc .vmem S256x256 .f32

/-- What a trip carries: the current chunk's column maxima, the running maxima, the accumulators, by head. -/
abbrev Carry (F : FTy → Type) : Type :=
  Row F × Row F × Row F × Row F × Row F × Row F × Row F × Row F × Ac F × Ac F × Ac F × Ac F

/-- A whole score buffer loaded. -/
abbrev ldS (B : SBuf) : Pr F (Vec F S256x256 .f32) :=
  Prog.lift (.load B (Rect.unit (s := S256x256) ![0, 0] S256x256.size inb_S256x256_S256x256_0_0).toLoadRect (View.loadsAt_vmem h_S256x256))
/-- A whole score buffer stored. -/
abbrev stS (B : SBuf) (s : Sc F) : Pr F PUnit :=
  Prog.lift (.store B (Rect.unit (s := S256x256) ![0, 0] S256x256.size inb_S256x256_S256x256_0_0) s Finset.univ
    (View.stores_vmem_bits_univ h_S256x256 rfl) (.inl rfl))
/-- A chunk of keys loaded. -/
abbrev ldK (K : Memref sig .tc .vmem S1x1x8448x64 .bf16) (o : Fin 4 → Nat) (h : ∀ a, o a + S1x1x256x64.size a ≤ S1x1x8448x64.size a) :
    Pr F (Kc F) :=
  Prog.lift (.load K (Rect.unit (s := S1x1x8448x64) o S1x1x256x64.size h).toLoadRect (View.loadsAt_vmem h_S1x1x256x64))
/-- A chunk of transposed values loaded. -/
abbrev ldV (V : Memref sig .tc .vmem S1x1x33x80x256 .bf16) (o : Fin 5 → Nat) (h : ∀ a, o a + S1x1x1x80x256.size a ≤ S1x1x33x80x256.size a) :
    Pr F (Vc F) :=
  Prog.lift (.load V (Rect.unit (s := S1x1x33x80x256) o S1x1x1x80x256.size h).toLoadRect (View.loadsAt_vmem h_S1x1x1x80x256))

/-- The scores of one key chunk into the buffers `B`, and their column maxima. -/
def scoresP (K : Memref sig .tc .vmem S1x1x8448x64 .bf16) (B0 B1 B2 B3 : SBuf) (q0 q1 q2 q3 : Qh F)
    (o : Fin 4 → Nat) (h : ∀ a, o a + S1x1x256x64.size a ≤ S1x1x8448x64.size a) : Pr F (Row F × Row F × Row F × Row F) := do
  let k ← ldK K o h
  let _ ← ldS B0
  stS B0 (stored (score q0 k))
  let _ ← ldS B1
  stS B1 (stored (score q1 k))
  let _ ← ldS B2
  stS B2 (stored (score q2 k))
  let _ ← ldS B3
  stS B3 (stored (score q3 k))
  pure (colMax (score q0 k), colMax (score q1 k), colMax (score q2 k), colMax (score q3 k))

/-- The running softmax updated by the chunk whose scores the buffers `B` hold, `n` the next chunk's maxima. -/
def softP (V : Memref sig .tc .vmem S1x1x33x80x256 .bf16) (B0 B1 B2 B3 : SBuf)
    (o : Fin 5 → Nat) (h : ∀ a, o a + S1x1x1x80x256.size a ≤ S1x1x33x80x256.size a)
    (n : Row F × Row F × Row F × Row F) : Carry F → Pr F (Carry F) :=
  fun (x0, x1, x2, x3, m0, m1, m2, m3, a0, a1, a2, a3) => do
  let v ← ldV V o h
  let s0 ← ldS B0
  let s1 ← ldS B1
  let s2 ← ldS B2
  let s3 ← ldS B3
  pure (n.1, n.2.1, n.2.2.1, n.2.2.2, maximumf m0 x0, maximumf m1 x1, maximumf m2 x2, maximumf m3 x3,
    accStep v m0 (maximumf m0 x0) a0 s0, accStep v m1 (maximumf m1 x1) a1 s1,
    accStep v m2 (maximumf m2 x2) a2 s2, accStep v m3 (maximumf m3 x3) a3 s3)

/-- Two chunks, `2 (8 t + u)` and the next. -/
def pairP (K : Memref sig .tc .vmem S1x1x8448x64 .bf16) (V : Memref sig .tc .vmem S1x1x33x80x256 .bf16)
    (A0 A1 A2 A3 B0 B1 B2 B3 : SBuf) (q0 q1 q2 q3 : Qh F) (t : Fin k0_t1_loop.trips) (u : Fin 8) (st : Carry F) : Pr F (Carry F) := do
  let n ← scoresP K B0 B1 B2 B3 q0 q1 q2 q3 (k0_off2 t (BitVec.ofNat 32 u.val) 1#32) (k0_off2_inb t u 0)
  let st ← softP V A0 A1 A2 A3 (k0_off3 t (BitVec.ofNat 32 u.val)) (k0_off3_inb t u) n st
  let n ← scoresP K A0 A1 A2 A3 q0 q1 q2 q3 (k0_off2 t (BitVec.ofNat 32 u.val) 2#32) (k0_off2_inb t u 1)
  softP V B0 B1 B2 B3 (k0_off4 t (BitVec.ofNat 32 u.val)) (k0_off4_inb t u) n st

/-- One trip: eight pairs. -/
def tripP (K : Memref sig .tc .vmem S1x1x8448x64 .bf16) (V : Memref sig .tc .vmem S1x1x33x80x256 .bf16)
    (A0 A1 A2 A3 B0 B1 B2 B3 : SBuf) (q0 q1 q2 q3 : Qh F) (t : Fin k0_t1_loop.trips) (st : Carry F) : Pr F (Carry F) := do
  let st ← pairP K V A0 A1 A2 A3 B0 B1 B2 B3 q0 q1 q2 q3 t 0 st
  let st ← pairP K V A0 A1 A2 A3 B0 B1 B2 B3 q0 q1 q2 q3 t 1 st
  let st ← pairP K V A0 A1 A2 A3 B0 B1 B2 B3 q0 q1 q2 q3 t 2 st
  let st ← pairP K V A0 A1 A2 A3 B0 B1 B2 B3 q0 q1 q2 q3 t 3 st
  let st ← pairP K V A0 A1 A2 A3 B0 B1 B2 B3 q0 q1 q2 q3 t 4 st
  let st ← pairP K V A0 A1 A2 A3 B0 B1 B2 B3 q0 q1 q2 q3 t 5 st
  let st ← pairP K V A0 A1 A2 A3 B0 B1 B2 B3 q0 q1 q2 q3 t 6 st
  pairP K V A0 A1 A2 A3 B0 B1 B2 B3 q0 q1 q2 q3 t 7 st

set_option maxRecDepth 10000000 in
set_option maxHeartbeats 4000000 in
/-- The printed region of the loop is the trip. -/
theorem body_eq (i : grid0.Coords) (arg3 : Memref sig .tc .vmem S4x64x256 .f32) (harg3 : arg3.IsWhole) (arg4 : Memref sig .tc .vmem S1x1x8448x64 .bf16) (harg4 : arg4.IsWhole) (arg5 : Memref sig .tc .vmem S1x1x33x80x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole)
    (q0 q1 q2 q3 : Qh F) (m0 m1 m2 m3 : Row F) (a0 a1 a2 a3 : Ac F) (w : BitVec 32) (t : Fin k0_t1_loop.trips) (st : Carry F) :
    k0_t1_body i arg3 harg3 arg4 harg4 arg5 harg5 arg6 harg6 arg7 harg7 arg8 harg8 arg9 harg9 arg10 harg10 arg11 harg11 arg12 harg12 arg13 harg13 arg14 harg14 q0 q1 q2 q3 m0 m1 m2 m3 a0 a1 a2 a3 w t st
      = tripP arg4 arg5 arg7 arg8 arg9 arg10 arg11 arg12 arg13 arg14 q0 q1 q2 q3 t st := rfl

end Cert.KernelIdeal.Attn

end
-- ==== Proof.Body.lean ====
/-
  The whole body as a program (`attnP`): the four heads' queries scaled, the first chunk's scores, the loop, the last
  chunk, the quotients stored.
-/
module

public import proofs.«01_k».proof.Proof.Step

@[expose] public section

noncomputable section

namespace Cert.KernelIdeal.Attn

open Cert.KernelIdeal Cert.KernelIdeal.Gen
open Idealize.ShloMosaic Idealize.SL.Sem

variable {F : FTy → Type} [FloatOps F] [Named F]

/-- A head's queries as the kernel multiplies by them. -/
def qHead (v : Vec F S1x64x256 .f32) : Qh F := k0_pay378 v

/-- One head's output from its accumulator: values over row 64, transposed. -/
def headOut (a : Ac F) : FVec F S256x64 .f32 :=
  transpose S256x64 [1, 0] (divf (extractStridedSlice S64x256 ![0, 0] a slices_S80x256_o0_0_S64x256)
    (broadcastTo S64x256 (extractStridedSlice S1x256 ![64, 0] a slices_S80x256_o64_0_S1x256) broadcasts_S1x256_S64x256))
    transposes_S64x256_p1_0_S256x64
/-- The block stored: the four heads side by side. -/
def outBlk (a0 a1 a2 a3 : Ac F) : FVec F S256x256 .bf16 :=
  truncf .bf16 (concatenate S256x256 1 [⟨S256x64, headOut a0⟩, ⟨S256x64, headOut a1⟩, ⟨S256x64, headOut a2⟩, ⟨S256x64, headOut a3⟩]
    concatenates_S256x64_S256x64_S256x64_S256x64_S256x256_d1) bitsLt_bf16_f32

/-- One head's queries loaded. -/
abbrev ldQ (M : Memref sig .tc .vmem S4x64x256 .f32) (o : Fin 3 → Nat) (h : ∀ a, o a + S1x64x256.size a ≤ S4x64x256.size a) :
    Pr F (Vec F S1x64x256 .f32) :=
  Prog.lift (.load M (Rect.unit (s := S4x64x256) o S1x64x256.size h).toLoadRect (View.loadsAt_vmem h_S1x64x256))

/-- The body from the loop on: the loop, the last chunk, the quotients stored. -/
def tailP (i : grid0.Coords) (arg3 : Memref sig .tc .vmem S4x64x256 .f32) (harg3 : arg3.IsWhole) (arg4 : Memref sig .tc .vmem S1x1x8448x64 .bf16) (harg4 : arg4.IsWhole) (arg5 : Memref sig .tc .vmem S1x1x33x80x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (q0 q1 q2 q3 : Qh F) (st0 : Carry F) :
    Pr F PUnit := do
  let st ← Scf.Loop.for k0_t1_loop k0_t1_ok st0
    (k0_t1_body (F := F) i arg3 harg3 arg4 harg4 arg5 harg5 arg6 harg6 arg7 harg7 arg8 harg8 arg9 harg9 arg10 harg10 arg11 harg11 arg12 harg12 arg13 harg13 arg14 harg14
      q0 q1 q2 q3 k0_pay382 k0_pay382 k0_pay382 k0_pay382 k0_pay386 k0_pay386 k0_pay386 k0_pay386
      (Scalar.muli (Scalar.minsi 0#32 32#32) 256#32))
  let st ← softP arg5 arg7 arg8 arg9 arg10 ![0, 0, 32, 0, 0] inb_S1x1x33x80x256_S1x1x1x80x256_0_0_32_0_0
    (st.1, st.2.1, st.2.2.1, st.2.2.2.1) st
  let _ ← (Prog.lift (.load arg6 (Rect.unit (s := S256x256) ![0, 0] S256x256.size inb_S256x256_S256x256_0_0).toLoadRect (View.loadsAt_vmem h_S256x256)) : Pr F (Vec F S256x256 .bf16))
  Prog.lift (.store arg6 (Rect.unit (s := S256x256) ![0, 0] S256x256.size inb_S256x256_S256x256_0_0)
    (outBlk st.2.2.2.2.2.2.2.2.1 st.2.2.2.2.2.2.2.2.2.1 st.2.2.2.2.2.2.2.2.2.2.1 st.2.2.2.2.2.2.2.2.2.2.2) Finset.univ
    (View.stores_vmem h_S256x256 (harg6.storeExact_slice rfl _ packedbf16_S256x256_S256x256_0_0) (fun _ => rfl)) (.inl rfl))
  pure ⟨⟩

/-- The body of the kernel. -/
def attnP (i : grid0.Coords) (arg3 : Memref sig .tc .vmem S4x64x256 .f32) (harg3 : arg3.IsWhole) (arg4 : Memref sig .tc .vmem S1x1x8448x64 .bf16) (harg4 : arg4.IsWhole) (arg5 : Memref sig .tc .vmem S1x1x33x80x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) :
    Pr F PUnit := do
  let v0 ← ldQ arg3 ![0, 0, 0] inb_S4x64x256_S1x64x256_0_0_0
  let v1 ← ldQ arg3 ![1, 0, 0] inb_S4x64x256_S1x64x256_1_0_0
  let v2 ← ldQ arg3 ![2, 0, 0] inb_S4x64x256_S1x64x256_2_0_0
  let v3 ← ldQ arg3 ![3, 0, 0] inb_S4x64x256_S1x64x256_3_0_0
  let n ← scoresP arg4 arg7 arg8 arg9 arg10 (qHead v0) (qHead v1) (qHead v2) (qHead v3) k0_off1 k0_off1_inb
  tailP i arg3 harg3 arg4 harg4 arg5 harg5 arg6 harg6 arg7 harg7 arg8 harg8 arg9 harg9 arg10 harg10 arg11 harg11 arg12 harg12 arg13 harg13 arg14 harg14 (qHead v0) (qHead v1) (qHead v2) (qHead v3)
    (n.1, n.2.1, n.2.2.1, n.2.2.2, k0_pay382, k0_pay382, k0_pay382, k0_pay382, k0_pay386, k0_pay386, k0_pay386, k0_pay386)

set_option maxRecDepth 1000000 in
set_option maxHeartbeats 4000000 in
/-- The printed body is that program. -/
theorem attn_eq (i : grid0.Coords) (arg3 : Memref sig .tc .vmem S4x64x256 .f32) (harg3 : arg3.IsWhole) (arg4 : Memref sig .tc .vmem S1x1x8448x64 .bf16) (harg4 : arg4.IsWhole) (arg5 : Memref sig .tc .vmem S1x1x33x80x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) :
    cc0_attention (F := F) i arg3 harg3 arg4 harg4 arg5 harg5 arg6 harg6 arg7 harg7 arg8 harg8 arg9 harg9 arg10 harg10 arg11 harg11 arg12 harg12 arg13 harg13 arg14 harg14
      = attnP i arg3 harg3 arg4 harg4 arg5 harg5 arg6 harg6 arg7 harg7 arg8 harg8 arg9 harg9 arg10 harg10 arg11 harg11 arg12 harg12 arg13 harg13 arg14 harg14 :=
  by
  refine Eq.trans (b := cc0_attention_skel (F := F) i arg3 harg3 arg4 harg4 arg5 harg5 arg6 harg6 arg7 harg7 arg8 harg8 arg9 harg9 arg10 harg10 arg11 harg11 arg12 harg12 arg13 harg13 arg14 harg14) rfl ?_
  unfold cc0_attention_skel attnP
  rw [k0_part35_eq_skeleton, k0_part36_eq_skeleton, k0_part37_eq_skeleton]
  unfold k0_part35_skel k0_part36_skel k0_part37_skel
  refine congrArg (Prog.op _) (funext fun v => ?_)
  refine congrArg (Prog.op _) (funext fun v => ?_)
  refine congrArg (Prog.op _) (funext fun v => ?_)
  refine congrArg (Prog.op _) (funext fun v => ?_)
  refine congrArg (Prog.op _) (funext fun v => ?_)
  refine congrArg (Prog.op _) (funext fun v => ?_)
  refine congrArg (Prog.op _) (funext fun v => ?_)
  refine congrArg (Prog.op _) (funext fun v => ?_)
  refine congrArg (Prog.op _) (funext fun v => ?_)
  refine congrArg (Prog.op _) (funext fun v => ?_)
  refine congrArg (Prog.op _) (funext fun v => ?_)
  refine congrArg (Prog.op _) (funext fun v => ?_)
  refine congrArg (Prog.op _) (funext fun v => ?_)
  refine Eq.trans (Prog.bind_assoc (Scf.Loop.for k0_t1_loop k0_t1_ok _ _) _ _) ?_
  rfl

end Cert.KernelIdeal.Attn

end
-- ==== Proof.Triple.lean ====
/-
  What a chunk's two steps do to the buffers (`scores_spec`, `soft_spec`), and so what a pair, a trip and the loop do.
-/
module

public import proofs.«01_k».proof.Proof.Step
public import proofs.«01_k».proof.Proof.Gen.KernelIdeal.Frame
public import Idealize.ShloMosaic.Lib.Tactic
public import Idealize.ShloMosaic.Lib.Pipeline.Value

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- No loop of the program needs a bound. -/
abbrev 𝒱₀ : Variants := Variants.none

/-! ## Loads and stores of memrefs held by what they read -/

/-- A rectangle loaded from a memref that reads `X`. -/
theorem ld_spec (c : Dev nD) {s : Shape} {e : EltTy} (M : Memref sig .tc .vmem s e) (r : Rect s)
    (hl : M.view.LoadsAt r.toLoadRect) (X : s.Idx → Elt F e) (Q : (r.shape.Idx → Elt F e) → sProp 𝕄) :
    iprop(owns (c : Thread nD τ) M fullShare X ∗ (owns (c : Thread nD τ) M fullShare X -∗ Q (View.ld X r)))
      ⊢ wp frame (wpE (defs₀ (F := F)) 𝒱₀ c none) Set.univ (Prog.lift (.load M r.toLoadRect hl)) Q := by
  unfold owns
  iintro ⟨⟨%f, %hf, H⟩, Hk⟩
  unfold Prog.lift
  iapply (wp_load 𝒱₀ (c : Thread nD τ) none Set.univ (m := M) (View.setOn_subset_set _ _)) $$ H
  iintro H
  rw [wp_ret]
  imodintro
  rw [show M.view.readAt (Elt F) r.toLoadRect f = View.ld X r by rw [View.readAt_eq_ld, hf]]
  iapply Hk
  iexists f
  isplitr
  · ipureintro; exact hf
  iexact H

/-- The offset at the origin. -/
theorem h00 : (![0, 0] : Fin 2 → Nat) = fun _ => 0 := funext fun a => by fin_cases a <;> rfl

/-- A whole square buffer overwritten. -/
theorem st_spec (c : Dev nD) {e : EltTy} (M : Memref sig .tc .vmem S256x256 e)
    {hx : (M.access (Rect.unit (s := S256x256) ![0, 0] S256x256.size inb_S256x256_S256x256_0_0)).Stores Finset.univ} {hm}
    (w X : S256x256.Idx → Elt F e) (Q : PUnit → sProp 𝕄) :
    iprop(owns (c : Thread nD τ) M fullShare X ∗ (owns (c : Thread nD τ) M fullShare w -∗ Q ⟨⟩))
      ⊢ wp frame (wpE (defs₀ (F := F)) 𝒱₀ c none) Set.univ
          (Prog.lift (.store M (Rect.unit (s := S256x256) ![0, 0] S256x256.size inb_S256x256_S256x256_0_0) w Finset.univ hx hm)) Q := by
  unfold owns
  iintro ⟨⟨%f, %hf, H⟩, Hk⟩
  unfold Prog.lift
  iapply (wp_store 𝒱₀ (c : Thread nD τ) none Set.univ (m := M) (S := M.view.set)
    (r := Rect.unit (s := S256x256) ![0, 0] S256x256.size inb_S256x256_S256x256_0_0) (Mk := Finset.univ)
    ((View.setOn_subset_set _ _).trans (View.set_slice_subset _ _))) $$ H
  iintro H
  rw [wp_ret]
  imodintro
  iapply Hk
  iexists _
  isplitr; swap
  · iexact H
  ipureintro
  exact (View.ld_unit_zero (S := S256x256) h00 inb_S256x256_S256x256_0_0 _).symm.trans
    (View.read_write_univ (v := M.access (Rect.unit (s := S256x256) ![0, 0] S256x256.size inb_S256x256_S256x256_0_0)) f w)

/-! ## Chunks -/

/-- A chunk of keys lies inside the keys. -/
theorem kInb (j : Nat) : ∀ a, (![0, 0, 256 * min j 32, 0] : Fin 4 → Nat) a + S1x1x256x64.size a ≤ S1x1x8448x64.size a := by
  intro a
  have := Nat.min_le_right j 32
  fin_cases a <;> simp [Shape.size] <;> omega
/-- A chunk of values lies inside the values. -/
theorem vInb (j : Nat) : ∀ a, (![0, 0, min j 32, 0, 0] : Fin 5 → Nat) a + S1x1x1x80x256.size a ≤ S1x1x33x80x256.size a := by
  intro a
  have := Nat.min_le_right j 32
  fin_cases a <;> simp [Shape.size] <;> omega

/-- Key chunk `j`. -/
def kCh (kb : Vec F S1x1x8448x64 .bf16) (j : Nat) : Kc F :=
  View.ld kb (Rect.unit (s := S1x1x8448x64) ![0, 0, 256 * min j 32, 0] S1x1x256x64.size (kInb j))
/-- Value chunk `j`. -/
def vCh (vb : Vec F S1x1x33x80x256 .bf16) (j : Nat) : Vc F :=
  View.ld vb (Rect.unit (s := S1x1x33x80x256) ![0, 0, min j 32, 0, 0] S1x1x1x80x256.size (vInb j))

/-- Where the loop reads its keys. -/
theorem off2_eq (t : Fin k0_t1_loop.trips) (u : Fin 8) (r : Fin 2) :
    k0_off2 t (BitVec.ofNat 32 u.val) (BitVec.ofNat 32 (1 + r.val)) = ![0, 0, 256 * min (16 * t.val + 2 * u.val + 1 + r.val) 32, 0] := by
  rw [k0_off2_eq]
  have ht : t.val < 2 := lt_of_lt_of_eq t.isLt (by decide)
  have := u.isLt; have := r.isLt
  congr 3; congr 1; omega
/-- Where the loop reads the values of an even chunk. -/
theorem off3_eq (t : Fin k0_t1_loop.trips) (u : Fin 8) :
    k0_off3 t (BitVec.ofNat 32 u.val) = ![0, 0, min (16 * t.val + 2 * u.val) 32, 0, 0] := by
  rw [k0_off3_eq]
  have ht : t.val < 2 := lt_of_lt_of_eq t.isLt (by decide)
  have := u.isLt
  congr 3; congr 1; omega
/-- Where the loop reads the values of an odd chunk. -/
theorem off4_eq (t : Fin k0_t1_loop.trips) (u : Fin 8) :
    k0_off4 t (BitVec.ofNat 32 u.val) = ![0, 0, min (16 * t.val + 2 * u.val + 1) 32, 0, 0] := by
  rw [k0_off4_eq]
  have ht : t.val < 2 := lt_of_lt_of_eq t.isLt (by decide)
  have := u.isLt
  congr 3; congr 1; omega

/-! ## The running softmax by chunks -/

/-- The scores of chunk `j` against a head's queries. -/
def sc (kb : Vec F S1x1x8448x64 .bf16) (q : Qh F) (j : Nat) : Sc F := score q (kCh kb j)

/-- A head's running maximum and accumulator after `j` chunks. -/
def fold (kb : Vec F S1x1x8448x64 .bf16) (vb : Vec F S1x1x33x80x256 .bf16) (q : Qh F) : Nat → Row F × Ac F
  | 0 => (k0_pay382, k0_pay386)
  | j + 1 => (maximumf (fold kb vb q j).1 (colMax (sc kb q j)),
      accStep (vCh vb j) (fold kb vb q j).1 (maximumf (fold kb vb q j).1 (colMax (sc kb q j))) (fold kb vb q j).2 (stored (sc kb q j)))

/-- What is carried once `j` chunks are folded in and the scores of chunk `j` are in the scratch. -/
def carryAt (kb : Vec F S1x1x8448x64 .bf16) (vb : Vec F S1x1x33x80x256 .bf16) (q0 q1 q2 q3 : Qh F) (j : Nat) : Carry F :=
  (colMax (sc kb q0 j), colMax (sc kb q1 j), colMax (sc kb q2 j), colMax (sc kb q3 j),
    (fold kb vb q0 j).1, (fold kb vb q1 j).1, (fold kb vb q2 j).1, (fold kb vb q3 j).1,
    (fold kb vb q0 j).2, (fold kb vb q1 j).2, (fold kb vb q2 j).2, (fold kb vb q3 j).2)

/-- Four score buffers holding chunk `j`'s scores. -/
def held (c : Dev nD) (B0 B1 B2 B3 : SBuf) (kb : Vec F S1x1x8448x64 .bf16) (q0 q1 q2 q3 : Qh F) (j : Nat) : sProp 𝕄 :=
  iprop(owns (c : Thread nD τ) B0 fullShare (stored (sc kb q0 j)) ∗ owns (c : Thread nD τ) B1 fullShare (stored (sc kb q1 j))
    ∗ owns (c : Thread nD τ) B2 fullShare (stored (sc kb q2 j)) ∗ owns (c : Thread nD τ) B3 fullShare (stored (sc kb q3 j)))
/-- Four score buffers holding anything. -/
def free (c : Dev nD) (B0 B1 B2 B3 : SBuf) : sProp 𝕄 :=
  iprop((∃ d : Vec F S256x256 .f32, owns (c : Thread nD τ) B0 fullShare d) ∗ (∃ d : Vec F S256x256 .f32, owns (c : Thread nD τ) B1 fullShare d)
    ∗ (∃ d : Vec F S256x256 .f32, owns (c : Thread nD τ) B2 fullShare d) ∗ (∃ d : Vec F S256x256 .f32, owns (c : Thread nD τ) B3 fullShare d))

/-- What the score buffers hold may be forgotten. -/
theorem free_of_held (c : Dev nD) (B0 B1 B2 B3 : SBuf) (kb : Vec F S1x1x8448x64 .bf16) (q0 q1 q2 q3 : Qh F) (j : Nat) :
    held c B0 B1 B2 B3 kb q0 q1 q2 q3 j ⊢ free (F := F) c B0 B1 B2 B3 := by
  unfold held free
  iintro ⟨H0, H1, H2, H3⟩
  isplitl [H0]; · iexists _; iexact H0
  isplitl [H1]; · iexists _; iexact H1
  isplitl [H2]; · iexists _; iexact H2
  iexists _; iexact H3

variable (c : Dev nD) (K : Memref sig .tc .vmem S1x1x8448x64 .bf16) (V : Memref sig .tc .vmem S1x1x33x80x256 .bf16)
  (A0 A1 A2 A3 B0 B1 B2 B3 : SBuf) (kb : Vec F S1x1x8448x64 .bf16) (vb : Vec F S1x1x33x80x256 .bf16) (q0 q1 q2 q3 : Qh F)

/-- A whole score buffer loaded. -/
theorem ldS_spec (B : SBuf) (X : Vec F S256x256 .f32) (Q : Vec F S256x256 .f32 → sProp 𝕄) :
    iprop(owns (c : Thread nD τ) B fullShare X ∗ (owns (c : Thread nD τ) B fullShare X -∗ Q X))
      ⊢ wp frame (wpE (defs₀ (F := F)) 𝒱₀ c none) Set.univ (ldS B) Q := by
  have h := ld_spec (F := F) c B (Rect.unit (s := S256x256) ![0, 0] S256x256.size inb_S256x256_S256x256_0_0)
    (View.loadsAt_vmem h_S256x256) X Q
  rwa [View.ld_unit_zero (S := S256x256) h00 inb_S256x256_S256x256_0_0 X] at h
/-- Key chunk `j` loaded. -/
theorem ldK_spec (o : Fin 4 → Nat) (h : ∀ a, o a + S1x1x256x64.size a ≤ S1x1x8448x64.size a) (j : Nat)
    (ho : o = ![0, 0, 256 * min j 32, 0]) (Q : Kc F → sProp 𝕄) :
    iprop(owns (c : Thread nD τ) K fullShare kb ∗ (owns (c : Thread nD τ) K fullShare kb -∗ Q (kCh kb j)))
      ⊢ wp frame (wpE (defs₀ (F := F)) 𝒱₀ c none) Set.univ (ldK K o h) Q := by
  subst ho; exact ld_spec c K (Rect.unit (s := S1x1x8448x64) _ S1x1x256x64.size h) _ kb Q
/-- Value chunk `j` loaded. -/
theorem ldV_spec (o : Fin 5 → Nat) (h : ∀ a, o a + S1x1x1x80x256.size a ≤ S1x1x33x80x256.size a) (j : Nat)
    (ho : o = ![0, 0, min j 32, 0, 0]) (Q : Vc F → sProp 𝕄) :
    iprop(owns (c : Thread nD τ) V fullShare vb ∗ (owns (c : Thread nD τ) V fullShare vb -∗ Q (vCh vb j)))
      ⊢ wp frame (wpE (defs₀ (F := F)) 𝒱₀ c none) Set.univ (ldV V o h) Q := by
  subst ho; exact ld_spec c V (Rect.unit (s := S1x1x33x80x256) _ S1x1x1x80x256.size h) _ vb Q

/-- Chunk `j`'s scores computed into four free buffers. -/
theorem scores_spec (o : Fin 4 → Nat) (h : ∀ a, o a + S1x1x256x64.size a ≤ S1x1x8448x64.size a) (j : Nat)
    (ho : o = ![0, 0, 256 * min j 32, 0]) (Q : Row F × Row F × Row F × Row F → sProp 𝕄) :
    iprop(owns (c : Thread nD τ) K fullShare kb ∗ free (F := F) c B0 B1 B2 B3
        ∗ ((owns (c : Thread nD τ) K fullShare kb ∗ held c B0 B1 B2 B3 kb q0 q1 q2 q3 j)
          -∗ Q (colMax (sc kb q0 j), colMax (sc kb q1 j), colMax (sc kb q2 j), colMax (sc kb q3 j))))
      ⊢ wp frame (wpE (defs₀ (F := F)) 𝒱₀ c none) Set.univ (scoresP K B0 B1 B2 B3 q0 q1 q2 q3 o h) Q := by
  unfold free held scoresP stS
  iintro ⟨HK, ⟨⟨%d0, H0⟩, ⟨%d1, H1⟩, ⟨%d2, H2⟩, ⟨%d3, H3⟩⟩, Hk⟩
  rw [wp_bind]
  iapply (ldK_spec c K kb o h j ho)
  isplitl [HK]; · iexact HK
  iintro HK
  rw [wp_bind]
  iapply (ldS_spec c B0 d0); isplitl [H0]; · iexact H0
  iintro H0
  rw [wp_bind]
  iapply (st_spec c B0 _ d0); isplitl [H0]; · iexact H0
  iintro H0
  rw [wp_bind]
  iapply (ldS_spec c B1 d1); isplitl [H1]; · iexact H1
  iintro H1
  rw [wp_bind]
  iapply (st_spec c B1 _ d1); isplitl [H1]; · iexact H1
  iintro H1
  rw [wp_bind]
  iapply (ldS_spec c B2 d2); isplitl [H2]; · iexact H2
  iintro H2
  rw [wp_bind]
  iapply (st_spec c B2 _ d2); isplitl [H2]; · iexact H2
  iintro H2
  rw [wp_bind]
  iapply (ldS_spec c B3 d3); isplitl [H3]; · iexact H3
  iintro H3
  rw [wp_bind]
  iapply (st_spec c B3 _ d3); isplitl [H3]; · iexact H3
  iintro H3
  rw [wp_pure]
  imodintro
  simp only [sc]
  iapply Hk
  isplitl [HK]; · iexact HK
  isplitl [H0]; · iexact H0
  isplitl [H1]; · iexact H1
  isplitl [H2]; · iexact H2
  iexact H3

/-- Chunk `j` folded in from the buffers that hold its scores. -/
theorem soft_spec (o : Fin 5 → Nat) (h : ∀ a, o a + S1x1x1x80x256.size a ≤ S1x1x33x80x256.size a) (j : Nat)
    (ho : o = ![0, 0, min j 32, 0, 0]) (Q : Carry F → sProp 𝕄) :
    iprop(owns (c : Thread nD τ) V fullShare vb ∗ held c B0 B1 B2 B3 kb q0 q1 q2 q3 j
        ∗ ((owns (c : Thread nD τ) V fullShare vb ∗ free (F := F) c B0 B1 B2 B3) -∗ Q (carryAt kb vb q0 q1 q2 q3 (j + 1))))
      ⊢ wp frame (wpE (defs₀ (F := F)) 𝒱₀ c none) Set.univ (softP V B0 B1 B2 B3 o h
          (colMax (sc kb q0 (j + 1)), colMax (sc kb q1 (j + 1)), colMax (sc kb q2 (j + 1)), colMax (sc kb q3 (j + 1)))
          (carryAt kb vb q0 q1 q2 q3 j)) Q := by
  iintro ⟨HV, HB, Hk⟩
  unfold held carryAt softP
  dsimp only
  icases HB with ⟨H0, H1, H2, H3⟩
  rw [wp_bind]
  iapply (ldV_spec c V vb o h j ho)
  isplitl [HV]; · iexact HV
  iintro HV
  rw [wp_bind]
  iapply (ldS_spec c B0 _); isplitl [H0]; · iexact H0
  iintro H0
  rw [wp_bind]
  iapply (ldS_spec c B1 _); isplitl [H1]; · iexact H1
  iintro H1
  rw [wp_bind]
  iapply (ldS_spec c B2 _); isplitl [H2]; · iexact H2
  iintro H2
  rw [wp_bind]
  iapply (ldS_spec c B3 _); isplitl [H3]; · iexact H3
  iintro H3
  rw [wp_pure]
  imodintro
  simp only [fold]
  iapply Hk
  isplitl [HV]; · iexact HV
  unfold free
  isplitl [H0]; · iexists _; iexact H0
  isplitl [H1]; · iexists _; iexact H1
  isplitl [H2]; · iexists _; iexact H2
  iexists _; iexact H3

/-- Before chunk `j`: the operands, `A` holding chunk `j`'s scores, `B` free. -/
def at_ (j : Nat) : sProp 𝕄 :=
  iprop(owns (c : Thread nD τ) K fullShare kb ∗ owns (c : Thread nD τ) V fullShare vb
    ∗ held c A0 A1 A2 A3 kb q0 q1 q2 q3 j ∗ free (F := F) c B0 B1 B2 B3)

/-- A pair folds in two chunks. -/
theorem pair_spec (t : Fin k0_t1_loop.trips) (u : Fin 8) (Q : Carry F → sProp 𝕄) :
    iprop(at_ c K V A0 A1 A2 A3 B0 B1 B2 B3 kb vb q0 q1 q2 q3 (16 * t.val + 2 * u.val)
        ∗ (at_ c K V A0 A1 A2 A3 B0 B1 B2 B3 kb vb q0 q1 q2 q3 (16 * t.val + 2 * u.val + 2)
          -∗ Q (carryAt kb vb q0 q1 q2 q3 (16 * t.val + 2 * u.val + 2))))
      ⊢ wp frame (wpE (defs₀ (F := F)) 𝒱₀ c none) Set.univ
          (pairP K V A0 A1 A2 A3 B0 B1 B2 B3 q0 q1 q2 q3 t u (carryAt kb vb q0 q1 q2 q3 (16 * t.val + 2 * u.val))) Q := by
  unfold at_ pairP
  iintro ⟨⟨HK, HV, HA, HB⟩, Hk⟩
  rw [wp_bind]
  iapply (scores_spec c K B0 B1 B2 B3 kb q0 q1 q2 q3 _ _ (16 * t.val + 2 * u.val + 1) (off2_eq t u 0))
  isplitl [HK]; · iexact HK
  isplitl [HB]; · iexact HB
  iintro ⟨HK, HB⟩
  rw [wp_bind]
  iapply (soft_spec c V A0 A1 A2 A3 kb vb q0 q1 q2 q3 _ _ (16 * t.val + 2 * u.val) (off3_eq t u))
  isplitl [HV]; · iexact HV
  isplitl [HA]; · iexact HA
  iintro ⟨HV, HA⟩
  rw [wp_bind]
  iapply (scores_spec c K A0 A1 A2 A3 kb q0 q1 q2 q3 _ _ (16 * t.val + 2 * u.val + 2) (off2_eq t u 1))
  isplitl [HK]; · iexact HK
  isplitl [HA]; · iexact HA
  iintro ⟨HK, HA⟩
  iapply (soft_spec c V B0 B1 B2 B3 kb vb q0 q1 q2 q3 _ _ (16 * t.val + 2 * u.val + 1) (off4_eq t u))
  isplitl [HV]; · iexact HV
  isplitl [HB]; · iexact HB
  iintro ⟨HV, HB⟩
  iapply Hk
  isplitl [HK]; · iexact HK
  isplitl [HV]; · iexact HV
  isplitl [HA]; · iexact HA
  iexact HB

/-- A trip folds in sixteen. -/
theorem trip_spec (t : Fin k0_t1_loop.trips) (Q : Carry F → sProp 𝕄) :
    iprop(at_ c K V A0 A1 A2 A3 B0 B1 B2 B3 kb vb q0 q1 q2 q3 (16 * t.val)
        ∗ (at_ c K V A0 A1 A2 A3 B0 B1 B2 B3 kb vb q0 q1 q2 q3 (16 * (t.val + 1))
          -∗ Q (carryAt kb vb q0 q1 q2 q3 (16 * (t.val + 1)))))
      ⊢ wp frame (wpE (defs₀ (F := F)) 𝒱₀ c none) Set.univ
          (tripP K V A0 A1 A2 A3 B0 B1 B2 B3 q0 q1 q2 q3 t (carryAt kb vb q0 q1 q2 q3 (16 * t.val))) Q := by
  unfold tripP
  iintro ⟨H, Hk⟩
  rw [wp_bind]; iapply (pair_spec c K V A0 A1 A2 A3 B0 B1 B2 B3 kb vb q0 q1 q2 q3 t 0); isplitl [H]; · iexact H
  iintro H
  rw [wp_bind]; iapply (pair_spec c K V A0 A1 A2 A3 B0 B1 B2 B3 kb vb q0 q1 q2 q3 t 1); isplitl [H]; · iexact H
  iintro H
  rw [wp_bind]; iapply (pair_spec c K V A0 A1 A2 A3 B0 B1 B2 B3 kb vb q0 q1 q2 q3 t 2); isplitl [H]; · iexact H
  iintro H
  rw [wp_bind]; iapply (pair_spec c K V A0 A1 A2 A3 B0 B1 B2 B3 kb vb q0 q1 q2 q3 t 3); isplitl [H]; · iexact H
  iintro H
  rw [wp_bind]; iapply (pair_spec c K V A0 A1 A2 A3 B0 B1 B2 B3 kb vb q0 q1 q2 q3 t 4); isplitl [H]; · iexact H
  iintro H
  rw [wp_bind]; iapply (pair_spec c K V A0 A1 A2 A3 B0 B1 B2 B3 kb vb q0 q1 q2 q3 t 5); isplitl [H]; · iexact H
  iintro H
  rw [wp_bind]; iapply (pair_spec c K V A0 A1 A2 A3 B0 B1 B2 B3 kb vb q0 q1 q2 q3 t 6); isplitl [H]; · iexact H
  iintro H
  iapply (pair_spec c K V A0 A1 A2 A3 B0 B1 B2 B3 kb vb q0 q1 q2 q3 t 7); isplitl [H]; · iexact H
  iintro H
  iapply Hk
  iexact H

end Cert.KernelIdeal.Attn

end
-- ==== Proof.Attn.lean ====
/-
  What the body leaves in the result's block (`attn_spec`), and the run of the pipeline over the grid (`run_main`).
-/
module

public import proofs.«01_k».proof.Proof.Body
public import proofs.«01_k».proof.Proof.Triple

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

/-- A head's queries, as the kernel multiplies by them, from the block of four heads. -/
def qOf (qb : Vec F S4x64x256 .f32) (o : Fin 3 → Nat) (h : ∀ a, o a + S1x64x256.size a ≤ S4x64x256.size a) : Qh F :=
  qHead (View.ld qb (Rect.unit (s := S4x64x256) o S1x64x256.size h))

/-- The block the body stores, from the blocks it reads. -/
def blockOut (qb : Vec F S4x64x256 .f32) (kb : Vec F S1x1x8448x64 .bf16) (vb : Vec F S1x1x33x80x256 .bf16) : FVec F S256x256 .bf16 :=
  outBlk (fold kb vb (qOf qb ![0, 0, 0] inb_S4x64x256_S1x64x256_0_0_0) 33).2 (fold kb vb (qOf qb ![1, 0, 0] inb_S4x64x256_S1x64x256_1_0_0) 33).2
    (fold kb vb (qOf qb ![2, 0, 0] inb_S4x64x256_S1x64x256_2_0_0) 33).2 (fold kb vb (qOf qb ![3, 0, 0] inb_S4x64x256_S1x64x256_3_0_0) 33).2

/-- A head's queries loaded. -/
theorem ldQ_spec (c : Dev nD) (M : Memref sig .tc .vmem S4x64x256 .f32) (qb : Vec F S4x64x256 .f32) (o : Fin 3 → Nat)
    (h : ∀ a, o a + S1x64x256.size a ≤ S4x64x256.size a) (Q : Vec F S1x64x256 .f32 → sProp 𝕄) :
    iprop(owns (c : Thread nD τ) M fullShare qb ∗ (owns (c : Thread nD τ) M fullShare qb
          -∗ Q (View.ld qb (Rect.unit (s := S4x64x256) o S1x64x256.size h))))
      ⊢ wp frame (wpE (defs₀ (F := F)) 𝒱₀ c none) Set.univ (ldQ M o h) Q :=
  ld_spec c M (Rect.unit (s := S4x64x256) o S1x64x256.size h) _ qb Q

/-- The loop folds in thirty-two chunks. -/
theorem loop_spec (c : Dev nD) (i : grid0.Coords) (arg3 : Memref sig .tc .vmem S4x64x256 .f32) (harg3 : arg3.IsWhole) (arg4 : Memref sig .tc .vmem S1x1x8448x64 .bf16) (harg4 : arg4.IsWhole) (arg5 : Memref sig .tc .vmem S1x1x33x80x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole)
    (kb : Vec F S1x1x8448x64 .bf16) (vb : Vec F S1x1x33x80x256 .bf16) (q0 q1 q2 q3 : Qh F) (m0 m1 m2 m3 : Row F) (a0 a1 a2 a3 : Ac F) (w : BitVec 32)
    (st0 : Carry F) (hst : st0 = carryAt kb vb q0 q1 q2 q3 0) (Q : Carry F → sProp 𝕄) :
    iprop(at_ c arg4 arg5 arg7 arg8 arg9 arg10 arg11 arg12 arg13 arg14 kb vb q0 q1 q2 q3 0
        ∗ (at_ c arg4 arg5 arg7 arg8 arg9 arg10 arg11 arg12 arg13 arg14 kb vb q0 q1 q2 q3 32 -∗ Q (carryAt kb vb q0 q1 q2 q3 32)))
      ⊢ wp frame (wpE (defs₀ (F := F)) 𝒱₀ c none) Set.univ
          (Scf.Loop.for k0_t1_loop k0_t1_ok st0
            (k0_t1_body (F := F) i arg3 harg3 arg4 harg4 arg5 harg5 arg6 harg6 arg7 harg7 arg8 harg8 arg9 harg9 arg10 harg10 arg11 harg11 arg12 harg12 arg13 harg13 arg14 harg14 q0 q1 q2 q3 m0 m1 m2 m3 a0 a1 a2 a3 w)) Q := by
  subst hst
  refine BIBase.Entails.trans ?_ (Scf.wp_for (hok := k0_t1_ok) (init := carryAt kb vb q0 q1 q2 q3 0)
    (I := fun j acc => iprop(⌜acc = carryAt kb vb q0 q1 q2 q3 (16 * j)⌝ ∗ at_ c arg4 arg5 arg7 arg8 arg9 arg10 arg11 arg12 arg13 arg14 kb vb q0 q1 q2 q3 (16 * j))) (hbody := ?_))
  · iintro ⟨H, Hk⟩
    isplitl [H]
    · isplitr; · ipureintro; rfl
      iexact H
    iintro %acc ⟨%hacc, H⟩
    rw [hacc, show 16 * Scf.trips k0_t1_loop.lb k0_t1_loop.ub k0_t1_loop.st = 32 by decide]
    iapply Hk
    iexact H
  · intro k acc
    iintro ⟨%hacc, H⟩
    rw [hacc, body_eq]
    iapply (trip_spec c arg4 arg5 arg7 arg8 arg9 arg10 arg11 arg12 arg13 arg14 kb vb q0 q1 q2 q3 k)
    isplitl [H]; · iexact H
    iintro H
    isplitr; · ipureintro; rfl
    iexact H

/-- Past the last chunk the last is read again. -/
theorem kCh_last (kb : Vec F S1x1x8448x64 .bf16) : kCh kb (32 + 1) = kCh kb 32 := by
  have h : ∀ a b : Nat, min a 32 = min b 32 → kCh kb a = kCh kb b := by
    intro a b e
    have e' : (![0, 0, 256 * min a 32, 0] : Fin 4 → Nat) = ![0, 0, 256 * min b 32, 0] := by rw [e]
    have g : ∀ (o o' : Fin 4 → Nat) (ho : ∀ x, o x + S1x1x256x64.size x ≤ S1x1x8448x64.size x)
        (ho' : ∀ x, o' x + S1x1x256x64.size x ≤ S1x1x8448x64.size x), o = o' →
        View.ld kb (Rect.unit (s := S1x1x8448x64) o S1x1x256x64.size ho) = View.ld kb (Rect.unit (s := S1x1x8448x64) o' S1x1x256x64.size ho') := by
      intro o o' ho ho' e; subst e; rfl
    exact g _ _ _ _ e'
  exact h 33 32 (by decide)

/-- `soft_spec` of a carry and maxima known to be those of chunk `j`. -/
theorem soft_spec' (c : Dev nD) (V : Memref sig .tc .vmem S1x1x33x80x256 .bf16) (B0 B1 B2 B3 : SBuf)
    (kb : Vec F S1x1x8448x64 .bf16) (vb : Vec F S1x1x33x80x256 .bf16) (q0 q1 q2 q3 : Qh F)
    (o : Fin 5 → Nat) (h : ∀ a, o a + S1x1x1x80x256.size a ≤ S1x1x33x80x256.size a) (j : Nat)
    (ho : o = ![0, 0, min j 32, 0, 0]) (n : Row F × Row F × Row F × Row F)
    (hn : n = (colMax (sc kb q0 (j + 1)), colMax (sc kb q1 (j + 1)), colMax (sc kb q2 (j + 1)), colMax (sc kb q3 (j + 1))))
    (Q : Carry F → sProp 𝕄) :
    iprop(owns (c : Thread nD τ) V fullShare vb ∗ held c B0 B1 B2 B3 kb q0 q1 q2 q3 j
        ∗ ((owns (c : Thread nD τ) V fullShare vb ∗ free (F := F) c B0 B1 B2 B3) -∗ Q (carryAt kb vb q0 q1 q2 q3 (j + 1))))
      ⊢ wp frame (wpE (defs₀ (F := F)) 𝒱₀ c none) Set.univ (softP V B0 B1 B2 B3 o h n (carryAt kb vb q0 q1 q2 q3 j)) Q := by
  subst hn; exact soft_spec c V B0 B1 B2 B3 kb vb q0 q1 q2 q3 o h j ho Q

set_option maxHeartbeats 2000000 in
/-- From the loop on. -/
theorem tail_spec (c : Dev nD) (i : grid0.Coords) (arg3 : Memref sig .tc .vmem S4x64x256 .f32) (harg3 : arg3.IsWhole) (arg4 : Memref sig .tc .vmem S1x1x8448x64 .bf16) (harg4 : arg4.IsWhole) (arg5 : Memref sig .tc .vmem S1x1x33x80x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole)
    (kb : Vec F S1x1x8448x64 .bf16) (vb : Vec F S1x1x33x80x256 .bf16) (q0 q1 q2 q3 : Qh F)
    (st0 : Carry F) (hst : st0 = carryAt kb vb q0 q1 q2 q3 0) (Q : PUnit → sProp 𝕄) :
    iprop(at_ c arg4 arg5 arg7 arg8 arg9 arg10 arg11 arg12 arg13 arg14 kb vb q0 q1 q2 q3 0 ∗ (∃ d, owns (c : Thread nD τ) arg6 fullShare d)
        ∗ ((owns (c : Thread nD τ) arg4 fullShare kb ∗ owns (c : Thread nD τ) arg5 fullShare vb
          ∗ owns (c : Thread nD τ) arg6 fullShare (outBlk (fold kb vb q0 33).2 (fold kb vb q1 33).2 (fold kb vb q2 33).2 (fold kb vb q3 33).2)
          ∗ free (F := F) c arg7 arg8 arg9 arg10 ∗ free (F := F) c arg11 arg12 arg13 arg14) -∗ Q ⟨⟩))
      ⊢ wp frame (wpE (defs₀ (F := F)) 𝒱₀ c none) Set.univ (tailP i arg3 harg3 arg4 harg4 arg5 harg5 arg6 harg6 arg7 harg7 arg8 harg8 arg9 harg9 arg10 harg10 arg11 harg11 arg12 harg12 arg13 harg13 arg14 harg14 q0 q1 q2 q3 st0) Q := by
  unfold tailP
  iintro ⟨H, ⟨%d6, Ho⟩, Hk⟩
  rw [wp_bind]
  iapply (loop_spec c i arg3 harg3 arg4 harg4 arg5 harg5 arg6 harg6 arg7 harg7 arg8 harg8 arg9 harg9 arg10 harg10 arg11 harg11 arg12 harg12 arg13 harg13 arg14 harg14 kb vb q0 q1 q2 q3 _ _ _ _ _ _ _ _ _ st0 hst)
  isplitl [H]; · iexact H
  unfold at_
  iintro ⟨HK, HV, HA, HB⟩
  rw [wp_bind]
  iapply (soft_spec' c arg5 arg7 arg8 arg9 arg10 kb vb q0 q1 q2 q3 _ _ 32 rfl _
    (by simp only [carryAt, sc, kCh_last]))
  isplitl [HV]; · iexact HV
  isplitl [HA]; · iexact HA
  iintro ⟨HV, HA⟩
  rw [wp_bind]
  iapply (ld_spec c arg6 (Rect.unit (s := S256x256) ![0, 0] S256x256.size inb_S256x256_S256x256_0_0) _ d6)
  isplitl [Ho]; · iexact Ho
  iintro Ho
  rw [wp_bind]
  iapply (st_spec c arg6 _ d6); isplitl [Ho]; · iexact Ho
  iintro Ho
  rw [wp_pure]
  imodintro
  iapply Hk
  isplitl [HK]; · iexact HK
  isplitl [HV]; · iexact HV
  isplitl [Ho]; · iexact Ho
  isplitl [HA]; · iexact HA
  iexact HB

set_option maxHeartbeats 2000000 in
/-- The body runs, leaves the operands as they were and the result's block at `blockOut` of them. -/
theorem attn_spec (c : Dev nD) (i : grid0.Coords) (arg3 : Memref sig .tc .vmem S4x64x256 .f32) (harg3 : arg3.IsWhole) (arg4 : Memref sig .tc .vmem S1x1x8448x64 .bf16) (harg4 : arg4.IsWhole) (arg5 : Memref sig .tc .vmem S1x1x33x80x256 .bf16) (harg5 : arg5.IsWhole) (arg6 : Memref sig .tc .vmem S256x256 .bf16) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole)
    (qb : Vec F S4x64x256 .f32) (kb : Vec F S1x1x8448x64 .bf16) (vb : Vec F S1x1x33x80x256 .bf16) (Q : PUnit → sProp 𝕄) :
    iprop(owns (c : Thread nD τ) arg3 fullShare qb ∗ owns (c : Thread nD τ) arg4 fullShare kb ∗ owns (c : Thread nD τ) arg5 fullShare vb
        ∗ (∃ d, owns (c : Thread nD τ) arg6 fullShare d) ∗ free (F := F) c arg7 arg8 arg9 arg10 ∗ free (F := F) c arg11 arg12 arg13 arg14
        ∗ ((owns (c : Thread nD τ) arg3 fullShare qb ∗ owns (c : Thread nD τ) arg4 fullShare kb ∗ owns (c : Thread nD τ) arg5 fullShare vb
          ∗ owns (c : Thread nD τ) arg6 fullShare (blockOut qb kb vb) ∗ free (F := F) c arg7 arg8 arg9 arg10 ∗ free (F := F) c arg11 arg12 arg13 arg14) -∗ Q ⟨⟩))
      ⊢ wp frame (wpE (defs₀ (F := F)) 𝒱₀ c none) Set.univ
          (cc0_attention (F := F) i arg3 harg3 arg4 harg4 arg5 harg5 arg6 harg6 arg7 harg7 arg8 harg8 arg9 harg9 arg10 harg10 arg11 harg11 arg12 harg12 arg13 harg13 arg14 harg14) Q := by
  rw [attn_eq]
  unfold attnP
  iintro ⟨Hq, HK, HV, ⟨%d6, Ho⟩, HA, HB, Hk⟩
  rw [wp_bind]; iapply (ldQ_spec c arg3 qb); isplitl [Hq]; · iexact Hq
  iintro Hq
  rw [wp_bind]; iapply (ldQ_spec c arg3 qb); isplitl [Hq]; · iexact Hq
  iintro Hq
  rw [wp_bind]; iapply (ldQ_spec c arg3 qb); isplitl [Hq]; · iexact Hq
  iintro Hq
  rw [wp_bind]; iapply (ldQ_spec c arg3 qb); isplitl [Hq]; · iexact Hq
  iintro Hq
  rw [wp_bind]
  iapply (scores_spec c arg4 arg7 arg8 arg9 arg10 kb (qOf qb ![0, 0, 0] inb_S4x64x256_S1x64x256_0_0_0) (qOf qb ![1, 0, 0] inb_S4x64x256_S1x64x256_1_0_0) (qOf qb ![2, 0, 0] inb_S4x64x256_S1x64x256_2_0_0) (qOf qb ![3, 0, 0] inb_S4x64x256_S1x64x256_3_0_0) _ _ 0 (k0_off1_eq.trans rfl))
  isplitl [HK]; · iexact HK
  isplitl [HA]; · iexact HA
  iintro ⟨HK, HA⟩
  iapply (tail_spec c i arg3 harg3 arg4 harg4 arg5 harg5 arg6 harg6 arg7 harg7 arg8 harg8 arg9 harg9 arg10 harg10 arg11 harg11 arg12 harg12 arg13 harg13 arg14 harg14 kb vb (qOf qb ![0, 0, 0] inb_S4x64x256_S1x64x256_0_0_0) (qOf qb ![1, 0, 0] inb_S4x64x256_S1x64x256_1_0_0) (qOf qb ![2, 0, 0] inb_S4x64x256_S1x64x256_2_0_0) (qOf qb ![3, 0, 0] inb_S4x64x256_S1x64x256_3_0_0) _ (by simp only [carryAt, fold]))
  isplitl [HK HV HA HB]
  · unfold at_
    isplitl [HK]; · iexact HK
    isplitl [HV]; · iexact HV
    isplitl [HA]; · iexact HA
    iexact HB
  isplitl [Ho]; · iexists _; iexact Ho
  iintro ⟨HK, HV, Ho, HA, HB⟩
  iapply Hk
  isplitl [Hq]; · iexact Hq
  isplitl [HK]; · iexact HK
  isplitl [HV]; · iexact HV
  isplitl [Ho]; · iexact Ho
  isplitl [HA]; · iexact HA
  iexact HB

end Cert.KernelIdeal.Attn

end
-- ==== Proof.Run.lean ====
/-
  The run of the pipeline: at every grid point the body finds its blocks and leaves the result's block at `blockOut`.
-/
module

public import proofs.«01_k».proof.Proof.Attn

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The result's block at grid point `t`. -/
def outAt (c : Dev nD) (t : Fin cfg0.N) : FVec F S256x256 .bf16 :=
  blockOut (iblk m c 0 t) (iblk m c 1 t) (iblk m c 2 t)

/-- The pipeline's proof data: inputs at their blocks, the result at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

/-- The arrays behind the windows at the start. -/
theorem A_eq (c : Dev nD) (w : Fin cfg0.W) : (dats m 0 c).A w = V m c (Pipeline.arrRef spec0 w) := rfl
/-- After a point the first window still holds its block of queries. -/
theorem after0_0 (c : Dev nD) (t : Fin cfg0.N) : (dats m 0 c).after 0 t = iblk m c 0 t := by dsimp only [dats]
/-- After a point the second window still holds its block of keys. -/
theorem after0_1 (c : Dev nD) (t : Fin cfg0.N) : (dats m 0 c).after 1 t = iblk m c 1 t := by dsimp only [dats]
/-- After a point the third window still holds its block of values. -/
theorem after0_2 (c : Dev nD) (t : Fin cfg0.N) : (dats m 0 c).after 2 t = iblk m c 2 t := by dsimp only [dats]
/-- After a point the fourth window holds the block of the result. -/
theorem after0_3 (c : Dev nD) (t : Fin cfg0.N) : (dats m 0 c).after 3 t = outAt m c t := by dsimp only [dats]

/-- Before a point the first window holds its block of queries. -/
theorem before0_0 (c : Dev nD) (t : Fin cfg0.N) (d) : (dats m 0 c).before 0 t d = iblk m c 0 t :=
  before0_0_of m (dats m 0 c) (A_eq m c 0) (after0_0 m c) t d
/-- Before a point the second window holds its block of keys. -/
theorem before0_1 (c : Dev nD) (t : Fin cfg0.N) (d) : (dats m 0 c).before 1 t d = iblk m c 1 t :=
  before0_1_of m (dats m 0 c) (A_eq m c 1) (after0_1 m c) t d
/-- Before a point the third window holds its block of values. -/
theorem before0_2 (c : Dev nD) (t : Fin cfg0.N) (d) : (dats m 0 c).before 2 t d = iblk m c 2 t :=
  before0_2_of m (dats m 0 c) (A_eq m c 2) (after0_2 m c) t d

/-- The invariant between points: the eight score buffers at anything, and the generator register. -/
theorem Phi_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d) ∗ (∃ d, owns (c : Thread nD τ) (Memref.whole cc0_scratch5) fullShare d)
      ∗ (∃ d, owns (c : Thread nD τ) (Memref.whole cc0_scratch6) fullShare d) ∗ (∃ d, owns (c : Thread nD τ) (Memref.whole cc0_scratch7) fullShare d))
      ∗ (∃ r, prngReg c r)) := by
  rw [Pipeline.ΦA, scopedRest0_eq]; simp only [owns_whole]; try rfl

/-- The body's obligation at every point. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, Phi_eq]
  unfold outAt
  iintro ⟨⟨⟨S0, S1, S2, S3, S4, S5, S6, S7⟩, Hg⟩, Ho, ⟨%d0, H0⟩, ⟨%d1, H1⟩, ⟨%d2, H2⟩, ⟨%d3, H3⟩⟩
  iapply (attn_spec c _ _ _ _ _ _ _ _ _ _ _ _ _ _ _ _ _ _ _ _ _ _ _ _ _ (iblk m c 0 t) (iblk m c 1 t) (iblk m c 2 t))
  unfold free
  isplitl [H0]; · iexact H0
  isplitl [H1]; · iexact H1
  isplitl [H2]; · iexact H2
  isplitl [H3]; · iexists _; iexact H3
  isplitl [S0 S1 S2 S3]
  · isplitl [S0]; · iexact S0
    isplitl [S1]; · iexact S1
    isplitl [S2]; · iexact S2
    iexact S3
  isplitl [S4 S5 S6 S7]
  · isplitl [S4]; · iexact S4
    isplitl [S5]; · iexact S5
    isplitl [S6]; · iexact S6
    iexact S7
  iintro ⟨H0, H1, H2, H3, ⟨S0, S1, S2, S3⟩, ⟨S4, S5, S6, S7⟩⟩
  isplitl [S0 S1 S2 S3 S4 S5 S6 S7 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Ho]; · iexact Ho
  isplitl [H0]; · iexact H0
  isplitl [H1]; · iexact H1
  isplitl [H2]; · iexact H2
  iexact H3

set_option backward.isDefEq.respectTransparency.types false in
/-- Every execution ends, the pipeline's arrays at what the data compute, every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The arguments are unchanged and the counters are at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.KernelIdeal.Attn

end
-- ==== Proof.Math.lean ====
/-
  Softmax over the extended reals, and the running softmax that keeps a maximum and rescales: both are one weighted sum.
-/
module

public import Idealize.ShloMosaic.Lib.Pointwise

@[expose] public section

noncomputable section

namespace Cert.Softmax

open Idealize.ShloMosaic

/-! ## Constants -/

/-- The pattern of −∞. -/
theorem ofBits_neg_inf : Ideal.ofBits .f32 0xFF800000#32 = ⊥ := by simp [Ideal.ofBits, Ideal.ieee]

/-- The pattern of an eighth. -/
theorem ofBits_eighth : Ideal.ofBits .f32 0x3E000000#32 = ((1 / 8 : ℝ) : EReal) := by
  simp [Ideal.ofBits, Ideal.ieee]
  norm_num
  rw [← EReal.coe_mul]
  norm_num

/-! ## Finite factors and sums -/

/-- A nonnegative real factor goes inside a sum of extended reals. -/
theorem coe_mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hc) (EReal.coe_ne_top c)]

/-- A sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih, EReal.coe_add]

/-- The largest of finitely many reals, counted from −∞, is a real. -/
theorem fold_max_coe {ι : Type*} (s : Finset ι) (hs : s.Nonempty) (f : ι → ℝ) :
    ∃ M : ℝ, Finset.fold max (⊥ : EReal) (fun i => (f i : EReal)) s = (M : EReal) := by
  classical
  induction s using Finset.induction_on with
  | empty => exact absurd hs (by simp)
  | insert a s ha ih =>
    rw [Finset.fold_insert ha]
    rcases s.eq_empty_or_nonempty with rfl | h
    · exact ⟨f a, by simp⟩
    · obtain ⟨M, hM⟩ := ih h
      exact ⟨max (f a) M, by rw [hM]; exact (EReal.coe_strictMono.monotone.map_max).symm⟩

/-- `2 ^ r` of a real. -/
theorem exp2_real (r : ℝ) : Ideal.exp2 (r : EReal) = (((2 : ℝ) ^ r : ℝ) : EReal) := rfl

/-- Division by a real that is not zero. -/
theorem div_real (x : EReal) (y : ℝ) (h : y ≠ 0) : Ideal.div x (y : EReal) = x * ((y⁻¹ : ℝ) : EReal) := by
  rw [Ideal.div, if_neg (by exact_mod_cast h), EReal.coe_inv]

/-! ## The running softmax -/

/-- Chunk `j` weighted at the maximum `M`. -/
abbrev part (s : ℕ → Fin 256 → ℝ) (v : ℕ → Fin 256 → EReal) (M : ℝ) (i : ℕ) : EReal :=
  ∑ x, v i x * (((2 : ℝ) ^ (s i x - M) : ℝ) : EReal)

/-- The weight at one maximum rescaled to another. -/
theorem part_rescale (s : ℕ → Fin 256 → ℝ) (v : ℕ → Fin 256 → EReal) (M N : ℝ) (i : ℕ) :
    (((2 : ℝ) ^ (M - N) : ℝ) : EReal) * part s v M i = part s v N i := by
  unfold part
  rw [coe_mul_sum _ (by positivity)]
  refine Finset.sum_congr rfl fun x _ => ?_
  rw [mul_left_comm, ← EReal.coe_mul, ← Real.rpow_add (by norm_num)]
  rw [show M - N + (s i x - M) = s i x - N by ring]

/-- After any number of chunks the running maximum is a real `M` and the accumulator is the sum, over the chunks so far, of the
    values weighted by `2 ^ (score − M)`. -/
theorem running (s : ℕ → Fin 256 → ℝ) (m : ℕ → EReal) (hm0 : m 0 = ⊥)
    (hm : ∀ j, m (j + 1) = max (m j) (Finset.univ.fold max ⊥ fun x => (s j x : EReal))) (j : ℕ) :
    ∃ M : ℝ, m (j + 1) = (M : EReal) ∧ ∀ (v : ℕ → Fin 256 → EReal) (a : ℕ → EReal), a 0 = 0 →
      (∀ j, a (j + 1) = Ideal.exp2 (m j - m (j + 1)) * a j + ∑ x, v j x * Ideal.exp2 ((s j x : EReal) - m (j + 1))) →
      a (j + 1) = ∑ i ∈ Finset.range (j + 1), part s v M i := by
  have new : ∀ (j : ℕ) (N : ℝ) (v : ℕ → Fin 256 → EReal), m (j + 1) = (N : EReal) →
      ∑ x, v j x * Ideal.exp2 ((s j x : EReal) - m (j + 1)) = part s v N j := by
    intro j N v h
    refine Finset.sum_congr rfl fun x _ => ?_
    rw [h, ← EReal.coe_sub, exp2_real]
  induction j with
  | zero =>
    obtain ⟨N, hN⟩ := fold_max_coe (Finset.univ : Finset (Fin 256)) Finset.univ_nonempty (s 0)
    have h1 : m (0 + 1) = (N : EReal) := by rw [hm, hm0, hN]; exact max_eq_right bot_le
    refine ⟨N, h1, fun v a ha0 ha => ?_⟩
    rw [ha, ha0, mul_zero, zero_add, new 0 N v h1, Finset.sum_range_one]
  | succ j ih =>
    obtain ⟨M, hM, hacc⟩ := ih
    obtain ⟨X, hX⟩ := fold_max_coe (Finset.univ : Finset (Fin 256)) Finset.univ_nonempty (s (j + 1))
    have h1 : m (j + 1 + 1) = ((max M X : ℝ) : EReal) := by
      rw [hm, hM, hX]; exact (EReal.coe_strictMono.monotone.map_max).symm
    refine ⟨max M X, h1, fun v a ha0 ha => ?_⟩
    rw [ha, hacc v a ha0 ha, new (j + 1) _ v h1, h1, hM, ← EReal.coe_sub, exp2_real, coe_mul_sum _ (by positivity),
      Finset.sum_range_succ _ (j + 1)]
    exact congrArg (· + _) (Finset.sum_congr rfl fun i _ => part_rescale s v M _ i)

/-! ## The two softmaxes -/

/-- The share of one score does not depend on what is subtracted from all of them, nor on the base of the exponential. -/
theorem share_eq {ι : Type*} (S : Finset ι) (r : ι → ℝ) (M T : ℝ) (k : ι) :
    (2 : ℝ) ^ (r k * (Real.log 2)⁻¹ - M) * (∑ i ∈ S, (2 : ℝ) ^ (r i * (Real.log 2)⁻¹ - M))⁻¹
      = Real.exp (r k - T) / ∑ i ∈ S, Real.exp (r i - T) := by
  have h2 : Real.log 2 ≠ 0 := (Real.log_pos (by norm_num)).ne'
  have e : ∀ i, (2 : ℝ) ^ (r i * (Real.log 2)⁻¹ - M) = Real.exp (T - M * Real.log 2) * Real.exp (r i - T) := by
    intro i
    rw [Real.rpow_def_of_pos (by norm_num), ← Real.exp_add]
    congr 1; field_simp; ring
  simp only [e, ← Finset.mul_sum]
  rw [mul_inv, div_eq_mul_inv]
  have := (Real.exp_pos (T - M * Real.log 2)).ne'
  field_simp

/-- Key `x` of chunk `j` (of the last chunk beyond it). -/
def key (j : ℕ) (x : Fin 256) : Fin 8448 := ⟨256 * min j 32 + x, by have := x.isLt; omega⟩

/-- A sum over the chunks is a sum over the keys. -/
theorem sum_chunks (f : Fin 8448 → EReal) : ∑ i ∈ Finset.range 33, ∑ x, f (key i x) = ∑ k, f k := by
  rw [Finset.sum_range, ← Fintype.sum_prod_type']
  refine Fintype.sum_equiv (finProdFinEquiv (m := 33) (n := 256)) _ _ fun p => ?_
  congr 1
  apply Fin.ext
  have := p.1.isLt
  simp only [key, finProdFinEquiv_apply_val]
  omega

/-- The plain softmax average of the values `v` at the scores `r`, as jnp computes it. -/
def average (r : Fin 8448 → EReal) (v : Fin 8448 → EReal) : EReal :=
  ∑ k, v k * Ideal.div (Ideal.exp (r k - max ⊥ (Finset.univ.fold max ⊥ r))) (∑ i, Ideal.exp (r i - max ⊥ (Finset.univ.fold max ⊥ r)))

/-- With finite scores the running softmax over the 33 chunks, its numerator divided by its denominator, is the plain one. -/
theorem running_eq_average (r : Fin 8448 → ℝ) (v : Fin 8448 → EReal) (m a l : ℕ → EReal) (hm0 : m 0 = ⊥) (ha0 : a 0 = 0) (hl0 : l 0 = 0)
    (hm : ∀ j, m (j + 1) = max (m j) (Finset.univ.fold max ⊥ fun x => ((r (key j x) * (Real.log 2)⁻¹ : ℝ) : EReal)))
    (ha : ∀ j, a (j + 1) = Ideal.exp2 (m j - m (j + 1)) * a j
      + ∑ x, v (key j x) * Ideal.exp2 (((r (key j x) * (Real.log 2)⁻¹ : ℝ) : EReal) - m (j + 1)))
    (hl : ∀ j, l (j + 1) = Ideal.exp2 (m j - m (j + 1)) * l j
      + ∑ x, 1 * Ideal.exp2 (((r (key j x) * (Real.log 2)⁻¹ : ℝ) : EReal) - m (j + 1))) :
    Ideal.div (a 33) (l 33) = average (fun k => (r k : EReal)) v := by
  obtain ⟨M, -, acc⟩ := running (fun j x => r (key j x) * (Real.log 2)⁻¹) m hm0 hm 32
  have hA := acc (fun j x => v (key j x)) a ha0 ha
  have hL := acc (fun _ _ => 1) l hl0 hl
  obtain ⟨T, hT⟩ := fold_max_coe (Finset.univ : Finset (Fin 8448)) Finset.univ_nonempty r
  have hLpos : 0 < ∑ k, (2 : ℝ) ^ (r k * (Real.log 2)⁻¹ - M) := Finset.sum_pos (fun k _ => by positivity) Finset.univ_nonempty
  have hEpos : 0 < ∑ k, Real.exp (r k - T) := Finset.sum_pos (fun k _ => Real.exp_pos _) Finset.univ_nonempty
  have hL' : l 33 = ((∑ k, (2 : ℝ) ^ (r k * (Real.log 2)⁻¹ - M) : ℝ) : EReal) := by
    rw [hL, coe_sum, ← sum_chunks]
    exact Finset.sum_congr rfl fun i _ => Finset.sum_congr rfl fun x _ => one_mul _
  have hA' : a 33 = ∑ k, v k * (((2 : ℝ) ^ (r k * (Real.log 2)⁻¹ - M) : ℝ) : EReal) := by
    rw [hA, ← sum_chunks]
  unfold average
  rw [hT, max_eq_right bot_le, hL', hA']
  simp only [← EReal.coe_sub, Ideal.exp_coe, ← coe_sum]
  rw [div_real _ _ hLpos.ne', mul_comm, coe_mul_sum _ (inv_nonneg.mpr hLpos.le)]
  refine Finset.sum_congr rfl fun k _ => ?_
  rw [div_real _ _ hEpos.ne', mul_left_comm, ← EReal.coe_mul, mul_comm (_⁻¹), share_eq _ r M T k, ← EReal.coe_mul, div_eq_mul_inv]

/-- A product of the keys with the queries scaled in base two is the score, scaled afterwards. -/
theorem scaled_score (q k : Fin 64 → ℝ) :
    ∑ d, (k d : EReal) * ((q d : EReal) * (((1 / 8) * (Real.log 2)⁻¹ : ℝ) : EReal)) = (((∑ d, q d * k d) * (1 / 8) * (Real.log 2)⁻¹ : ℝ) : EReal) := by
  simp only [← EReal.coe_mul, ← coe_sum]
  congr 1
  rw [Finset.sum_mul, Finset.sum_mul]
  exact Finset.sum_congr rfl fun d _ => by ring

/-! ## Attention -/

/-- The row of the keys that is key `k` of batch `b`: the batch's latent rows, then its context rows. -/
def keyRow (b : Fin 4) (k : Fin 8448) : Fin 33792 :=
  if h : k.val < 8192 then ⟨b.val * 8192 + k.val, by have := b.isLt; omega⟩
  else ⟨32768 + (b.val * 256 + (k.val - 8192)), by have := b.isLt; have := k.isLt; omega⟩

/-- Attention at query `n` and column `e`: of the column's head, the softmax average over the keys of the query's batch. -/
def attend (q : (⟨3, ![8, 33792, 64]⟩ : Shape).Idx → EReal) (k v : (⟨3, ![2, 33792, 64]⟩ : Shape).Idx → EReal) (n : Fin 32768) (e : Fin 512) : EReal :=
  average
    (fun i => (∑ x : Fin 64, q (ix3 ⟨e.val / 64, by omega⟩ ⟨n.val, by omega⟩ x) * k (ix3 ⟨e.val / 256, by omega⟩ (keyRow ⟨n.val / 8192, by omega⟩ i) x))
      * ((1 / 8 : ℝ) : EReal))
    (fun i => v (ix3 ⟨e.val / 256, by omega⟩ (keyRow ⟨n.val / 8192, by omega⟩ i) ⟨e.val % 64, by omega⟩))

end Cert.Softmax

end
-- ==== Proof.Ref.lean ====
/-
  The reference's result read at an entry.
-/
module

public import proofs.«01_k».proof.Proof.Gen.ReferenceIdeal.Run
public import proofs.«01_k».proof.Proof.Math

@[expose] public section

noncomputable section

namespace Cert.ReferenceIdeal.Attn

open Cert.ReferenceIdeal Cert.ReferenceIdeal.Gen
open Idealize.ShloMosaic Idealize.ShloMosaic.TcCoe Idealize.SL.Sem

variable (A0 : FVec Ideal S8x33792x64 .f32) (A1 A2 : FVec Ideal S2x33792x64 .bf16)

/-- The keys (or values) joined: the latent rows of a batch, then its context rows. -/
def joined (A : FVec Ideal S2x33792x64 .bf16) : FVec Ideal S2x4x8448x64 .f32 :=
  concatenate S2x4x8448x64 2 [⟨S2x4x8192x64, (shapeCast _ (extractStridedSlice S2x32768x64 ![0, 0, 0] (extf .f32 A bitsLt_bf16_f32) slices_S2x33792x64_S2x32768x64_0_0_0) shapeCasts_S2x32768x64_S2x4x8192x64)⟩, ⟨S2x4x256x64, (shapeCast _ (extractStridedSlice S2x1024x64 ![0, 32768, 0] (extf .f32 A bitsLt_bf16_f32) slices_S2x33792x64_S2x1024x64_0_32768_0) shapeCasts_S2x1024x64_S2x4x256x64)⟩] concatenates_S2x4x8192x64_S2x4x256x64_S2x4x8448x64_d2

/-- An entry of the joined keys (or values). -/
theorem joined_at (A : FVec Ideal S2x33792x64 .bf16) (g : Fin 2) (b : Fin 4) (k : Fin 8448) (d : Fin 64) :
    joined A (ix4 g b k d) = A (ix3 g (Cert.Softmax.keyRow b k) d) := by
  unfold joined Cert.Softmax.keyRow
  pointwise
  split <;> rfl

/-- The queries by head, batch and position. -/
def queries : FVec Ideal S2x4x4x8192x64 .f32 :=
  shapeCast _ (extractStridedSlice S8x32768x64 ![0, 0, 0] A0 slices_S8x33792x64_S8x32768x64_0_0_0) shapeCasts_S8x32768x64_S2x4x4x8192x64

/-- An entry of the queries. -/
theorem queries_at (g : Fin 2) (r : Fin 4) (b : Fin 4) (q : Fin 8192) (d : Fin 64) :
    queries A0 (ix5 g r b q d) = A0 (ix3 ⟨g.val * 4 + r.val, by have := g.isLt; have := r.isLt; omega⟩ ⟨b.val * 8192 + q.val, by have := b.isLt; have := q.isLt; omega⟩ d) := by
  unfold queries
  pointwise

/-- The scaled scores. -/
def scores : FVec Ideal S2x4x4x8192x8448 .f32 :=
  mulf (Host.dotGeneral dot_S2x4x4x8192x64_S2x4x8448x64_S2x4x4x8192x8448_4_3_13_2_02_01 none (queries A0) (joined A1))
    (broadcastInDim S2x4x4x8192x8448 ![] bcast_S_S2x4x4x8192x8448 (constant S_ .f32 0x3E000000#32))

/-- A score: the product of query and key, times 1/8. -/
theorem scores_at (g : Fin 2) (b : Fin 4) (r : Fin 4) (q : Fin 8192) (k : Fin 8448) :
    scores A0 A1 (ix5 g b r q k) = (∑ x, queries A0 (ix5 g r b q x) * joined A1 (ix4 g b k x)) * Ideal.ofBits .f32 0x3E000000#32 := by
  unfold scores
  pointwise

variable (S : FVec Ideal S2x4x4x8192x8448 .f32)

/-- The largest entry along the last of five axes, counted from −∞ twice. -/
theorem max_last_at {n0 n1 n2 n3 n4 : Nat} (h : (⟨5, ![n0, n1, n2, n3, n4]⟩ : Shape).ReducesTo [4] ⟨4, ![n0, n1, n2, n3]⟩) (hu : 0 < S_.numel)
    (hb : S_.BroadcastsInDim ⟨4, ![n0, n1, n2, n3]⟩ ![]) (x : FVec Ideal ⟨5, ![n0, n1, n2, n3, n4]⟩ .f32)
    (i : Fin n0) (j : Fin n1) (k : Fin n2) (l : Fin n3) :
    maximumf (broadcastInDim ⟨4, ![n0, n1, n2, n3]⟩ ![] hb (constant (F := Ideal) S_ .f32 0xFF800000#32))
        (Host.reduce FloatOps.maximumf x (constant S_ .f32 0xFF800000#32) h hu) (ix4 i j k l)
      = max ⊥ (Finset.univ.fold max ⊥ fun y => x (ix5 i j k l y)) := by
  rw [← Cert.Softmax.ofBits_neg_inf]
  refine congrArg (max (Ideal.ofBits .f32 0xFF800000#32)) ?_
  rw [Host.reduce_eq_fold, Shape.ReducesTo.fold_fiber_r5_a4]
  rfl

/-- The largest score of a query. -/
def top : FVec Ideal S2x4x4x8192 .f32 :=
  maximumf (broadcastInDim S2x4x4x8192 ![] bcast_S_S2x4x4x8192 (constant S_ .f32 0xFF800000#32))
    (Host.reduce FloatOps.maximumf S (constant S_ .f32 0xFF800000#32) reducesTo_S2x4x4x8192x8448_S2x4x4x8192_d4 h_S_)

/-- The largest score of a query, as a fold. -/
theorem top_at (g : Fin 2) (b : Fin 4) (r : Fin 4) (q : Fin 8192) :
    top S (ix4 g b r q) = max ⊥ (Finset.univ.fold max ⊥ fun k => S (ix5 g b r q k)) := by
  unfold top
  exact max_last_at reducesTo_S2x4x4x8192x8448_S2x4x4x8192_d4 h_S_ bcast_S_S2x4x4x8192 S g b r q

/-- A number per query, repeated along the keys. -/
def wide (M : FVec Ideal S2x4x4x8192 .f32) : FVec Ideal S2x4x4x8192x8448 .f32 :=
  broadcastInDim S2x4x4x8192x8448 ![0, 1, 2, 3, 4] bcast_S2x4x4x8192x1_S2x4x4x8192x8448_0_1_2_3_4
   (broadcastInDim S2x4x4x8192x1 ![0, 1, 2, 3] bcast_S2x4x4x8192_S2x4x4x8192x1_0_1_2_3 M)

/-- exp (score − largest). -/
def weights : FVec Ideal S2x4x4x8192x8448 .f32 := Host.exp (subf S (wide (top S)))

/-- An entry of the weights. -/
theorem weights_at (g : Fin 2) (b : Fin 4) (r : Fin 4) (q : Fin 8192) (k : Fin 8448) :
    weights S (ix5 g b r q k) = Ideal.exp (S (ix5 g b r q k) - top S (ix4 g b r q)) := by
  unfold weights wide
  pointwise

variable (W : FVec Ideal S2x4x4x8192x8448 .f32)

/-- The weights, each over their sum. -/
def shares : FVec Ideal S2x4x4x8192x8448 .f32 :=
  Host.divf W (wide (Host.reduceAdd W (constant S_ .f32 0x00000000#32) reducesTo_S2x4x4x8192x8448_S2x4x4x8192_d4 h_S_))

/-- An entry of the shares. -/
theorem shares_at (g : Fin 2) (b : Fin 4) (r : Fin 4) (q : Fin 8192) (k : Fin 8448) :
    shares W (ix5 g b r q k) = Ideal.div (W (ix5 g b r q k)) (∑ x, W (ix5 g b r q x)) := by
  unfold shares wide
  pointwise

/-- The shares' mix of the values, by query and column. -/
def mixed (J : FVec Ideal S2x4x8448x64 .f32) (Q : FVec Ideal S2x4x4x8192x8448 .f32) : FVec Ideal S32768x512 .bf16 :=
  truncf .bf16 (shapeCast _ (transpose S4x8192x2x4x64 [0, 4, 1, 3, 2] (Host.dotGeneral dot_S2x4x8448x64_S2x4x4x8192x8448_S4x2x64x4x8192_2_4_3_23_10_10 none J Q) transposes_S4x2x64x4x8192_S4x8192x2x4x64_0_4_1_3_2) shapeCasts_S4x8192x2x4x64_S32768x512) bitsLt_bf16_f32

/-- An entry of the mix: a sum over the keys. -/
theorem mixed_at (J : FVec Ideal S2x4x8448x64 .f32) (Q : FVec Ideal S2x4x4x8192x8448 .f32) (n : Fin 32768) (e : Fin 512) :
    mixed J Q (ix2 n e) = ∑ x, J (ix4 ⟨e.val / 256, by have := e.isLt; omega⟩ ⟨n.val / 8192, by have := n.isLt; omega⟩ x ⟨e.val % 64, by omega⟩)
      * Q (ix5 ⟨e.val / 256, by have := e.isLt; omega⟩ ⟨n.val / 8192, by have := n.isLt; omega⟩ ⟨e.val / 64 % 4, by omega⟩ ⟨n.val % 8192, by omega⟩ x) := by
  unfold mixed
  pointwise

/-- The reference's result, by its stages. -/
theorem res_eq (m : (ℓ : Loc nD τ sig) → Buf (Elt Ideal) ℓ) (c : Dev nD) :
    Cert.ReferenceIdeal.Value.res_out0 m c = mixed (joined (m ((c.tc : Thread nD τ).loc main_arg2)))
      (shares (weights (scores (m ((c.tc : Thread nD τ).loc main_arg0)) (m ((c.tc : Thread nD τ).loc main_arg1))))) := by
  show Cert.ReferenceIdeal.Value.res_main_v31 m c = _
  unfold Cert.ReferenceIdeal.Value.res_main_v31
  rfl

/-- The reference's result, an entry: the average the softmax takes of the values of its batch. -/
theorem res_at (m : (ℓ : Loc nD τ sig) → Buf (Elt Ideal) ℓ) (c : Dev nD) (n : Fin 32768) (e : Fin 512) :
    Cert.ReferenceIdeal.Value.res_out0 m c (ix2 n e) = Cert.Softmax.attend (m ((c.tc : Thread nD τ).loc main_arg0))
      (m ((c.tc : Thread nD τ).loc main_arg1)) (m ((c.tc : Thread nD τ).loc main_arg2)) n e := by
  rw [res_eq, mixed_at]
  simp only [shares_at, weights_at, top_at, joined_at, scores_at, queries_at, Cert.Softmax.ofBits_eighth]
  unfold Cert.Softmax.attend Cert.Softmax.average
  have e1 : e.val / 256 * 4 + e.val / 64 % 4 = e.val / 64 := by omega
  have e2 : n.val / 8192 * 8192 + n.val % 8192 = n.val := by omega
  simp only [e1, e2]

end Cert.ReferenceIdeal.Attn

end
-- ==== Proof.Value.lean ====
/-
  The kernel's block arithmetic over the extended reals, at an index.
-/
module

public import proofs.«01_k».proof.Proof.Run
public import proofs.«01_k».proof.Proof.Math

@[expose] public section

noncomputable section

namespace Cert.KernelIdeal.Attn

open Cert.KernelIdeal Cert.KernelIdeal.Gen
open Idealize.ShloMosaic Idealize.ShloMosaic.TcCoe Idealize.SL.Sem

/-- A score is the product of a key's row and a query's column. -/
theorem score_at (q : Qh Ideal) (k : Kc Ideal) (x y : Fin 256) :
    score q k (ix2 x y) = ∑ d : Fin 64, k (ix4 0 0 x d) * q (ix2 d y) := by
  unfold score
  pointwise

/-- Storing the scores leaves them as they are. -/
theorem stored_eq (s : Sc Ideal) : stored s = s := by
  unfold stored
  funext j
  pointwise

/-- A query's largest score of a chunk. -/
theorem colMax_at (s : Sc Ideal) (y : Fin 256) :
    colMax s (ix2 0 y) = Finset.univ.fold max (Ideal.ofBits .f32 0xFF800000#32) fun x : Fin 256 => s (ix2 x y) := by
  unfold colMax
  pointwise

/-- A step of the accumulator: rescaled, plus the chunk’s mix. -/
theorem accStep_at (v : Vc Ideal) (m mn : Row Ideal) (a : Ac Ideal) (s : Sc Ideal) (p : Fin 80) (y : Fin 256) :
    accStep v m mn a s (ix2 p y) = Ideal.exp2 (m (ix2 0 y) - mn (ix2 0 y)) * a (ix2 p y)
      + ∑ x : Fin 256, v (ix5 0 0 0 p x) * Ideal.exp2 (s (ix2 x y) - mn (ix2 0 y)) := by
  unfold accStep
  pointwise
  rfl

/-- The scaled queries. -/
theorem qHead_at (v : Vec Ideal S1x64x256 .f32) (d : Fin 64) (y : Fin 256) :
    qHead v (ix2 d y) = v (ix3 0 d y) * (((1 / 8) * (Real.log 2)⁻¹ : ℝ) : EReal) := by
  unfold qHead k0_pay378
  pointwise
  exact congrArg (v (ix3 0 d y) * ·) (IdealRules.named_const.ideal_named_scalar _ _ _ _ rfl)

/-- A head's output: the mix over the sum of weights. -/
theorem headOut_at (a : Ac Ideal) (y : Fin 256) (d : Fin 64) :
    headOut a (ix2 y d) = Ideal.div (a (ix2 ⟨d.val, by omega⟩ y)) (a (ix2 64 y)) := by
  unfold headOut
  pointwise

/-- The block's columns, by head. -/
theorem outBlk_at (a : Fin 4 → Ac Ideal) (y e : Fin 256) :
    outBlk (a 0) (a 1) (a 2) (a 3) (ix2 y e) = headOut (a ⟨e.val / 64, by omega⟩) (ix2 y ⟨e.val % 64, by omega⟩) := by
  unfold outBlk
  pointwise
  have pick : ∀ (n : Fin 4) (d : Fin 64), e.val = 64 * n.val + d.val →
      headOut (a n) (ix2 y d) = headOut (a ⟨e.val / 64, by omega⟩) (ix2 y ⟨e.val % 64, by omega⟩) := by
    intro n d h
    have h1 : n = ⟨e.val / 64, by omega⟩ := Fin.ext (by dsimp only; omega)
    have h2 : d = ⟨e.val % 64, by omega⟩ := Fin.ext (by dsimp only; omega)
    rw [← h1, ← h2]
  have := e.isLt
  by_cases h1 : e.val < 64
  · rw [dif_pos h1]; exact pick 0 _ (by simp)
  · rw [dif_neg h1]
    by_cases h2 : e.val - 64 < 64
    · rw [dif_pos h2]; exact pick 1 _ (by simp; omega)
    · rw [dif_neg h2]
      by_cases h3 : e.val - 64 - 64 < 64
      · rw [dif_pos h3]; exact pick 2 ⟨e.val - 64 - 64, h3⟩ (by simp; omega)
      · rw [dif_neg h3]; exact pick 3 ⟨e.val - 64 - 64 - 64, by omega⟩ (by simp; omega)

/-- An entry of a chunk of keys. -/
theorem kCh_at (kb : Vec Ideal S1x1x8448x64 .bf16) (j : ℕ) (x : Fin 256) (d : Fin 64) :
    kCh kb j (ix4 0 0 x d) = kb (ix4 0 0 (Cert.Softmax.key j x) d) := by
  unfold kCh Cert.Softmax.key
  pointwise

/-- An entry of a chunk of values. -/
theorem vCh_at (vb : Vec Ideal S1x1x33x80x256 .bf16) (j : ℕ) (p : Fin 80) (x : Fin 256) :
    vCh vb j (ix5 0 0 0 p x) = vb (ix5 0 0 ⟨min j 32, by omega⟩ p x) := by
  unfold vCh
  pointwise

/-- The running maximum and the accumulator before any chunk. -/
theorem fold_zero_at (kb : Vec Ideal S1x1x8448x64 .bf16) (vb : Vec Ideal S1x1x33x80x256 .bf16) (q : Qh Ideal) (y : Fin 256) (p : Fin 80) :
    (fold kb vb q 0).1 (ix2 0 y) = ⊥ ∧ (fold kb vb q 0).2 (ix2 p y) = 0 := by
  constructor
  · show (k0_pay382 (F := Ideal)) (ix2 0 y) = ⊥
    unfold k0_pay382
    exact IdealRules.named_const.ideal_named_scalar _ _ _ _ rfl
  · show (k0_pay386 (F := Ideal)) (ix2 p y) = 0
    unfold k0_pay386
    pointwise

/-- With finite queries and keys, a head's output at a query is the softmax average of its values. -/
theorem head_average (kb : Vec Ideal S1x1x8448x64 .bf16) (vb : Vec Ideal S1x1x33x80x256 .bf16) (q : Qh Ideal) (y : Fin 256) (d : Fin 64)
    (Q : Fin 64 → ℝ) (K : Fin 8448 → Fin 64 → ℝ) (W : Fin 8448 → EReal)
    (hq : ∀ d, q (ix2 d y) = (Q d : EReal) * (((1 / 8) * (Real.log 2)⁻¹ : ℝ) : EReal))
    (hk : ∀ k d, kb (ix4 0 0 k d) = (K k d : EReal))
    (hv : ∀ j x, vb (ix5 0 0 ⟨min j 32, by omega⟩ ⟨d.val, by omega⟩ x) = W (Cert.Softmax.key j x))
    (hone : ∀ j x, vb (ix5 0 0 ⟨min j 32, by omega⟩ 64 x) = 1) :
    headOut (fold kb vb q 33).2 (ix2 y d)
      = Cert.Softmax.average (fun k => (((∑ e, Q e * K k e) * (1 / 8) : ℝ) : EReal)) W := by
  have hs : ∀ j x, sc kb q j (ix2 x y) = (((∑ e, Q e * K (Cert.Softmax.key j x) e) * (1 / 8) * (Real.log 2)⁻¹ : ℝ) : EReal) := by
    intro j x
    unfold sc
    rw [score_at, ← Cert.Softmax.scaled_score]
    refine Finset.sum_congr rfl fun e _ => ?_
    rw [kCh_at, hk, hq]
  have hm : ∀ j, (fold kb vb q (j + 1)).1 (ix2 0 y) = max ((fold kb vb q j).1 (ix2 0 y))
      (Finset.univ.fold max ⊥ fun x : Fin 256 => (((∑ e, Q e * K (Cert.Softmax.key j x) e) * (1 / 8) * (Real.log 2)⁻¹ : ℝ) : EReal)) := by
    intro j
    show max ((fold kb vb q j).1 (ix2 0 y)) (colMax (sc kb q j) (ix2 0 y)) = _
    rw [colMax_at, Cert.Softmax.ofBits_neg_inf]
    simp only [hs]
  have ha : ∀ (p : Fin 80) (j : ℕ), (fold kb vb q (j + 1)).2 (ix2 p y)
      = Ideal.exp2 ((fold kb vb q j).1 (ix2 0 y) - (fold kb vb q (j + 1)).1 (ix2 0 y)) * (fold kb vb q j).2 (ix2 p y)
        + ∑ x : Fin 256, vb (ix5 0 0 ⟨min j 32, by omega⟩ p x)
          * Ideal.exp2 ((((∑ e, Q e * K (Cert.Softmax.key j x) e) * (1 / 8) * (Real.log 2)⁻¹ : ℝ) : EReal) - (fold kb vb q (j + 1)).1 (ix2 0 y)) := by
    intro p j
    show accStep (vCh vb j) (fold kb vb q j).1 (fold kb vb q (j + 1)).1 (fold kb vb q j).2 (stored (sc kb q j)) (ix2 p y) = _
    rw [accStep_at, stored_eq]
    simp only [vCh_at, hs]
  rw [headOut_at]
  refine Cert.Softmax.running_eq_average (fun k => (∑ e, Q e * K k e) * (1 / 8)) W
    (fun j => (fold kb vb q j).1 (ix2 0 y)) (fun j => (fold kb vb q j).2 (ix2 ⟨d.val, by omega⟩ y)) (fun j => (fold kb vb q j).2 (ix2 64 y))
    (fold_zero_at kb vb q y 0).1 (fold_zero_at kb vb q y _).2 (fold_zero_at kb vb q y _).2 hm (fun j => ?_) (fun j => ?_)
  · refine (ha _ j).trans ?_
    simp only [hv]
  · refine (ha _ j).trans ?_
    simp only [hone]

/-- The queries of the group's head `r`, scaled. -/
def qOfHead (qb : Vec Ideal S4x64x256 .f32) : Fin 4 → Qh Ideal :=
  ![qOf qb ![0, 0, 0] inb_S4x64x256_S1x64x256_0_0_0, qOf qb ![1, 0, 0] inb_S4x64x256_S1x64x256_1_0_0,
    qOf qb ![2, 0, 0] inb_S4x64x256_S1x64x256_2_0_0, qOf qb ![3, 0, 0] inb_S4x64x256_S1x64x256_3_0_0]

/-- A head's scaled queries, an entry. -/
theorem qOfHead_at (qb : Vec Ideal S4x64x256 .f32) (r : Fin 4) (d : Fin 64) (y : Fin 256) :
    qOfHead qb r (ix2 d y) = qb (ix3 r d y) * (((1 / 8) * (Real.log 2)⁻¹ : ℝ) : EReal) := by
  unfold qOfHead
  fin_cases r <;>
  · dsimp
    unfold qOf
    rw [qHead_at, EReal.coe_mul]
    pointwise

/-- The block the body leaves, at a query and a column: the head of the column. -/
theorem blockOut_at (qb : Vec Ideal S4x64x256 .f32) (kb : Vec Ideal S1x1x8448x64 .bf16) (vb : Vec Ideal S1x1x33x80x256 .bf16) (y e : Fin 256) :
    blockOut qb kb vb (ix2 y e) = headOut (fold kb vb (qOfHead qb ⟨e.val / 64, by omega⟩) 33).2 (ix2 y ⟨e.val % 64, by omega⟩) :=
  outBlk_at (fun r => (fold kb vb (qOfHead qb r) 33).2) y e

end Cert.KernelIdeal.Attn

end
-- ==== Proof.Result.lean ====
/-
  The kernel's result array: attention at every query and column.
-/
module

public import proofs.«01_k».proof.Proof.Value
public import Idealize.ShloMosaic.Lib.Pipeline.ValueKit
public import Idealize.ShloMosaic.Lib.StableHlo.ReadAt

@[expose] public section

set_option maxRecDepth 16384

noncomputable section

namespace Cert.KernelIdeal.Attn

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The windows' block indices at a point. -/
theorem idx (t : Fin cfg0.N) : win0_0.index t = ![t.val / 32 % 2, 0, t.val / 64 * 32 + t.val % 32]
    ∧ win0_1.index t = ![t.val / 32 % 2, t.val / 64, 0, 0] ∧ win0_2.index t = ![t.val / 32 % 2, t.val / 64, 0, 0, 0]
    ∧ win0_3.index t = ![t.val / 64 * 32 + t.val % 32, t.val / 32 % 2] :=
  (by decide +kernel : ∀ t : Fin grid0.N, win0_0.index t = ![t.val / 32 % 2, 0, t.val / 64 * 32 + t.val % 32]
    ∧ win0_1.index t = ![t.val / 32 % 2, t.val / 64, 0, 0] ∧ win0_2.index t = ![t.val / 32 % 2, t.val / 64, 0, 0, 0]
    ∧ win0_3.index t = ![t.val / 64 * 32 + t.val % 32, t.val / 32 % 2]) t

/-- There are 256 points. -/
theorem t_lt (t : Fin cfg0.N) : t.val < 256 := lt_of_lt_of_eq t.isLt N_0

/-- The queries as the kernel is launched on them. -/
theorem V_q (c : Dev nD) (h : Fin 8) (d : Fin 64) (n : Fin 33792) :
    V m c main_v15 (ix3 h d n) = m ((c : Thread nD τ).loc main_arg0) (ix3 h n d) := by
  unfold V
  after_reads_at

/-- The joined keys as the kernel is launched on them. -/
theorem V_k (c : Dev nD) (g : Fin 2) (b : Fin 4) (k : Fin 8448) (d : Fin 64) :
    V m c main_v4 (ix4 g b k d) = m ((c : Thread nD τ).loc main_arg1) (ix3 g (Cert.Softmax.keyRow b k) d) := by
  unfold V Cert.Softmax.keyRow
  after_reads_at
  split <;> rfl

/-- The joined values, transposed and cut in chunks, with rows of ones below, as the kernel is launched on them. -/
theorem V_v (c : Dev nD) (g : Fin 2) (b : Fin 4) (j : Fin 33) (p : Fin 80) (x : Fin 256) :
    V m c main_v14 (ix5 g b j p x) = if h : p.val < 64 then
      m ((c : Thread nD τ).loc main_arg2) (ix3 g (Cert.Softmax.keyRow b (Cert.Softmax.key j x)) ⟨p.val, h⟩) else (1 : EReal) := by
  have hj := j.isLt
  have hkey : Cert.Softmax.key j x = ⟨j.val * 256 + x.val, by omega⟩ := Fin.ext (by simp only [Cert.Softmax.key]; omega)
  rw [hkey]
  unfold V Cert.Softmax.keyRow
  after_reads_at
  split
  · after_reads_at
    split
    · after_reads_at
    · after_reads_at
  · after_reads_at

/-- A block of the queries, an entry. -/
theorem read_q (t : Fin cfg0.N) (X : Vec Ideal S8x64x33792 .f32) (r : Fin 4) (d : Fin 64) (y : Fin 256) :
    (win0_0.blk t).view.read (Elt Ideal) X (ix3 r d y) = X (ix3 ⟨t.val / 32 % 2 * 4 + r.val, by have := r.isLt; omega⟩ d
      ⟨(t.val / 64 * 32 + t.val % 32) * 256 + y.val, by have := t_lt t; omega⟩) := by
  have := t_lt t
  blk_ext [idx t]

/-- A block of the keys, an entry. -/
theorem read_k (t : Fin cfg0.N) (X : Vec Ideal S2x4x8448x64 .bf16) (k : Fin 8448) (d : Fin 64) :
    (win0_1.blk t).view.read (Elt Ideal) X (ix4 0 0 k d) = X (ix4 ⟨t.val / 32 % 2, by omega⟩ ⟨t.val / 64, by have := t_lt t; omega⟩ k d) := by
  have := t_lt t
  blk_ext [idx t]

/-- A block of the values, an entry. -/
theorem read_v (t : Fin cfg0.N) (X : Vec Ideal S2x4x33x80x256 .bf16) (j : Fin 33) (p : Fin 80) (x : Fin 256) :
    (win0_2.blk t).view.read (Elt Ideal) X (ix5 0 0 j p x) = X (ix5 ⟨t.val / 32 % 2, by omega⟩ ⟨t.val / 64, by have := t_lt t; omega⟩ j p x) := by
  have := t_lt t
  blk_ext [idx t]

/-- Attention over the arguments of core `c`. -/
def result (c : Dev nD) : Buf (Elt Ideal) ((c : Thread nD τ).loc main_v16) := fun i =>
  Cert.Softmax.attend (m ((c : Thread nD τ).loc main_arg0)) (m ((c : Thread nD τ).loc main_arg1)) (m ((c : Thread nD τ).loc main_arg2))
    ⟨(i 0).val, (i 0).isLt⟩ ⟨(i 1).val, (i 1).isLt⟩

/-- Where a block of the result lies in the whole. -/
theorem read_o (t : Fin cfg0.N) (X : Vec Ideal S32768x512 .bf16) (y : ((cfg0.win 3).xblock (cfg0.grid.coords t)).Idx) :
    X ((win0_3.blk t).view.emb y) = X (ix2 ⟨(t.val / 64 * 32 + t.val % 32) * 256 + (y 0).val, by have := t_lt t; have : (y 0).val < 256 := (y 0).isLt; omega⟩
      ⟨t.val / 32 % 2 * 256 + (y 1).val, by have : (y 1).val < 256 := (y 1).isLt; omega⟩) := by
  have := t_lt t
  blk_ext [idx t]

/-- The block left at a point is attention there, when the queries and keys are finite. -/
theorem outAt_at (c : Dev nD) (hQ : ∀ i, ∃ r : ℝ, m ((c : Thread nD τ).loc main_arg0) i = (r : EReal))
    (hK : ∀ i, ∃ r : ℝ, m ((c : Thread nD τ).loc main_arg1) i = (r : EReal)) (t : Fin cfg0.N) (y e : Fin 256) :
    outAt m c t (ix2 y e) = result m c (ix2 ⟨(t.val / 64 * 32 + t.val % 32) * 256 + y.val, by have := t_lt t; omega⟩
      ⟨t.val / 32 % 2 * 256 + e.val, by omega⟩) := by
  have ht := t_lt t
  choose Q hQ using hQ
  choose K hK using hK
  unfold outAt
  rw [blockOut_at]
  refine (head_average _ _ _ y ⟨e.val % 64, by omega⟩
    (fun d => Q (ix3 ⟨t.val / 32 % 2 * 4 + e.val / 64, by omega⟩ ⟨(t.val / 64 * 32 + t.val % 32) * 256 + y.val, by omega⟩ d))
    (fun k d => K (ix3 ⟨t.val / 32 % 2, by omega⟩ (Cert.Softmax.keyRow ⟨t.val / 64, by omega⟩ k) d))
    (fun k => m ((c : Thread nD τ).loc main_arg2) (ix3 ⟨t.val / 32 % 2, by omega⟩ (Cert.Softmax.keyRow ⟨t.val / 64, by omega⟩ k) ⟨e.val % 64, by omega⟩))
    (fun d => ?_) (fun k d => ?_) (fun j x => ?_) (fun j x => ?_)).trans ?_
  · rw [qOfHead_at, ← hQ]
    exact congrArg (· * _) ((read_q t (V m c main_v15) _ d y).trans (V_q m c _ d _))
  · rw [← hK]
    exact (read_k t (V m c main_v4) k d).trans (V_k m c _ _ k d)
  · refine (read_v t (V m c main_v14) _ _ x).trans ((V_v m c _ _ _ _ x).trans ?_)
    rw [dif_pos (show e.val % 64 < 64 by omega)]
    simp only [Cert.Softmax.key, min_assoc, min_self]
  · refine (read_v t (V m c main_v14) _ _ x).trans ((V_v m c _ _ _ _ x).trans ?_)
    rw [dif_neg (by decide)]
  · show _ = Cert.Softmax.attend _ _ _ (⟨(t.val / 64 * 32 + t.val % 32) * 256 + y.val, by omega⟩ : Fin 32768)
      (⟨t.val / 32 % 2 * 256 + e.val, by omega⟩ : Fin 512)
    unfold Cert.Softmax.attend
    have e1 : (t.val / 32 % 2 * 256 + e.val) / 64 = t.val / 32 % 2 * 4 + e.val / 64 := by omega
    have e2 : (t.val / 32 % 2 * 256 + e.val) / 256 = t.val / 32 % 2 := by omega
    have e3 : (t.val / 32 % 2 * 256 + e.val) % 64 = e.val % 64 := by omega
    have e4 : ((t.val / 64 * 32 + t.val % 32) * 256 + y.val) / 8192 = t.val / 64 := by omega
    simp only [e1, e2, e3, e4, hQ, hK, EReal.coe_mul, Cert.Softmax.coe_sum]

/-- After the last point the result array is attention. -/
theorem final (c : Dev nD) (hQ : ∀ i, ∃ r : ℝ, m ((c : Thread nD τ).loc main_arg0) i = (r : EReal))
    (hK : ∀ i, ∃ r : ℝ, m ((c : Thread nD τ).loc main_arg1) i = (r : EReal)) : (dats m 0 c).arrAt 3 cfg0.N = result m c := by
  refine (dats m 0 c).arrAt_eq_of_covers 3 _ (by decide +kernel) fun t hf y => ?_
  blk_simp
  rw [after0_3, read_o t (result m c) y, ← outAt_at m c hQ hK t ⟨(y 0).val, (y 0).isLt⟩ ⟨(y 1).val, (y 1).isLt⟩]
  refine congrArg (outAt m c t) ?_
  funext a
  match a with
  | ⟨0, _⟩ => rfl
  | ⟨1, _⟩ => rfl

/-- The run, read: the result at attention, the arguments unchanged. -/
theorem run (hQ : ∀ (c : Dev nD) i, ∃ r : ℝ, m ((c : Thread nD τ).loc main_arg0) i = (r : EReal))
    (hK : ∀ (c : Dev nD) i, ∃ r : ℝ, m ((c : Thread nD τ).loc main_arg1) i = (r : EReal)) :
    θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final m c (hQ c) (hK c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ)

end Cert.KernelIdeal.Attn

end
-- ==== Proof.Finite.lean ====
/-
  The precondition read: every query and every key is a real number.
-/
module

public import proofs.«01_k».proof.Proof.Gen.Pre_finite_scores
public import proofs.«01_k».proof.Proof.Math

@[expose] public section

noncomputable section

namespace Cert.Pre_finite_scores.Attn

open Cert.Pre_finite_scores Cert.Pre_finite_scores.Gen
open Idealize.ShloMosaic Idealize.ShloMosaic.TcCoe Idealize.SL.Sem

/-- The pattern of +∞. -/
theorem ofBits_inf : Ideal.ofBits .f32 0x7F800000#32 = ⊤ := by simp [Ideal.ofBits, Ideal.ieee]

/-- What lies below +∞ in absolute value is a real. -/
theorem real_of_abs (x : EReal) (h : max x (-x) < ⊤) : ∃ r : ℝ, x = (r : EReal) := by
  induction x with
  | bot => simp at h
  | top => simp at h
  | coe r => exact ⟨r, rfl⟩

/-- Under the precondition every query is a real. -/
theorem query_real (A0 : FVec Ideal S8x33792x64 .f32) (A1 A2 : FVec Ideal S2x33792x64 .bf16) (h : fn (F := Ideal) A0 A1 A2 = fun _ => 1#1)
    (a : Fin 8) (n : Fin 33792) (d : Fin 64) : ∃ r : ℝ, A0 (ix3 a n d) = (r : EReal) := by
  have e := congrFun h (ix3 ⟨a.val, by omega⟩ n d)
  revert e
  unfold fn
  pointwise
  rw [ofBits_inf]
  intro e
  refine real_of_abs _ ?_
  by_contra hn
  have e' : BitVec.ofBool (decide (max (A0 (ix3 a n d) : EReal) (-A0 (ix3 a n d)) < ⊤)) = 1#1 := e
  rw [decide_eq_false hn] at e'
  exact absurd e' (by decide)

/-- Under the precondition every key is a real. -/
theorem key_real (A0 : FVec Ideal S8x33792x64 .f32) (A1 A2 : FVec Ideal S2x33792x64 .bf16) (h : fn (F := Ideal) A0 A1 A2 = fun _ => 1#1)
    (a : Fin 2) (n : Fin 33792) (d : Fin 64) : ∃ r : ℝ, A1 (ix3 a n d) = (r : EReal) := by
  have e := congrFun h (ix3 ⟨8 + a.val, by omega⟩ n d)
  revert e
  unfold fn
  pointwise
  rw [ofBits_inf]
  intro e
  refine real_of_abs _ ?_
  by_contra hn
  have e' : BitVec.ofBool (decide (max (A1 (ix3 a n d) : EReal) (-A1 (ix3 a n d)) < ⊤)) = 1#1 := e
  rw [decide_eq_false hn] at e'
  exact absurd e' (by decide)

end Cert.Pre_finite_scores.Attn

end
-- ==== Proof.Rows.lean ====
/-
  The arithmetic of one row of the input projection over the extended reals: norm, modulation, the norm of a head and the
  axial rotation, in the lanes' form and in the head's form.
-/
module

public import Idealize.ShloMosaic.Lib.Pointwise

@[expose] public section

noncomputable section

namespace Cert.Rows

open Idealize.ShloMosaic

/-- A row over its root mean square, times the gain, scaled and shifted. -/
def modulated (x g sh sc : Fin 1024 → EReal) (d : Fin 1024) : EReal :=
  x d * Ideal.rsqrt (Ideal.div (∑ e, x e * x e) (Ideal.ofBits .f32 0x44800000#32) + Ideal.ofBits .f32 0x358637BD#32) * g d * (1 + sc d) + sh d

/-- A lane turned with its neighbours sixteen lanes above and below. -/
def turn (u : Fin 128 → EReal) (c s1 s2 : EReal) (l : Fin 128) : EReal :=
  u l * c + u ⟨(l.val + 128 - 112) % 128, by omega⟩ * s1 + u ⟨(l.val + 128 - 16) % 128, by omega⟩ * s2

/-- A lane over its head's root mean square, the squares summed through the matrix `b` in two parts. -/
def laneNorm (u : Fin 128 → EReal) (b : Fin 128 → Fin 128 → EReal) (g : Fin 128 → EReal) (l : Fin 128) : EReal :=
  u l * Ideal.rsqrt (∑ x, u x * u x * b x l + ∑ x, (u x * u x - u x * u x) * b x l + Ideal.ofBits .f32 0x358637BD#32) * g l

/-- The inverse frequency of index `f`. -/
def freq (f : Nat) : EReal :=
  Ideal.pow (Ideal.ofBits .f32 0x461C4000#32) (Ideal.div (-(FloatOps.sitofp (F := Ideal) .f32 (BitVec.ofNat 32 f) : EReal)) (Ideal.ofBits .f32 0x41800000#32))

/-- The angle of grid token `p` at a lane: its row or its column times the lane's inverse frequency. -/
def angle (p l : Nat) : EReal :=
  (if l % 64 / 32 = 0 then (FloatOps.sitofp (F := Ideal) .f32 (BitVec.ofNat 32 (p / 64)) : EReal)
    else (FloatOps.sitofp (F := Ideal) .f32 (BitVec.ofNat 32 (p % 64)) : EReal)) * freq (l % 16)

end Cert.Rows

end
-- ==== Proof.Blocks.lean ====
/-
  The projection kernel's block arithmetic over the extended reals: what each output buffer holds after the body, at an entry.
-/
module

public import proofs.«01_k».proof.Proof.Gen.InprojIdeal.Frame
public import proofs.«01_k».proof.Proof.Rows
public import Idealize.ShloMosaic.Lib.Pipeline.ValueKit

@[expose] public section

set_option maxRecDepth 16384

noncomputable section

namespace Cert.InprojIdeal.Row

open Cert.InprojIdeal Cert.InprojIdeal.Gen Cert.Rows
open Idealize.ShloMosaic Idealize.ShloMosaic.TcCoe Idealize.SL.Sem

variable (x0 : Vec Ideal S512x1024 .f32) (x1 : Vec Ideal S1x1024 .f32) (x2 x3 : Vec Ideal S1x1x1024 .f32) (x4 : Vec Ideal S1024x3840 .bf16)
  (x5 x6 x7 : Vec Ideal S512x128 .f32) (x8 x9 : Vec Ideal S1x128 .f32) (x10 : Vec Ideal S128x128 .bf16)

/-- The normed and modulated block of rows, an entry. -/
theorem normed_at (r : Fin 512) (d : Fin 1024) : k0_pay54 x0 x1 x2 x3 x4 x5 x6 x7 x8 x9 x10 (ix2 r d)
    = modulated (fun e => x0 (ix2 r e)) (fun e => x1 (ix2 0 e)) (fun e => x2 (ix3 0 0 e)) (fun e => x3 (ix3 0 0 e)) d := by
  unfold k0_pay54 k0_pay7 modulated
  pointwise

/-- A column of the block's projection. -/
def col (h : FVec Ideal S512x1024 .bf16) (w : Vec Ideal S1024x3840 .bf16) (r : Fin 512) (k : Fin 3840) : EReal :=
  ∑ d : Fin 1024, h (ix2 r d) * w (ix2 d k)

/-- The block of rows the projection multiplies. -/
abbrev H : FVec Ideal S512x1024 .bf16 := k0_pay54 x0 x1 x2 x3 x4 x5 x6 x7 x8 x9 x10

/-- The first 512 columns, turned. -/
theorem out11_at (y : S512x512.Idx) (r e : Fin 512) (h0 : (y 0).val = r.val) (h1 : (y 1).val = e.val) :
    out0_11 x0 x1 x2 x3 x4 x5 x6 x7 x8 x9 x10 y = turn (fun j => col (H x0 x1 x2 x3 x4 x5 x6 x7 x8 x9 x10) x4 r ⟨0 + e.val / 128 * 128 + j.val, by omega⟩)
      (x5 (ix2 r ⟨e.val % 128, by omega⟩)) (x6 (ix2 r ⟨e.val % 128, by omega⟩)) (x7 (ix2 r ⟨e.val % 128, by omega⟩)) ⟨e.val % 128, by omega⟩ := by
  unfold out0_11 k0_pay57 k0_pay56 k0_pay55 H
  generalize k0_pay54 x0 x1 x2 x3 x4 x5 x6 x7 x8 x9 x10 = h
  canon_tiles x hx
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 384 + l.val := h1.symm.trans hx1
    have e1 : e.val / 128 * 128 = 384 := by omega
    have e2 : e.val % 128 = l.val := by omega
    simp only [e1, e2]
    unfold k0_pay24 k0_pay20 k0_pay8 k0_pay9 k0_pay10 turn col
    pointwise <;> simp only [← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 256 + l.val := h1.symm.trans hx1
    have e1 : e.val / 128 * 128 = 256 := by omega
    have e2 : e.val % 128 = l.val := by omega
    simp only [e1, e2]
    unfold k0_pay22 k0_pay20 k0_pay8 k0_pay9 k0_pay10 turn col
    pointwise <;> simp only [← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 128 + l.val := h1.symm.trans hx1
    have e1 : e.val / 128 * 128 = 128 := by omega
    have e2 : e.val % 128 = l.val := by omega
    simp only [e1, e2]
    unfold k0_pay16 k0_pay12 k0_pay8 k0_pay9 k0_pay10 turn col
    pointwise <;> simp only [← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 0 + l.val := h1.symm.trans (hx1.trans (Nat.zero_add _).symm)
    have e1 : e.val / 128 * 128 = 0 := by omega
    have e2 : e.val % 128 = l.val := by omega
    simp only [e1, e2]
    unfold k0_pay14 k0_pay12 k0_pay8 k0_pay9 k0_pay10 turn col
    pointwise <;> simp only [← Nat.add_assoc, Nat.reduceAdd, Nat.zero_add, Nat.add_zero]

/-- The next 512 columns, turned and times 1/8. -/
theorem out12_at (y : S512x512.Idx) (r e : Fin 512) (h0 : (y 0).val = r.val) (h1 : (y 1).val = e.val) :
    out0_12 x0 x1 x2 x3 x4 x5 x6 x7 x8 x9 x10 y = turn (fun j => col (H x0 x1 x2 x3 x4 x5 x6 x7 x8 x9 x10) x4 r ⟨512 + e.val / 128 * 128 + j.val, by omega⟩)
      (x5 (ix2 r ⟨e.val % 128, by omega⟩)) (x6 (ix2 r ⟨e.val % 128, by omega⟩)) (x7 (ix2 r ⟨e.val % 128, by omega⟩)) ⟨e.val % 128, by omega⟩ * Ideal.ofBits .f32 0x3E000000#32 := by
  unfold out0_12 k0_pay57 k0_pay56 k0_pay55 H
  generalize k0_pay54 x0 x1 x2 x3 x4 x5 x6 x7 x8 x9 x10 = h
  canon_tiles x hx
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 384 + l.val := h1.symm.trans hx1
    have e1 : e.val / 128 * 128 = 384 := by omega
    have e2 : e.val % 128 = l.val := by omega
    simp only [e1, e2]
    unfold k0_pay25 k0_pay21 k0_pay8 k0_pay9 k0_pay10 turn col
    pointwise <;> simp only [← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 256 + l.val := h1.symm.trans hx1
    have e1 : e.val / 128 * 128 = 256 := by omega
    have e2 : e.val % 128 = l.val := by omega
    simp only [e1, e2]
    unfold k0_pay23 k0_pay21 k0_pay8 k0_pay9 k0_pay10 turn col
    pointwise <;> simp only [← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 128 + l.val := h1.symm.trans hx1
    have e1 : e.val / 128 * 128 = 128 := by omega
    have e2 : e.val % 128 = l.val := by omega
    simp only [e1, e2]
    unfold k0_pay19 k0_pay18 k0_pay17 k0_pay13 k0_pay8 k0_pay9 k0_pay10 turn col
    pointwise <;> simp only [← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 0 + l.val := h1.symm.trans (hx1.trans (Nat.zero_add _).symm)
    have e1 : e.val / 128 * 128 = 0 := by omega
    have e2 : e.val % 128 = l.val := by omega
    simp only [e1, e2]
    unfold k0_pay15 k0_pay13 k0_pay8 k0_pay9 k0_pay10 turn col
    pointwise <;> simp only [← Nat.add_assoc, Nat.reduceAdd, Nat.zero_add, Nat.add_zero]

/-- The 2048 columns from the 1024th on. -/
theorem out13_at (y : S512x2048.Idx) (r : Fin 512) (e : Fin 2048) (h0 : (y 0).val = r.val) (h1 : (y 1).val = e.val) :
    out0_13 x0 x1 x2 x3 x4 x5 x6 x7 x8 x9 x10 y = col (H x0 x1 x2 x3 x4 x5 x6 x7 x8 x9 x10) x4 r ⟨1024 + e.val, by omega⟩ := by
  unfold out0_13 H
  generalize k0_pay54 x0 x1 x2 x3 x4 x5 x6 x7 x8 x9 x10 = h
  canon_tiles x hx
  · obtain ⟨a, l, rfl⟩ : ∃ (a : Fin 512) (l : Fin 512), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 1536 + l.val := h1.symm.trans hx1
    simp only [he]
    unfold k0_pay30 col
    pointwise <;> simp only [← Nat.add_assoc, Nat.reduceAdd, Nat.add_zero]
  · obtain ⟨a, l, rfl⟩ : ∃ (a : Fin 512) (l : Fin 512), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 1024 + l.val := h1.symm.trans hx1
    simp only [he]
    unfold k0_pay29 k0_pay28 col
    pointwise <;> simp only [← Nat.add_assoc, Nat.reduceAdd, Nat.add_zero]
  · obtain ⟨a, l, rfl⟩ : ∃ (a : Fin 512) (l : Fin 512), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 512 + l.val := h1.symm.trans hx1
    simp only [he]
    unfold k0_pay27 col
    pointwise <;> simp only [← Nat.add_assoc, Nat.reduceAdd, Nat.add_zero]
  · obtain ⟨a, l, rfl⟩ : ∃ (a : Fin 512) (l : Fin 512), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 0 + l.val := h1.symm.trans (hx1.trans (Nat.zero_add _).symm)
    simp only [he]
    unfold k0_pay26 col
    pointwise <;> simp only [← Nat.add_assoc, Nat.reduceAdd, Nat.add_zero]

/-- The eight query heads, normed and turned. -/
theorem out14_at (y : S8x512x64.Idx) (g : Fin 8) (r : Fin 512) (e : Fin 64) (hg : (y 0).val = g.val) (h0 : (y 1).val = r.val) (h1 : (y 2).val = e.val) :
    out0_14 x0 x1 x2 x3 x4 x5 x6 x7 x8 x9 x10 y = turn (laneNorm (fun j => col (H x0 x1 x2 x3 x4 x5 x6 x7 x8 x9 x10) x4 r ⟨3072 + g.val / 2 * 128 + j.val, by omega⟩) (fun i j => x10 (ix2 i j)) (fun j => x8 (ix2 0 j)))
      (x5 (ix2 r ⟨g.val % 2 * 64 + e.val, by omega⟩)) (x6 (ix2 r ⟨g.val % 2 * 64 + e.val, by omega⟩)) (x7 (ix2 r ⟨g.val % 2 * 64 + e.val, by omega⟩)) ⟨g.val % 2 * 64 + e.val, by omega⟩ := by
  unfold out0_14 k0_pay63 k0_pay62 k0_pay61 k0_pay59 k0_pay58 k0_pay57 k0_pay56 k0_pay55 H
  generalize k0_pay54 x0 x1 x2 x3 x4 x5 x6 x7 x8 x9 x10 = h
  canon_tiles x hx
  · obtain ⟨a, l, rfl⟩ : ∃ (a : Fin 512) (l : Fin 64), x = ix3 0 a l :=
      ⟨⟨(x 1).val, (x 1).isLt⟩, ⟨(x 2).val, (x 2).isLt⟩,
        funext fun a => match a with | ⟨0, _⟩ => Fin.ext (by have : (x 0).val < 1 := (x 0).isLt; show (x 0).val = 0; omega) | ⟨1, _⟩ => rfl | ⟨2, _⟩ => rfl⟩
    obtain rfl : r = a := Fin.ext (h0.symm.trans hx1)
    obtain rfl : e = l := Fin.ext (h1.symm.trans hx2)
    have hg' : g.val = 7 := hg.symm.trans hx0
    have e1 : g.val / 2 * 128 = 384 := by omega
    have e2 : g.val % 2 * 64 = 64 := by omega
    simp only [e1, e2]
    unfold k0_pay49 k0_pay47 k0_pay46 k0_pay45 k0_pay41 k0_pay31 k0_pay8 k0_pay9 k0_pay10 k0_pay11 turn laneNorm col
    pointwise <;> simp only [← Nat.add_assoc, Nat.reduceAdd, Nat.reduceMul, Nat.zero_add, Nat.add_zero]
  · obtain ⟨a, l, rfl⟩ : ∃ (a : Fin 512) (l : Fin 64), x = ix3 0 a l :=
      ⟨⟨(x 1).val, (x 1).isLt⟩, ⟨(x 2).val, (x 2).isLt⟩,
        funext fun a => match a with | ⟨0, _⟩ => Fin.ext (by have : (x 0).val < 1 := (x 0).isLt; show (x 0).val = 0; omega) | ⟨1, _⟩ => rfl | ⟨2, _⟩ => rfl⟩
    obtain rfl : r = a := Fin.ext (h0.symm.trans hx1)
    obtain rfl : e = l := Fin.ext (h1.symm.trans hx2)
    have hg' : g.val = 6 := hg.symm.trans hx0
    have e1 : g.val / 2 * 128 = 384 := by omega
    have e2 : g.val % 2 * 64 = 0 := by omega
    simp only [e1, e2]
    unfold k0_pay48 k0_pay47 k0_pay46 k0_pay45 k0_pay41 k0_pay31 k0_pay8 k0_pay9 k0_pay10 k0_pay11 turn laneNorm col
    pointwise <;> simp only [← Nat.add_assoc, Nat.reduceAdd, Nat.reduceMul, Nat.zero_add, Nat.add_zero]
  · obtain ⟨a, l, rfl⟩ : ∃ (a : Fin 512) (l : Fin 64), x = ix3 0 a l :=
      ⟨⟨(x 1).val, (x 1).isLt⟩, ⟨(x 2).val, (x 2).isLt⟩,
        funext fun a => match a with | ⟨0, _⟩ => Fin.ext (by have : (x 0).val < 1 := (x 0).isLt; show (x 0).val = 0; omega) | ⟨1, _⟩ => rfl | ⟨2, _⟩ => rfl⟩
    obtain rfl : r = a := Fin.ext (h0.symm.trans hx1)
    obtain rfl : e = l := Fin.ext (h1.symm.trans hx2)
    have hg' : g.val = 5 := hg.symm.trans hx0
    have e1 : g.val / 2 * 128 = 256 := by omega
    have e2 : g.val % 2 * 64 = 64 := by omega
    simp only [e1, e2]
    unfold k0_pay44 k0_pay42 k0_pay41 k0_pay31 k0_pay8 k0_pay9 k0_pay10 k0_pay11 turn laneNorm col
    pointwise <;> simp only [← Nat.add_assoc, Nat.reduceAdd, Nat.reduceMul, Nat.zero_add, Nat.add_zero]
  · obtain ⟨a, l, rfl⟩ : ∃ (a : Fin 512) (l : Fin 64), x = ix3 0 a l :=
      ⟨⟨(x 1).val, (x 1).isLt⟩, ⟨(x 2).val, (x 2).isLt⟩,
        funext fun a => match a with | ⟨0, _⟩ => Fin.ext (by have : (x 0).val < 1 := (x 0).isLt; show (x 0).val = 0; omega) | ⟨1, _⟩ => rfl | ⟨2, _⟩ => rfl⟩
    obtain rfl : r = a := Fin.ext (h0.symm.trans hx1)
    obtain rfl : e = l := Fin.ext (h1.symm.trans hx2)
    have hg' : g.val = 4 := hg.symm.trans hx0
    have e1 : g.val / 2 * 128 = 256 := by omega
    have e2 : g.val % 2 * 64 = 0 := by omega
    simp only [e1, e2]
    unfold k0_pay43 k0_pay42 k0_pay41 k0_pay31 k0_pay8 k0_pay9 k0_pay10 k0_pay11 turn laneNorm col
    pointwise <;> simp only [← Nat.add_assoc, Nat.reduceAdd, Nat.reduceMul, Nat.zero_add, Nat.add_zero]
  · obtain ⟨a, l, rfl⟩ : ∃ (a : Fin 512) (l : Fin 64), x = ix3 0 a l :=
      ⟨⟨(x 1).val, (x 1).isLt⟩, ⟨(x 2).val, (x 2).isLt⟩,
        funext fun a => match a with | ⟨0, _⟩ => Fin.ext (by have : (x 0).val < 1 := (x 0).isLt; show (x 0).val = 0; omega) | ⟨1, _⟩ => rfl | ⟨2, _⟩ => rfl⟩
    obtain rfl : r = a := Fin.ext (h0.symm.trans hx1)
    obtain rfl : e = l := Fin.ext (h1.symm.trans hx2)
    have hg' : g.val = 3 := hg.symm.trans hx0
    have e1 : g.val / 2 * 128 = 128 := by omega
    have e2 : g.val % 2 * 64 = 64 := by omega
    simp only [e1, e2]
    unfold k0_pay40 k0_pay38 k0_pay33 k0_pay31 k0_pay8 k0_pay9 k0_pay10 k0_pay11 turn laneNorm col
    pointwise <;> simp only [← Nat.add_assoc, Nat.reduceAdd, Nat.reduceMul, Nat.zero_add, Nat.add_zero]
  · obtain ⟨a, l, rfl⟩ : ∃ (a : Fin 512) (l : Fin 64), x = ix3 0 a l :=
      ⟨⟨(x 1).val, (x 1).isLt⟩, ⟨(x 2).val, (x 2).isLt⟩,
        funext fun a => match a with | ⟨0, _⟩ => Fin.ext (by have : (x 0).val < 1 := (x 0).isLt; show (x 0).val = 0; omega) | ⟨1, _⟩ => rfl | ⟨2, _⟩ => rfl⟩
    obtain rfl : r = a := Fin.ext (h0.symm.trans hx1)
    obtain rfl : e = l := Fin.ext (h1.symm.trans hx2)
    have hg' : g.val = 2 := hg.symm.trans hx0
    have e1 : g.val / 2 * 128 = 128 := by omega
    have e2 : g.val % 2 * 64 = 0 := by omega
    simp only [e1, e2]
    unfold k0_pay39 k0_pay38 k0_pay33 k0_pay31 k0_pay8 k0_pay9 k0_pay10 k0_pay11 turn laneNorm col
    pointwise <;> simp only [← Nat.add_assoc, Nat.reduceAdd, Nat.reduceMul, Nat.zero_add, Nat.add_zero]
  · obtain ⟨a, l, rfl⟩ : ∃ (a : Fin 512) (l : Fin 64), x = ix3 0 a l :=
      ⟨⟨(x 1).val, (x 1).isLt⟩, ⟨(x 2).val, (x 2).isLt⟩,
        funext fun a => match a with | ⟨0, _⟩ => Fin.ext (by have : (x 0).val < 1 := (x 0).isLt; show (x 0).val = 0; omega) | ⟨1, _⟩ => rfl | ⟨2, _⟩ => rfl⟩
    obtain rfl : r = a := Fin.ext (h0.symm.trans hx1)
    obtain rfl : e = l := Fin.ext (h1.symm.trans hx2)
    have hg' : g.val = 1 := hg.symm.trans hx0
    have e1 : g.val / 2 * 128 = 0 := by omega
    have e2 : g.val % 2 * 64 = 64 := by omega
    simp only [e1, e2]
    unfold k0_pay37 k0_pay34 k0_pay33 k0_pay31 k0_pay8 k0_pay9 k0_pay10 k0_pay11 turn laneNorm col
    pointwise <;> simp only [← Nat.add_assoc, Nat.reduceAdd, Nat.reduceMul, Nat.zero_add, Nat.add_zero]
  · obtain ⟨a, l, rfl⟩ : ∃ (a : Fin 512) (l : Fin 64), x = ix3 0 a l :=
      ⟨⟨(x 1).val, (x 1).isLt⟩, ⟨(x 2).val, (x 2).isLt⟩,
        funext fun a => match a with | ⟨0, _⟩ => Fin.ext (by have : (x 0).val < 1 := (x 0).isLt; show (x 0).val = 0; omega) | ⟨1, _⟩ => rfl | ⟨2, _⟩ => rfl⟩
    obtain rfl : r = a := Fin.ext (h0.symm.trans hx1)
    obtain rfl : e = l := Fin.ext (h1.symm.trans hx2)
    have hg' : g.val = 0 := hg.symm.trans hx0
    have e1 : g.val / 2 * 128 = 0 := by omega
    have e2 : g.val % 2 * 64 = 0 := by omega
    simp only [e1, e2]
    unfold k0_pay36 k0_pay35 k0_pay34 k0_pay33 k0_pay31 k0_pay8 k0_pay9 k0_pay10 k0_pay11 turn laneNorm col
    pointwise <;> simp only [← Nat.add_assoc, Nat.reduceAdd, Nat.reduceMul, Nat.zero_add, Nat.add_zero]

/-- The two key heads, normed and turned. -/
theorem out15_at (y : S2x512x64.Idx) (g : Fin 2) (r : Fin 512) (e : Fin 64) (hg : (y 0).val = g.val) (h0 : (y 1).val = r.val) (h1 : (y 2).val = e.val) :
    out0_15 x0 x1 x2 x3 x4 x5 x6 x7 x8 x9 x10 y = turn (laneNorm (fun j => col (H x0 x1 x2 x3 x4 x5 x6 x7 x8 x9 x10) x4 r ⟨3584 + g.val / 2 * 128 + j.val, by omega⟩) (fun i j => x10 (ix2 i j)) (fun j => x9 (ix2 0 j)))
      (x5 (ix2 r ⟨g.val % 2 * 64 + e.val, by omega⟩)) (x6 (ix2 r ⟨g.val % 2 * 64 + e.val, by omega⟩)) (x7 (ix2 r ⟨g.val % 2 * 64 + e.val, by omega⟩)) ⟨g.val % 2 * 64 + e.val, by omega⟩ := by
  unfold out0_15 k0_pay66 k0_pay65 k0_pay60 k0_pay58 k0_pay57 k0_pay56 k0_pay55 H
  generalize k0_pay54 x0 x1 x2 x3 x4 x5 x6 x7 x8 x9 x10 = h
  canon_tiles x hx
  · obtain ⟨a, l, rfl⟩ : ∃ (a : Fin 512) (l : Fin 64), x = ix3 0 a l :=
      ⟨⟨(x 1).val, (x 1).isLt⟩, ⟨(x 2).val, (x 2).isLt⟩,
        funext fun a => match a with | ⟨0, _⟩ => Fin.ext (by have : (x 0).val < 1 := (x 0).isLt; show (x 0).val = 0; omega) | ⟨1, _⟩ => rfl | ⟨2, _⟩ => rfl⟩
    obtain rfl : r = a := Fin.ext (h0.symm.trans hx1)
    obtain rfl : e = l := Fin.ext (h1.symm.trans hx2)
    have hg' : g.val = 1 := hg.symm.trans hx0
    have e1 : g.val / 2 * 128 = 0 := by omega
    have e2 : g.val % 2 * 64 = 64 := by omega
    simp only [e1, e2]
    unfold k0_pay3 k0_pay1 k0_pay52 k0_pay53 k0_pay51 k0_pay50 k0_pay32 k0_pay8 k0_pay9 k0_pay10 k0_pay11 turn laneNorm col
    pointwise <;> simp only [← Nat.add_assoc, Nat.reduceAdd, Nat.reduceMul, Nat.zero_add, Nat.add_zero]
  · obtain ⟨a, l, rfl⟩ : ∃ (a : Fin 512) (l : Fin 64), x = ix3 0 a l :=
      ⟨⟨(x 1).val, (x 1).isLt⟩, ⟨(x 2).val, (x 2).isLt⟩,
        funext fun a => match a with | ⟨0, _⟩ => Fin.ext (by have : (x 0).val < 1 := (x 0).isLt; show (x 0).val = 0; omega) | ⟨1, _⟩ => rfl | ⟨2, _⟩ => rfl⟩
    obtain rfl : r = a := Fin.ext (h0.symm.trans hx1)
    obtain rfl : e = l := Fin.ext (h1.symm.trans hx2)
    have hg' : g.val = 0 := hg.symm.trans hx0
    have e1 : g.val / 2 * 128 = 0 := by omega
    have e2 : g.val % 2 * 64 = 0 := by omega
    simp only [e1, e2]
    unfold k0_pay2 k0_pay1 k0_pay52 k0_pay53 k0_pay51 k0_pay50 k0_pay32 k0_pay8 k0_pay9 k0_pay10 k0_pay11 turn laneNorm col
    pointwise <;> simp only [← Nat.add_assoc, Nat.reduceAdd, Nat.reduceMul, Nat.zero_add, Nat.add_zero]

/-- The two value heads. -/
theorem out16_at (y : S2x512x64.Idx) (g : Fin 2) (r : Fin 512) (e : Fin 64) (hg : (y 0).val = g.val) (h0 : (y 1).val = r.val) (h1 : (y 2).val = e.val) :
    out0_16 x0 x1 x2 x3 x4 x5 x6 x7 x8 x9 x10 y = col (H x0 x1 x2 x3 x4 x5 x6 x7 x8 x9 x10) x4 r ⟨3712 + g.val * 64 + e.val, by omega⟩ := by
  unfold out0_16 k0_pay64 H
  generalize k0_pay54 x0 x1 x2 x3 x4 x5 x6 x7 x8 x9 x10 = h
  canon_tiles x hx
  · obtain ⟨a, l, rfl⟩ : ∃ (a : Fin 512) (l : Fin 64), x = ix3 0 a l :=
      ⟨⟨(x 1).val, (x 1).isLt⟩, ⟨(x 2).val, (x 2).isLt⟩,
        funext fun a => match a with | ⟨0, _⟩ => Fin.ext (by have : (x 0).val < 1 := (x 0).isLt; show (x 0).val = 0; omega) | ⟨1, _⟩ => rfl | ⟨2, _⟩ => rfl⟩
    obtain rfl : r = a := Fin.ext (h0.symm.trans hx1)
    obtain rfl : e = l := Fin.ext (h1.symm.trans hx2)
    have hg' : g.val = 1 := hg.symm.trans hx0
    simp only [hg']
    unfold k0_pay6 k0_pay4 k0_pay50 col
    pointwise <;> simp only [← Nat.add_assoc, Nat.reduceAdd, Nat.reduceMul, Nat.zero_add, Nat.add_zero]
  · obtain ⟨a, l, rfl⟩ : ∃ (a : Fin 512) (l : Fin 64), x = ix3 0 a l :=
      ⟨⟨(x 1).val, (x 1).isLt⟩, ⟨(x 2).val, (x 2).isLt⟩,
        funext fun a => match a with | ⟨0, _⟩ => Fin.ext (by have : (x 0).val < 1 := (x 0).isLt; show (x 0).val = 0; omega) | ⟨1, _⟩ => rfl | ⟨2, _⟩ => rfl⟩
    obtain rfl : r = a := Fin.ext (h0.symm.trans hx1)
    obtain rfl : e = l := Fin.ext (h1.symm.trans hx2)
    have hg' : g.val = 0 := hg.symm.trans hx0
    simp only [hg']
    unfold k0_pay5 k0_pay4 k0_pay50 col
    pointwise <;> simp only [← Nat.add_assoc, Nat.reduceAdd, Nat.reduceMul, Nat.zero_add, Nat.add_zero]

end Cert.InprojIdeal.Row

end
-- ==== Proof.Average.lean ====
/-
  The words of the projection's averaging matrix.
-/
module

public import proofs.«01_k».proof.InprojIdeal
public import Idealize.ShloMosaic.Lib.Pipeline.ValueKit

@[expose] public section

set_option maxRecDepth 16384

noncomputable section

namespace Cert.InprojIdeal.Row

open Cert.InprojIdeal
open Idealize.ShloMosaic

/-- The averaging matrix's words: 1/64 within a head, zero across heads. -/
theorem lit3_eq : ∀ i j : Fin 128, lit3 (S128x128.rowMajor (ix2 i j)) = if i.val / 64 = j.val / 64 then 0x3C800000#32 else 0#32 := by
  decide +kernel

end Cert.InprojIdeal.Row

end
-- ==== Proof.Tables.lean ====
/-
  The arrays the projection's host code lays out before the launch, read at an index: the shifts, scales, weights and
  gains, the averaging matrix of the heads, and the cosine and sine tables of the axial rotation.
-/
module

public import proofs.«01_k».proof.Proof.Blocks
public import proofs.«01_k».proof.Proof.Average
public import Idealize.ShloMosaic.Lib.StableHlo.ReadAt

@[expose] public section

set_option maxRecDepth 16384

noncomputable section

namespace Cert.InprojIdeal.Row

open Cert.InprojIdeal Cert.InprojIdeal.Gen
open Idealize.ShloMosaic Idealize.ShloMosaic.TcCoe Idealize.SL.Sem
open Cert.Rows

/-- The zero word is zero. -/
theorem zero_word : Ideal.ofBits .f32 0#32 = 0 := by
  rw [← show ((constant (F := Ideal) S_ FTy.f32 0#32) ix0 : EReal) = Ideal.ofBits .f32 0#32 from rfl]
  pointwise

/-- The floored quotient by 64 as the host code computes it. -/
abbrev fdiv (a : BitVec 32) : BitVec 32 :=
  Scalar.select (IntOp.andi (IntOp.cmpi CmpIPredicate.ne (if a = 0 then 0 else if a.msb = true then -1 else 1)
      (if 64#32 = 0 then 0 else if BitVec.msb 64#32 = true then -1 else (1 : BitVec 32)))
      (IntOp.cmpi CmpIPredicate.ne (IntOp.remsi ArithUnit.host a 64#32) 0#32))
    (IntOp.subi (IntOp.divsi ArithUnit.host a 64#32) 1#32) (IntOp.divsi ArithUnit.host a 64#32)

/-- The divisor as the host code guards it. -/
abbrev c64 : BitVec 32 := Scalar.select (IntOp.cmpi CmpIPredicate.eq 64#32 0#32) (1#32) 64#32

/-- The floored remainder by 64 as the host code computes it. -/
abbrev frem (a : BitVec 32) : BitVec 32 :=
  Scalar.select (IntOp.andi (IntOp.cmpi CmpIPredicate.ne
        (IntOp.cmpi CmpIPredicate.slt (IntOp.remsi ArithUnit.host a c64) 0#32) (IntOp.cmpi CmpIPredicate.slt c64 0#32))
      (IntOp.cmpi CmpIPredicate.ne (IntOp.remsi ArithUnit.host a c64) 0#32))
    (IntOp.addi (IntOp.remsi ArithUnit.host a c64) c64) (IntOp.remsi ArithUnit.host a c64)

/-- On the grid's tokens it is the quotient. -/
theorem fdiv_eq : ∀ n : Fin 8192, fdiv (BitVec.ofNat 32 n.val) = BitVec.ofNat 32 (n.val / 64) := by decide +kernel

/-- On the grid's tokens it is the remainder. -/
theorem frem_eq : ∀ n : Fin 8192, frem (BitVec.ofNat 32 n.val) = BitVec.ofNat 32 (n.val % 64) := by decide +kernel

/-- The lane's axis word picks the row on the first half of a head. -/
theorem lit0_eq : ∀ l : Fin 128, IntOp.cmpi CmpIPredicate.eq (lit0 (S128.rowMajor (ix1 l))) 0#32 = BitVec.ofBool (decide (l.val % 64 / 32 = 0)) := by
  decide +kernel

/-- The lane's half word tells the upper half of an axis. -/
theorem lit2_eq : ∀ l : Fin 128, lit2 (S128.rowMajor (ix1 l)) = BitVec.ofBool (!decide (l.val % 32 < 16)) := by
  decide +kernel

/-- The lane's frequency index, as the host code wraps it. -/
abbrev fidx (l : Fin 128) : BitVec 32 :=
  Scalar.select (IntOp.cmpi CmpIPredicate.slt (lit1 (S128.rowMajor (ix1 l))) 0#32)
    (IntOp.addi (lit1 (S128.rowMajor (ix1 l))) 16#32) (lit1 (S128.rowMajor (ix1 l)))

/-- It is the lane modulo sixteen. -/
theorem fidx_eq : ∀ l : Fin 128, min (fidx l).toInt.toNat 15 = l.val % 16 := by decide +kernel

/-- The lookup of the inverse frequencies, read at a lane. -/
theorem gather_at {α : Type} (x : S16.Idx → α) (i : S128x1.Idx → BitVec 32) (l : Fin 128) :
    Host.gather gather_S16_S128x1_S128_n_0_n_n_0_1_1 x i (ix1 l) = x (ix1 ⟨min (i (ix2 l 0)).toInt.toNat 15, by omega⟩) := by
  unfold Host.gather
  refine congrArg x (funext fun a => ?_)
  obtain rfl : a = 0 := Subsingleton.elim _ _
  refine Fin.ext ?_
  show (gather_S16_S128x1_S128_n_0_n_n_0_1_1).start (ix1 l) i 0 + (gather_S16_S128x1_S128_n_0_n_n_0_1_1).batchCoord (ix1 l) 0
    + (gather_S16_S128x1_S128_n_0_n_n_0_1_1).offCoord (ix1 l) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S16_S128x1_S128_n_0_n_n_0_1_1.startIndexMap from List.mem_singleton.mpr rfl)]
  have e : gather_S16_S128x1_S128_n_0_n_n_0_1_1.siIdx (ix1 l)
      ⟨List.idxOf (0 : Fin 1) gather_S16_S128x1_S128_n_0_n_n_0_1_1.startIndexMap, List.idxOf_lt_length_iff.2 (List.mem_singleton.mpr rfl)⟩ = ix2 l 0 := by
    funext b; refine Fin.ext ?_
    match b with
    | ⟨0, _⟩ => rfl
    | ⟨1, _⟩ => rfl
  rw [e]
  rfl

/-- The angle of a lane as the host code computes it. -/
theorem angle_at (n : Fin 8192) (l : Fin 128) (q r : BitVec 32) (hq : q = fdiv (BitVec.ofNat 32 n.val)) (hr : r = frem (BitVec.ofNat 32 n.val)) :
    (Scalar.select (IntOp.cmpi CmpIPredicate.eq (lit0 (S128.rowMajor (ix1 l))) 0#32) (FloatOps.sitofp (F := Ideal) FTy.f32 q : EReal) (FloatOps.sitofp (F := Ideal) FTy.f32 r) : EReal) *
      (Host.gather gather_S16_S128x1_S128_n_0_n_n_0_1_1
            (Host.powf (F := Ideal) (broadcastInDim S16 ![] bcast_S_S16 (constant S_ FTy.f32 1176256512#32))
              (Host.divf (Host.negf (sitofp FTy.f32 (iotaInDim S16 32 0)))
                (broadcastInDim S16 ![] bcast_S_S16 (constant S_ FTy.f32 1098907648#32))))
            (broadcastInDim S128x1 ![0] bcast_S128_S128x1_0
              (select
                (cmpi CmpIPredicate.slt (fun i => lit1 (S128.rowMajor i))
                  (broadcastInDim S128 ![] bcast_S_S128 (constantI S_ 32 0#32)))
                (addi (fun i => lit1 (S128.rowMajor i)) (broadcastInDim S128 ![] bcast_S_S128 (constantI S_ 32 16#32)))
                fun i => lit1 (S128.rowMajor i)))
            (ix1 l) : EReal) = angle n.val l.val := by
  have hf : ∀ f : Fin 16, ((Host.powf (F := Ideal) (broadcastInDim S16 ![] bcast_S_S16 (constant S_ FTy.f32 1176256512#32))
              (Host.divf (Host.negf (sitofp FTy.f32 (iotaInDim S16 32 0)))
                (broadcastInDim S16 ![] bcast_S_S16 (constant S_ FTy.f32 1098907648#32)))) (ix1 f) : EReal) = freq f.val := by
    intro f
    unfold freq
    pointwise
  subst hq hr
  rw [gather_at, hf, fdiv_eq, frem_eq, lit0_eq]
  have hi : min (BitVec.toInt ((broadcastInDim S128x1 ![0] bcast_S128_S128x1_0
              (select
                (cmpi CmpIPredicate.slt (fun i => lit1 (S128.rowMajor i))
                  (broadcastInDim S128 ![] bcast_S_S128 (constantI S_ 32 0#32)))
                (addi (fun i => lit1 (S128.rowMajor i)) (broadcastInDim S128 ![] bcast_S_S128 (constantI S_ 32 16#32)))
                fun i => lit1 (S128.rowMajor i))) (ix2 l 0))).toNat 15 = l.val % 16 := by
    rw [← fidx_eq l]
    have : ((broadcastInDim S128x1 ![0] bcast_S128_S128x1_0
              (select
                (cmpi CmpIPredicate.slt (fun i => lit1 (S128.rowMajor i))
                  (broadcastInDim S128 ![] bcast_S_S128 (constantI S_ 32 0#32)))
                (addi (fun i => lit1 (S128.rowMajor i)) (broadcastInDim S128 ![] bcast_S_S128 (constantI S_ 32 16#32)))
                fun i => lit1 (S128.rowMajor i))) (ix2 l 0)) = fidx l := by
      pointwise
    rw [this]
  unfold angle
  refine congrArg₂ (· * ·) ?_ (congrArg freq hi)
  by_cases h : l.val % 64 / 32 = 0
  · simp [h, Scalar.select]
  · simp [h, Scalar.select]

variable (m : (ℓ : Loc nD τ sig) → Buf (Elt Ideal) ℓ)

set_option maxHeartbeats 4000000 in
/-- The cosine table: of the angle for a grid token, one for a context row. -/
theorem V_cos (c : Dev nD) (n : Fin 8704) (l : Fin 128) :
    V m c main_v39 (ix2 n l) = (if n.val < 8192 then Ideal.cos (angle n.val l.val) else 1 : EReal) := by
  unfold V
  after_reads_at
  by_cases h : n.val < 8192
  · rw [dif_pos h, if_pos h]
    exact congrArg Ideal.cos (angle_at ⟨n.val, h⟩ l _ _ rfl rfl)
  · rw [dif_neg h, if_neg h]

set_option maxHeartbeats 4000000 in
/-- The first sine table: minus the sine on the lower half of an axis, zero above and for a context row. -/
theorem V_s1 (c : Dev nD) (n : Fin 8704) (l : Fin 128) :
    V m c main_v40 (ix2 n l) = (if n.val < 8192 then (if l.val % 32 < 16 then -Ideal.sin (angle n.val l.val) else 0) else 0 : EReal) := by
  unfold V
  after_reads_at
  by_cases h : n.val < 8192
  · rw [dif_pos h, if_pos h]
    rw [show (id (constant (F := Ideal) S_ FTy.f32 0#32) ix0 : EReal) = 0 from zero_word]
    refine (congrArg₂ (Scalar.select · (0 : EReal)) (lit2_eq l) (congrArg (- Ideal.sin ·) (angle_at ⟨n.val, h⟩ l _ _ rfl rfl))).trans ?_
    by_cases h' : l.val % 32 < 16
    · simp [h', Scalar.select]
    · simp [h', Scalar.select]
  · rw [dif_neg h, if_neg h]

set_option maxHeartbeats 4000000 in
/-- The second sine table: the sine on the upper half of an axis, zero below and for a context row. -/
theorem V_s2 (c : Dev nD) (n : Fin 8704) (l : Fin 128) :
    V m c main_v41 (ix2 n l) = (if n.val < 8192 then (if l.val % 32 < 16 then 0 else Ideal.sin (angle n.val l.val)) else 0 : EReal) := by
  unfold V
  after_reads_at
  by_cases h : n.val < 8192
  · rw [dif_pos h, if_pos h]
    rw [show (id (constant (F := Ideal) S_ FTy.f32 0#32) ix0 : EReal) = 0 from zero_word]
    refine (congrArg₂ (Scalar.select · · (0 : EReal)) (lit2_eq l) (congrArg Ideal.sin (angle_at ⟨n.val, h⟩ l _ _ rfl rfl))).trans ?_
    by_cases h' : l.val % 32 < 16
    · simp [h', Scalar.select]
    · simp [h', Scalar.select]
  · rw [dif_neg h, if_neg h]

/-- The shifts enter the launch as they stand in the argument. -/
theorem V_shift (c : Dev nD) (b : Fin 8) (d : Fin 1024) : V m c main_v0 (ix3 b 0 d) = m ((c : Thread nD τ).loc main_arg2) (ix2 b d) := by
  unfold V
  after_reads_at

/-- The scales enter the launch as they stand in the argument. -/
theorem V_scale (c : Dev nD) (b : Fin 8) (d : Fin 1024) : V m c main_v1 (ix3 b 0 d) = m ((c : Thread nD τ).loc main_arg3) (ix2 b d) := by
  unfold V
  after_reads_at

/-- The weights enter the launch as they stand in the argument. -/
theorem V_w (c : Dev nD) (b : Fin 1024) (d : Fin 3840) : V m c main_v2 (ix2 b d) = m ((c : Thread nD τ).loc main_arg4) (ix2 b d) := by
  unfold V
  after_reads_at

/-- The queries' gain, once per head of a lane group. -/
theorem V_qg (c : Dev nD) (d : Fin 128) : V m c main_v46 (ix2 0 d) = m ((c : Thread nD τ).loc main_arg5) (ix1 ⟨d.val % 64, by omega⟩) := by
  unfold V
  after_reads_at

/-- The keys' gain, once per head of a lane group. -/
theorem V_kg (c : Dev nD) (d : Fin 128) : V m c main_v50 (ix2 0 d) = m ((c : Thread nD τ).loc main_arg6) (ix1 ⟨d.val % 64, by omega⟩) := by
  unfold V
  after_reads_at

/-- The rows' gain. -/
theorem V_g (c : Dev nD) (d : Fin 1024) : V m c main_v51 (ix2 0 d) = m ((c : Thread nD τ).loc main_arg1) (ix1 d) := by
  unfold V
  after_reads_at

/-- The averaging matrix, an entry. -/
theorem V_bd (c : Dev nD) (i j : Fin 128) :
    V m c main_v42 (ix2 i j) = (if i.val / 64 = j.val / 64 then Ideal.ofBits .f32 0x3C800000#32 else 0 : EReal) := by
  unfold V
  after_reads_at
  rw [lit3_eq]
  split
  · rfl
  · exact zero_word

end Cert.InprojIdeal.Row

end
-- ==== Proof.Spec.lean ====
/-
  The projection over its argument arrays, row by row and head by head, and the lanes' form brought to it.
-/
module

public import proofs.«01_k».proof.Proof.Rows
public import Mathlib.Tactic.FieldSimp
public import Mathlib.Tactic.NormNum

@[expose] public section

noncomputable section

namespace Cert.Rows

open Idealize.ShloMosaic

/-- The modulation row of a token: its batch element, or the context's. -/
def mrow (n : Fin 33792) : Fin 8 := ⟨min (n.val / 8192) 4, by omega⟩

/-- One token's projection, a column. -/
def proj (X : Fin 33792 → Fin 1024 → EReal) (G : Fin 1024 → EReal) (SH SC : Fin 8 → Fin 1024 → EReal) (W : Fin 1024 → Fin 3840 → EReal)
    (n : Fin 33792) (j : Fin 3840) : EReal :=
  ∑ d, modulated (X n) G (SH (mrow n)) (SC (mrow n)) d * W d j

/-- A head over its root mean square, times the gain. -/
def headNorm (t g : Fin 64 → EReal) (j : Fin 64) : EReal :=
  t j * Ideal.rsqrt (Ideal.div (∑ e, t e * t e) (Ideal.ofBits .f32 0x42800000#32) + Ideal.ofBits .f32 0x358637BD#32) * g j

/-- A head of a token under the axial rotation: grid tokens turned, context tokens as they are. -/
def rot (t : Fin 64 → EReal) (n : Fin 33792) (l : Fin 64) : EReal :=
  if n.val < 32768 then
    if h : l.val % 32 < 16 then
      t l * Ideal.cos (angle (n.val % 8192) l.val) - t ⟨l.val + 16, by omega⟩ * Ideal.sin (angle (n.val % 8192) l.val)
    else t l * Ideal.cos (angle (n.val % 8192) l.val) + t ⟨l.val - 16, by omega⟩ * Ideal.sin (angle (n.val % 8192) l.val)
  else t l

/-- The first result: the retention queries' heads turned. -/
def o0 (P : Fin 33792 → Fin 3840 → EReal) (n : Fin 33792) (e : Fin 512) : EReal :=
  rot (fun j => P n ⟨e.val / 64 * 64 + j.val, by omega⟩) n ⟨e.val % 64, by omega⟩

/-- The second result: the retention keys' heads turned and scaled. -/
def o1 (P : Fin 33792 → Fin 3840 → EReal) (n : Fin 33792) (e : Fin 512) : EReal :=
  rot (fun j => P n ⟨512 + (e.val / 64 * 64 + j.val), by omega⟩) n ⟨e.val % 64, by omega⟩ * Ideal.ofBits .f32 0x3E000000#32

/-- The third result: the retention values and gates. -/
def o2 (P : Fin 33792 → Fin 3840 → EReal) (n : Fin 33792) (e : Fin 2048) : EReal := P n ⟨1024 + e.val, by omega⟩

/-- The fourth result: the attention queries, each head normed and turned. -/
def o3 (P : Fin 33792 → Fin 3840 → EReal) (Q : Fin 64 → EReal) (h : Fin 8) (n : Fin 33792) (e : Fin 64) : EReal :=
  rot (headNorm (fun j => P n ⟨3072 + (h.val * 64 + j.val), by omega⟩) Q) n e

/-- The fifth result: the attention keys, each head normed and turned. -/
def o4 (P : Fin 33792 → Fin 3840 → EReal) (K : Fin 64 → EReal) (h : Fin 2) (n : Fin 33792) (e : Fin 64) : EReal :=
  rot (headNorm (fun j => P n ⟨3584 + (h.val * 64 + j.val), by omega⟩) K) n e

/-- The sixth result: the attention values. -/
def o5 (P : Fin 33792 → Fin 3840 → EReal) (h : Fin 2) (n : Fin 33792) (e : Fin 64) : EReal := P n ⟨3712 + (h.val * 64 + e.val), by omega⟩

/-- The table row of a token. -/
def trow (n : Fin 33792) : Nat := if n.val < 32768 then n.val % 8192 else 8192 + n.val % 512

theorem angle_mod (p l : Nat) : angle p (l % 64) = angle p l := by
  unfold angle
  rw [Nat.mod_mod, show l % 64 % 16 = l % 16 by omega]

/-- A lane group turned by the tables is its head under the axial rotation. -/
theorem turn_eq (u : Fin 128 → EReal) (n : Fin 33792) (l : Fin 128) :
    turn u (if trow n < 8192 then Ideal.cos (angle (trow n) l.val) else 1)
      (if trow n < 8192 then (if l.val % 32 < 16 then -Ideal.sin (angle (trow n) l.val) else 0) else 0)
      (if trow n < 8192 then (if l.val % 32 < 16 then 0 else Ideal.sin (angle (trow n) l.val)) else 0) l
    = rot (fun j => u ⟨l.val / 64 * 64 + j.val, by omega⟩) n ⟨l.val % 64, by omega⟩ := by
  have hl : (⟨l.val / 64 * 64 + l.val % 64, by omega⟩ : Fin 128) = l := Fin.ext (show l.val / 64 * 64 + l.val % 64 = l.val by omega)
  unfold turn rot
  beta_reduce
  by_cases hn : n.val < 32768
  · have e : trow n = n.val % 8192 := if_pos hn
    have e' : trow n < 8192 := by omega
    rw [if_pos e', if_pos e', if_pos e', if_pos hn, e]
    simp only [angle_mod, hl]
    by_cases h : l.val % 32 < 16
    · have h' : l.val % 64 % 32 < 16 := by omega
      rw [if_pos h, if_pos h, dif_pos h', mul_zero, add_zero, mul_neg, ← sub_eq_add_neg]
      congr 3
      exact Fin.ext (by show _ % 128 = _ + (_ + 16); omega)
    · have h' : ¬ l.val % 64 % 32 < 16 := by omega
      rw [if_neg h, if_neg h, dif_neg h', mul_zero, add_zero]
      congr 3
      exact Fin.ext (by show _ % 128 = _ + (_ - 16); omega)
  · have e : trow n = 8192 + n.val % 512 := if_neg hn
    have e' : ¬ trow n < 8192 := by omega
    rw [if_neg e', if_neg e', if_neg e', if_neg hn, mul_zero, mul_zero, add_zero, add_zero, mul_one, hl]

/-- The word of one sixty-fourth. -/
theorem word_inv64 : Ideal.ofBits .f32 0x3C800000#32 = ((1 / 64 : ℝ) : EReal) := by
  simp [Ideal.ofBits, Ideal.ieee]
  rw [← EReal.coe_mul]
  norm_num

/-- The word of sixty-four. -/
theorem word_64 : Ideal.ofBits .f32 0x42800000#32 = ((64 : ℝ) : EReal) := by
  simp [Ideal.ofBits, Ideal.ieee]
  rw [← EReal.coe_mul]
  norm_num

/-- The word of 1024. -/
theorem word_1024 : Ideal.ofBits .f32 0x44800000#32 = ((1024 : ℝ) : EReal) := by
  simp [Ideal.ofBits, Ideal.ieee]
  rw [← EReal.coe_mul]
  norm_num

/-- The small constant under the root is a positive number. -/
theorem word_eps : ∃ r : ℝ, 0 < r ∧ Ideal.ofBits .f32 0x358637BD#32 = (r : EReal) := by
  refine ⟨8796093 / 8796093022208, by norm_num, ?_⟩
  simp [Ideal.ofBits, Ideal.ieee]
  rw [← EReal.coe_mul]
  norm_num

theorem coe_sum_fin {k : Nat} (f : Fin k → ℝ) : ((∑ i, f i : ℝ) : EReal) = ∑ i, (f i : EReal) :=
  map_sum (⟨⟨Real.toEReal, EReal.coe_zero⟩, EReal.coe_add⟩ : ℝ →+ EReal) f Finset.univ

theorem div_coe_coe (x y : ℝ) (h : y ≠ 0) : Ideal.div (x : EReal) (y : EReal) = ((x / y : ℝ) : EReal) := by
  rw [Ideal.div_coe h, ← EReal.coe_mul, mul_one_div]

/-- A sum over the lanes of one head through the averaging matrix is the head's sum over 64. -/
theorem lanes_sum (f : Fin 128 → ℝ) (l : Fin 128) :
    ∑ x : Fin 128, f x * (if x.val / 64 = l.val / 64 then (1 / 64 : ℝ) else 0) = (∑ j : Fin 64, f ⟨l.val / 64 * 64 + j.val, by omega⟩) / 64 := by
  rw [Fin.sum_univ_add (a := 64) (b := 64)]
  obtain h | h : l.val / 64 = 0 ∨ l.val / 64 = 1 := by omega
  · have e1 : ∀ x : Fin 64, (Fin.castAdd 64 x).val / 64 = l.val / 64 := fun x => by rw [h]; show x.val / 64 = 0; omega
    have e2 : ∀ x : Fin 64, ¬ (Fin.natAdd 64 x).val / 64 = l.val / 64 := fun x => by rw [h]; show ¬ (64 + x.val) / 64 = 0; omega
    simp only [e1, e2, if_true, if_false, mul_zero, Finset.sum_const_zero, add_zero, ← Finset.sum_mul]
    rw [mul_one_div]
    refine congrArg (· / 64) (Finset.sum_congr rfl fun x _ => congrArg f (Fin.ext ?_))
    show x.val = _ + x.val
    omega
  · have e1 : ∀ x : Fin 64, ¬ (Fin.castAdd 64 x).val / 64 = l.val / 64 := fun x => by rw [h]; show ¬ x.val / 64 = 1; omega
    have e2 : ∀ x : Fin 64, (Fin.natAdd 64 x).val / 64 = l.val / 64 := fun x => by rw [h]; show (64 + x.val) / 64 = 1; omega
    simp only [e1, e2, if_true, if_false, mul_zero, Finset.sum_const_zero, zero_add, ← Finset.sum_mul]
    rw [mul_one_div]
    refine congrArg (· / 64) (Finset.sum_congr rfl fun x _ => congrArg f (Fin.ext ?_))
    show 64 + x.val = _ + x.val
    omega

/-- On finite lanes the norm through the averaging matrix is the head's norm. -/
theorem laneNorm_eq (u : Fin 128 → EReal) (hu : ∀ j, ∃ r : ℝ, u j = (r : EReal)) (b : Fin 128 → Fin 128 → EReal)
    (hb : ∀ i j, b i j = if i.val / 64 = j.val / 64 then Ideal.ofBits .f32 0x3C800000#32 else 0) (g : Fin 128 → EReal)
    (G : Fin 64 → EReal) (hg : ∀ j, g j = G ⟨j.val % 64, by omega⟩) (l : Fin 128) :
    laneNorm u b g l = headNorm (fun j => u ⟨l.val / 64 * 64 + j.val, by omega⟩) G ⟨l.val % 64, by omega⟩ := by
  choose r hr using hu
  have hl : (⟨l.val / 64 * 64 + l.val % 64, by omega⟩ : Fin 128) = l := Fin.ext (show l.val / 64 * 64 + l.val % 64 = l.val by omega)
  have hb' : ∀ x, b x l = ((if x.val / 64 = l.val / 64 then (1 / 64 : ℝ) else 0 : ℝ) : EReal) := by
    intro x
    rw [hb, word_inv64]
    split <;> simp
  unfold laneNorm headNorm
  rw [hg]
  simp only [hl]
  refine congrArg (fun z => u l * Ideal.rsqrt (z + _) * _) ?_
  simp only [hr, hb', ← EReal.coe_mul, ← EReal.coe_sub, sub_self, zero_mul, EReal.coe_zero, Finset.sum_const_zero, add_zero, ← coe_sum_fin]
  rw [word_64, div_coe_coe _ _ (by norm_num), lanes_sum (fun x => r x * r x) l]

/-- Finite lanes normed through the averaging matrix and turned by the tables are the head, normed and turned. -/
theorem turn_laneNorm (u : Fin 128 → EReal) (hu : ∀ j, ∃ r : ℝ, u j = (r : EReal)) (b : Fin 128 → Fin 128 → EReal)
    (hb : ∀ i j, b i j = if i.val / 64 = j.val / 64 then Ideal.ofBits .f32 0x3C800000#32 else 0) (g : Fin 128 → EReal)
    (G : Fin 64 → EReal) (hg : ∀ j, g j = G ⟨j.val % 64, by omega⟩) (n : Fin 33792) (l : Fin 128) :
    turn (laneNorm u b g) (if trow n < 8192 then Ideal.cos (angle (trow n) l.val) else 1)
      (if trow n < 8192 then (if l.val % 32 < 16 then -Ideal.sin (angle (trow n) l.val) else 0) else 0)
      (if trow n < 8192 then (if l.val % 32 < 16 then 0 else Ideal.sin (angle (trow n) l.val)) else 0) l
    = rot (headNorm (fun j => u ⟨l.val / 64 * 64 + j.val, by omega⟩) G) n ⟨l.val % 64, by omega⟩ := by
  rw [turn_eq]
  refine congrArg (fun t => rot t n _) (funext fun j => ?_)
  rw [laneNorm_eq u hu b hb g G hg]
  have e1 : (l.val / 64 * 64 + j.val) / 64 = l.val / 64 := by omega
  have e2 : (l.val / 64 * 64 + j.val) % 64 = j.val := by omega
  simp only [e1, e2]

/-- A modulated row of finite numbers is finite. -/
theorem modulated_real (x g sh sc : Fin 1024 → EReal) (hx : ∀ d, ∃ r : ℝ, x d = (r : EReal)) (hg : ∀ d, ∃ r : ℝ, g d = (r : EReal))
    (hsh : ∀ d, ∃ r : ℝ, sh d = (r : EReal)) (hsc : ∀ d, ∃ r : ℝ, sc d = (r : EReal)) (d : Fin 1024) :
    ∃ r : ℝ, modulated x g sh sc d = (r : EReal) := by
  choose x' hx using hx
  choose g' hg using hg
  choose sh' hsh using hsh
  choose sc' hsc using hsc
  obtain ⟨ε, hε, he⟩ := word_eps
  unfold modulated
  simp only [hx, hg, hsh, hsc, he, word_1024, ← EReal.coe_mul, ← coe_sum_fin]
  have hp : 0 < (∑ i, x' i * x' i) / 1024 + ε := add_pos_of_nonneg_of_pos (div_nonneg (Finset.sum_nonneg fun i _ => mul_self_nonneg _) (by norm_num)) hε
  rw [div_coe_coe _ _ (by norm_num), ← EReal.coe_add, Ideal.rsqrt_coe, if_neg (not_lt.mpr hp.le), if_neg hp.ne']
  exact ⟨x' d * (√((∑ i, x' i * x' i) / 1024 + ε))⁻¹ * g' d * (1 + sc' d) + sh' d, by
    rw [EReal.coe_add, EReal.coe_mul, EReal.coe_mul, EReal.coe_mul, EReal.coe_add, EReal.coe_one]⟩

/-- The projection of finite arrays is finite. -/
theorem proj_real (X : Fin 33792 → Fin 1024 → EReal) (G : Fin 1024 → EReal) (SH SC : Fin 8 → Fin 1024 → EReal) (W : Fin 1024 → Fin 3840 → EReal)
    (hX : ∀ n d, ∃ r : ℝ, X n d = (r : EReal)) (hG : ∀ d, ∃ r : ℝ, G d = (r : EReal)) (hSH : ∀ b d, ∃ r : ℝ, SH b d = (r : EReal))
    (hSC : ∀ b d, ∃ r : ℝ, SC b d = (r : EReal)) (hW : ∀ d j, ∃ r : ℝ, W d j = (r : EReal)) (n : Fin 33792) (j : Fin 3840) :
    ∃ r : ℝ, proj X G SH SC W n j = (r : EReal) := by
  choose M hM using fun d => modulated_real (X n) G (SH (mrow n)) (SC (mrow n)) (hX n) hG (hSH _) (hSC _) d
  choose w hw using fun d => hW d j
  refine ⟨∑ d, M d * w d, ?_⟩
  unfold proj
  simp only [hM, hw, ← EReal.coe_mul, ← coe_sum_fin]

end Cert.Rows

end
-- ==== Proof.Launched.lean ====
/-
  The projection kernel's result arrays: every entry at the projection's heads, normed and turned.
-/
module

public import proofs.«01_k».proof.Proof.Tables
public import proofs.«01_k».proof.Proof.Spec
public import Idealize.ShloMosaic.Lib.Pipeline.ValueKit

@[expose] public section

set_option maxRecDepth 16384

noncomputable section

namespace Cert.InprojIdeal.Row

open Cert.InprojIdeal Cert.InprojIdeal.Gen
open Idealize.ShloMosaic Idealize.ShloMosaic.TcCoe Idealize.SL.Sem
open Cert.Rows

variable (m : (ℓ : Loc nD τ sig) → Buf (Elt Ideal) ℓ) (ρ : Dev nD → PrngReg)

/-- The windows' block indices at a point. -/
theorem idx (t : Fin cfg0.N) : win0_0.index t = ![t.val, 0] ∧ win0_1.index t = ![0, 0] ∧ win0_2.index t = ![min (t.val / 16) 4, 0, 0]
    ∧ win0_3.index t = ![min (t.val / 16) 4, 0, 0] ∧ win0_4.index t = ![0, 0] ∧ win0_5.index t = ![if t.val < 64 then t.val % 16 else 16, 0]
    ∧ win0_6.index t = ![if t.val < 64 then t.val % 16 else 16, 0] ∧ win0_7.index t = ![if t.val < 64 then t.val % 16 else 16, 0]
    ∧ win0_8.index t = ![0, 0] ∧ win0_9.index t = ![0, 0] ∧ win0_10.index t = ![0, 0] :=
  (by decide +kernel : ∀ t : Fin grid0.N, win0_0.index t = ![t.val, 0] ∧ win0_1.index t = ![0, 0] ∧ win0_2.index t = ![min (t.val / 16) 4, 0, 0]
    ∧ win0_3.index t = ![min (t.val / 16) 4, 0, 0] ∧ win0_4.index t = ![0, 0] ∧ win0_5.index t = ![if t.val < 64 then t.val % 16 else 16, 0]
    ∧ win0_6.index t = ![if t.val < 64 then t.val % 16 else 16, 0] ∧ win0_7.index t = ![if t.val < 64 then t.val % 16 else 16, 0]
    ∧ win0_8.index t = ![0, 0] ∧ win0_9.index t = ![0, 0] ∧ win0_10.index t = ![0, 0]) t

/-- The result windows' block indices at a point. -/
theorem idxOut (t : Fin cfg0.N) : win0_11.index t = ![t.val, 0] ∧ win0_12.index t = ![t.val, 0] ∧ win0_13.index t = ![t.val, 0]
    ∧ win0_14.index t = ![0, t.val, 0] ∧ win0_15.index t = ![0, t.val, 0] ∧ win0_16.index t = ![0, t.val, 0] :=
  (by decide +kernel : ∀ t : Fin grid0.N, win0_11.index t = ![t.val, 0] ∧ win0_12.index t = ![t.val, 0] ∧ win0_13.index t = ![t.val, 0]
    ∧ win0_14.index t = ![0, t.val, 0] ∧ win0_15.index t = ![0, t.val, 0] ∧ win0_16.index t = ![0, t.val, 0]) t

/-- There are 66 points. -/
theorem t_lt (t : Fin cfg0.N) : t.val < 66 := lt_of_lt_of_eq t.isLt N_0

/-- The table block of a point. -/
def tb (t : Nat) : Nat := if t < 64 then t % 16 else 16

/-- It is one of seventeen. -/
theorem tb_lt (t : Nat) : tb t < 17 := by unfold tb; split <;> omega

/-- The token at a row of a point's block. -/
def tok (t : Fin cfg0.N) (r : Fin 512) : Fin 33792 := ⟨t.val * 512 + r.val, by have := t_lt t; omega⟩

/-- Its table row. -/
theorem trow_tok (t : Fin cfg0.N) (r : Fin 512) : trow (tok t r) = tb t.val * 512 + r.val := by
  have := t_lt t
  unfold trow tok tb
  by_cases h : t.val < 64
  · rw [if_pos h, if_pos (by show t.val * 512 + r.val < 32768; omega)]
    show (t.val * 512 + r.val) % 8192 = _
    omega
  · rw [if_neg h, if_neg (by show ¬ t.val * 512 + r.val < 32768; omega)]
    show 8192 + (t.val * 512 + r.val) % 512 = _
    omega

/-- A block of the rows, an entry. -/
theorem read_x (t : Fin cfg0.N) (X : Vec Ideal S33792x1024 .f32) (r : Fin 512) (d : Fin 1024) :
    (win0_0.blk t).view.read (Elt Ideal) X (ix2 r d) = X (ix2 (tok t r) d) := by
  have := t_lt t
  unfold tok
  blk_ext [idx t]

/-- The gain's block, an entry. -/
theorem read_g (t : Fin cfg0.N) (X : Vec Ideal S1x1024 .f32) (d : Fin 1024) : (win0_1.blk t).view.read (Elt Ideal) X (ix2 0 d) = X (ix2 0 d) := by
  have := t_lt t
  blk_ext [idx t]

/-- A block of the shifts, an entry. -/
theorem read_sh (t : Fin cfg0.N) (X : Vec Ideal S8x1x1024 .f32) (d : Fin 1024) :
    (win0_2.blk t).view.read (Elt Ideal) X (ix3 0 0 d) = X (ix3 ⟨min (t.val / 16) 4, by omega⟩ 0 d) := by
  have := t_lt t
  blk_ext [idx t]

/-- A block of the scales, an entry. -/
theorem read_sc (t : Fin cfg0.N) (X : Vec Ideal S8x1x1024 .f32) (d : Fin 1024) :
    (win0_3.blk t).view.read (Elt Ideal) X (ix3 0 0 d) = X (ix3 ⟨min (t.val / 16) 4, by omega⟩ 0 d) := by
  have := t_lt t
  blk_ext [idx t]

/-- The weights' block, an entry. -/
theorem read_w (t : Fin cfg0.N) (X : Vec Ideal S1024x3840 .bf16) (d : Fin 1024) (k : Fin 3840) :
    (win0_4.blk t).view.read (Elt Ideal) X (ix2 d k) = X (ix2 d k) := by
  have := t_lt t
  blk_ext [idx t]

/-- A block of the cosine table, an entry. -/
theorem read_c (t : Fin cfg0.N) (X : Vec Ideal S8704x128 .f32) (r : Fin 512) (l : Fin 128) :
    (win0_5.blk t).view.read (Elt Ideal) X (ix2 r l) = X (ix2 ⟨tb t.val * 512 + r.val, by have := tb_lt t.val; omega⟩ l) := by
  have := t_lt t
  have e : win0_5.index t = ![tb t.val, 0] := (idx t).2.2.2.2.2.1
  have := tb_lt t.val
  blk_ext [e]

/-- A block of the first sine table, an entry. -/
theorem read_s1 (t : Fin cfg0.N) (X : Vec Ideal S8704x128 .f32) (r : Fin 512) (l : Fin 128) :
    (win0_6.blk t).view.read (Elt Ideal) X (ix2 r l) = X (ix2 ⟨tb t.val * 512 + r.val, by have := tb_lt t.val; omega⟩ l) := by
  have := t_lt t
  have e : win0_6.index t = ![tb t.val, 0] := (idx t).2.2.2.2.2.2.1
  have := tb_lt t.val
  blk_ext [e]

/-- A block of the second sine table, an entry. -/
theorem read_s2 (t : Fin cfg0.N) (X : Vec Ideal S8704x128 .f32) (r : Fin 512) (l : Fin 128) :
    (win0_7.blk t).view.read (Elt Ideal) X (ix2 r l) = X (ix2 ⟨tb t.val * 512 + r.val, by have := tb_lt t.val; omega⟩ l) := by
  have := t_lt t
  have e : win0_7.index t = ![tb t.val, 0] := (idx t).2.2.2.2.2.2.2.1
  have := tb_lt t.val
  blk_ext [e]

/-- The block of the queries' gain, an entry. -/
theorem read_qg (t : Fin cfg0.N) (X : Vec Ideal S1x128 .f32) (d : Fin 128) : (win0_8.blk t).view.read (Elt Ideal) X (ix2 0 d) = X (ix2 0 d) := by
  have := t_lt t
  blk_ext [idx t]

/-- The block of the keys' gain, an entry. -/
theorem read_kg (t : Fin cfg0.N) (X : Vec Ideal S1x128 .f32) (d : Fin 128) : (win0_9.blk t).view.read (Elt Ideal) X (ix2 0 d) = X (ix2 0 d) := by
  have := t_lt t
  blk_ext [idx t]

/-- The averaging matrix's block, an entry. -/
theorem read_b (t : Fin cfg0.N) (X : Vec Ideal S128x128 .bf16) (i j : Fin 128) : (win0_10.blk t).view.read (Elt Ideal) X (ix2 i j) = X (ix2 i j) := by
  have := t_lt t
  blk_ext [idx t]

/-- Where a block of result 1 lies in the whole. -/
theorem read_o0 (t : Fin cfg0.N) (X : Vec Ideal S33792x512 .bf16) (y : ((cfg0.win 11).xblock (cfg0.grid.coords t)).Idx) :
    X ((win0_11.blk t).view.emb y) = X (ix2 (tok t ⟨(y 0).val, (y 0).isLt⟩) ⟨(y 1).val, (y 1).isLt⟩) := by
  have := t_lt t
  unfold tok
  blk_ext [idxOut t]

/-- Where a block of result 2 lies in the whole. -/
theorem read_o1 (t : Fin cfg0.N) (X : Vec Ideal S33792x512 .bf16) (y : ((cfg0.win 12).xblock (cfg0.grid.coords t)).Idx) :
    X ((win0_12.blk t).view.emb y) = X (ix2 (tok t ⟨(y 0).val, (y 0).isLt⟩) ⟨(y 1).val, (y 1).isLt⟩) := by
  have := t_lt t
  unfold tok
  blk_ext [idxOut t]

/-- Where a block of result 3 lies in the whole. -/
theorem read_o2 (t : Fin cfg0.N) (X : Vec Ideal S33792x2048 .bf16) (y : ((cfg0.win 13).xblock (cfg0.grid.coords t)).Idx) :
    X ((win0_13.blk t).view.emb y) = X (ix2 (tok t ⟨(y 0).val, (y 0).isLt⟩) ⟨(y 1).val, (y 1).isLt⟩) := by
  have := t_lt t
  unfold tok
  blk_ext [idxOut t]

/-- Where a block of result 4 lies in the whole. -/
theorem read_o3 (t : Fin cfg0.N) (X : Vec Ideal S8x33792x64 .f32) (y : ((cfg0.win 14).xblock (cfg0.grid.coords t)).Idx) :
    X ((win0_14.blk t).view.emb y) = X (ix3 ⟨(y 0).val, (y 0).isLt⟩ (tok t ⟨(y 1).val, (y 1).isLt⟩) ⟨(y 2).val, (y 2).isLt⟩) := by
  have := t_lt t
  unfold tok
  blk_ext [idxOut t]

/-- Where a block of result 5 lies in the whole. -/
theorem read_o4 (t : Fin cfg0.N) (X : Vec Ideal S2x33792x64 .bf16) (y : ((cfg0.win 15).xblock (cfg0.grid.coords t)).Idx) :
    X ((win0_15.blk t).view.emb y) = X (ix3 ⟨(y 0).val, (y 0).isLt⟩ (tok t ⟨(y 1).val, (y 1).isLt⟩) ⟨(y 2).val, (y 2).isLt⟩) := by
  have := t_lt t
  unfold tok
  blk_ext [idxOut t]

/-- Where a block of result 6 lies in the whole. -/
theorem read_o5 (t : Fin cfg0.N) (X : Vec Ideal S2x33792x64 .bf16) (y : ((cfg0.win 16).xblock (cfg0.grid.coords t)).Idx) :
    X ((win0_16.blk t).view.emb y) = X (ix3 ⟨(y 0).val, (y 0).isLt⟩ (tok t ⟨(y 1).val, (y 1).isLt⟩) ⟨(y 2).val, (y 2).isLt⟩) := by
  have := t_lt t
  unfold tok
  blk_ext [idxOut t]

end Cert.InprojIdeal.Row

end
-- ==== Proof.Projected.lean ====
/-
  The projection kernel's result arrays: every entry at the projection's heads, normed and turned.
-/
module

public import proofs.«01_k».proof.Proof.Launched

@[expose] public section

set_option maxRecDepth 16384

noncomputable section

namespace Cert.InprojIdeal.Row

open Cert.InprojIdeal Cert.InprojIdeal.Gen
open Idealize.ShloMosaic Idealize.ShloMosaic.TcCoe Idealize.SL.Sem
open Cert.Rows

variable (m : (ℓ : Loc nD τ sig) → Buf (Elt Ideal) ℓ) (ρ : Dev nD → PrngReg)

/-- The tokens' rows. -/
def aX (c : Dev nD) (n : Fin 33792) (d : Fin 1024) : EReal := m ((c : Thread nD τ).loc main_arg0) (ix2 n d)

/-- The rows' gain. -/
def aG (c : Dev nD) (d : Fin 1024) : EReal := m ((c : Thread nD τ).loc main_arg1) (ix1 d)

/-- The shifts. -/
def aSH (c : Dev nD) (b : Fin 8) (d : Fin 1024) : EReal := m ((c : Thread nD τ).loc main_arg2) (ix2 b d)

/-- The scales. -/
def aSC (c : Dev nD) (b : Fin 8) (d : Fin 1024) : EReal := m ((c : Thread nD τ).loc main_arg3) (ix2 b d)

/-- The weights. -/
def aW (c : Dev nD) (d : Fin 1024) (j : Fin 3840) : EReal := m ((c : Thread nD τ).loc main_arg4) (ix2 d j)

/-- The queries' gain. -/
def aQ (c : Dev nD) (d : Fin 64) : EReal := m ((c : Thread nD τ).loc main_arg5) (ix1 d)

/-- The keys' gain. -/
def aK (c : Dev nD) (d : Fin 64) : EReal := m ((c : Thread nD τ).loc main_arg6) (ix1 d)

/-- The projection of core `c`'s arguments. -/
def aP (c : Dev nD) : Fin 33792 → Fin 3840 → EReal := proj (aX m c) (aG m c) (aSH m c) (aSC m c) (aW m c)

/-- The arguments the projection multiplies are finite. -/
structure Finite (c : Dev nD) : Prop where
  x : ∀ n d, ∃ r : ℝ, aX m c n d = (r : EReal)
  g : ∀ d, ∃ r : ℝ, aG m c d = (r : EReal)
  sh : ∀ b d, ∃ r : ℝ, aSH m c b d = (r : EReal)
  sc : ∀ b d, ∃ r : ℝ, aSC m c b d = (r : EReal)
  w : ∀ d j, ∃ r : ℝ, aW m c d j = (r : EReal)

/-- The modulation row of a point's block. -/
theorem mrow_tok (t : Fin cfg0.N) (r : Fin 512) : mrow (tok t r) = ⟨min (t.val / 16) 4, by omega⟩ := by
  refine Fin.ext ?_
  show min ((t.val * 512 + r.val) / 8192) 4 = min (t.val / 16) 4
  omega

/-- The row the block's matrix products read. -/
abbrev HB (c : Dev nD) (t : Fin cfg0.N) : FVec Ideal S512x1024 .bf16 :=
  H (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- An entry of it. -/
theorem hb_at (c : Dev nD) (t : Fin cfg0.N) (r : Fin 512) (d : Fin 1024) :
    HB m c t (ix2 r d) = modulated (aX m c (tok t r)) (aG m c) (aSH m c (mrow (tok t r))) (aSC m c (mrow (tok t r))) d := by
  refine (normed_at _ _ _ _ _ _ _ _ _ _ _ r d).trans ?_
  have e0 : (fun e => iblk m c 0 t (ix2 r e) : Fin 1024 → EReal) = aX m c (tok t r) :=
    funext fun e => (read_x t (V m c main_arg0) r e).trans (congrFun (V_main_arg0 m c) _)
  have e1 : (fun e => iblk m c 1 t (ix2 0 e) : Fin 1024 → EReal) = aG m c :=
    funext fun e => (read_g t (V m c main_v51) e).trans (V_g m c e)
  have e2 : (fun e => iblk m c 2 t (ix3 0 0 e) : Fin 1024 → EReal) = aSH m c (mrow (tok t r)) := by
    rw [mrow_tok]
    exact funext fun e => (read_sh t (V m c main_v0) e).trans (V_shift m c _ e)
  have e3 : (fun e => iblk m c 3 t (ix3 0 0 e) : Fin 1024 → EReal) = aSC m c (mrow (tok t r)) := by
    rw [mrow_tok]
    exact funext fun e => (read_sc t (V m c main_v1) e).trans (V_scale m c _ e)
  exact congr (congr (congr (congr (congrArg modulated e0) e1) e2) e3) rfl

/-- A column of a block's projection is the projection there. -/
theorem col_at (c : Dev nD) (t : Fin cfg0.N) (r : Fin 512) (k : Fin 3840) : col (HB m c t) (iblk m c 4 t) r k = aP m c (tok t r) k := by
  unfold col aP proj
  refine Finset.sum_congr rfl fun d _ => congrArg₂ (· * ·) (hb_at m c t r d) ?_
  exact (read_w t (V m c main_v2) d k).trans (V_w m c d k)

/-- The cosine block, an entry. -/
theorem cos_at (c : Dev nD) (t : Fin cfg0.N) (r : Fin 512) (l : Fin 128) :
    iblk m c 5 t (ix2 r l) = (if trow (tok t r) < 8192 then Ideal.cos (angle (trow (tok t r)) l.val) else 1 : EReal) := by
  rw [trow_tok]
  exact (read_c t (V m c main_v39) r l).trans (V_cos m c _ l)

/-- The first sine block, an entry. -/
theorem s1_at (c : Dev nD) (t : Fin cfg0.N) (r : Fin 512) (l : Fin 128) :
    iblk m c 6 t (ix2 r l) = (if trow (tok t r) < 8192 then (if l.val % 32 < 16 then -Ideal.sin (angle (trow (tok t r)) l.val) else 0) else 0 : EReal) := by
  rw [trow_tok]
  exact (read_s1 t (V m c main_v40) r l).trans (V_s1 m c _ l)

/-- The second sine block, an entry. -/
theorem s2_at (c : Dev nD) (t : Fin cfg0.N) (r : Fin 512) (l : Fin 128) :
    iblk m c 7 t (ix2 r l) = (if trow (tok t r) < 8192 then (if l.val % 32 < 16 then 0 else Ideal.sin (angle (trow (tok t r)) l.val)) else 0 : EReal) := by
  rw [trow_tok]
  exact (read_s2 t (V m c main_v41) r l).trans (V_s2 m c _ l)

/-- A lane group turned with a point's table blocks. -/
theorem turn_at (c : Dev nD) (t : Fin cfg0.N) (r : Fin 512) (u : Fin 128 → EReal) (l : Fin 128) :
    turn u (iblk m c 5 t (ix2 r l)) (iblk m c 6 t (ix2 r l)) (iblk m c 7 t (ix2 r l)) l
      = rot (fun j => u ⟨l.val / 64 * 64 + j.val, by omega⟩) (tok t r) ⟨l.val % 64, by omega⟩ := by
  rw [← turn_eq]
  exact congr (congr (congr (congrArg (turn u) (cos_at m c t r l)) (s1_at m c t r l)) (s2_at m c t r l)) rfl

/-- A finite lane group normed and turned with a point's blocks, the gain in window 8 or 9. -/
theorem normTurn_at (c : Dev nD) (t : Fin cfg0.N) (r : Fin 512) (u : Fin 128 → EReal) (hu : ∀ j, ∃ r : ℝ, u j = (r : EReal)) (g : Fin 128 → EReal)
    (G : Fin 64 → EReal) (hg : ∀ j, g j = G ⟨j.val % 64, by omega⟩) (l : Fin 128) :
    turn (laneNorm u (fun i j => iblk m c 10 t (ix2 i j)) g) (iblk m c 5 t (ix2 r l)) (iblk m c 6 t (ix2 r l)) (iblk m c 7 t (ix2 r l)) l
      = rot (headNorm (fun j => u ⟨l.val / 64 * 64 + j.val, by omega⟩) G) (tok t r) ⟨l.val % 64, by omega⟩ := by
  rw [← turn_laneNorm u hu (fun i j => iblk m c 10 t (ix2 i j)) (fun i j => (read_b t (V m c main_v42) i j).trans (V_bd m c i j)) g G hg]
  exact congr (congr (congr (congrArg (turn _) (cos_at m c t r l)) (s1_at m c t r l)) (s2_at m c t r l)) rfl

/-- The first result. -/
def res0 (c : Dev nD) : Buf (Elt Ideal) ((c : Thread nD τ).loc main_v52_0) := fun i => o0 (aP m c) ⟨(i 0).val, (i 0).isLt⟩ ⟨(i 1).val, (i 1).isLt⟩

/-- The second result. -/
def res1 (c : Dev nD) : Buf (Elt Ideal) ((c : Thread nD τ).loc main_v52_1) := fun i => o1 (aP m c) ⟨(i 0).val, (i 0).isLt⟩ ⟨(i 1).val, (i 1).isLt⟩

/-- The third result. -/
def res2 (c : Dev nD) : Buf (Elt Ideal) ((c : Thread nD τ).loc main_v52_2) := fun i => o2 (aP m c) ⟨(i 0).val, (i 0).isLt⟩ ⟨(i 1).val, (i 1).isLt⟩

/-- The fourth result. -/
def res3 (c : Dev nD) : Buf (Elt Ideal) ((c : Thread nD τ).loc main_v52_3) := fun i => o3 (aP m c) (aQ m c) ⟨(i 0).val, (i 0).isLt⟩ ⟨(i 1).val, (i 1).isLt⟩ ⟨(i 2).val, (i 2).isLt⟩

/-- The fifth result. -/
def res4 (c : Dev nD) : Buf (Elt Ideal) ((c : Thread nD τ).loc main_v52_4) := fun i => o4 (aP m c) (aK m c) ⟨(i 0).val, (i 0).isLt⟩ ⟨(i 1).val, (i 1).isLt⟩ ⟨(i 2).val, (i 2).isLt⟩

/-- The sixth result. -/
def res5 (c : Dev nD) : Buf (Elt Ideal) ((c : Thread nD τ).loc main_v52_5) := fun i => o5 (aP m c) ⟨(i 0).val, (i 0).isLt⟩ ⟨(i 1).val, (i 1).isLt⟩ ⟨(i 2).val, (i 2).isLt⟩

/-- The block of the first result a point leaves. -/
theorem left0 (c : Dev nD) (t : Fin cfg0.N) (y : S512x512.Idx) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = o0 (aP m c) (tok t ⟨(y 0).val, (y 0).isLt⟩) ⟨(y 1).val, (y 1).isLt⟩ := by
  obtain ⟨r, hr⟩ : ∃ r : Fin 512, (⟨(y 0).val, (y 0).isLt⟩ : Fin 512) = r := ⟨_, rfl⟩
  obtain ⟨e, he⟩ : ∃ e : Fin 512, (⟨(y 1).val, (y 1).isLt⟩ : Fin 512) = e := ⟨_, rfl⟩
  rw [hr, he, out11_at _ _ _ _ _ _ _ _ _ _ _ y r e (congrArg Fin.val hr) (congrArg Fin.val he)]
  unfold o0
  refine congrArg (fun z => z) ((turn_at m c t r _ _).trans ?_)
  simp only [col_at]
  have e1 : ∀ j : Fin 64, 0 + e.val / 128 * 128 + (e.val % 128 / 64 * 64 + j.val) = e.val / 64 * 64 + j.val := fun j => by omega
  have e2 : e.val % 128 % 64 = e.val % 64 := by omega
  simp only [e1, e2]

/-- The block of the second result a point leaves. -/
theorem left1 (c : Dev nD) (t : Fin cfg0.N) (y : S512x512.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y = o1 (aP m c) (tok t ⟨(y 0).val, (y 0).isLt⟩) ⟨(y 1).val, (y 1).isLt⟩ := by
  obtain ⟨r, hr⟩ : ∃ r : Fin 512, (⟨(y 0).val, (y 0).isLt⟩ : Fin 512) = r := ⟨_, rfl⟩
  obtain ⟨e, he⟩ : ∃ e : Fin 512, (⟨(y 1).val, (y 1).isLt⟩ : Fin 512) = e := ⟨_, rfl⟩
  rw [hr, he, out12_at _ _ _ _ _ _ _ _ _ _ _ y r e (congrArg Fin.val hr) (congrArg Fin.val he)]
  unfold o1
  refine congrArg (fun z => z * Ideal.ofBits .f32 0x3E000000#32) ((turn_at m c t r _ _).trans ?_)
  simp only [col_at]
  have e1 : ∀ j : Fin 64, 512 + e.val / 128 * 128 + (e.val % 128 / 64 * 64 + j.val) = 512 + (e.val / 64 * 64 + j.val) := fun j => by omega
  have e2 : e.val % 128 % 64 = e.val % 64 := by omega
  simp only [e1, e2]

/-- The block of the third result a point leaves. -/
theorem left2 (c : Dev nD) (t : Fin cfg0.N) (y : S512x2048.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y = o2 (aP m c) (tok t ⟨(y 0).val, (y 0).isLt⟩) ⟨(y 1).val, (y 1).isLt⟩ := by
  obtain ⟨r, hr⟩ : ∃ r : Fin 512, (⟨(y 0).val, (y 0).isLt⟩ : Fin 512) = r := ⟨_, rfl⟩
  obtain ⟨e, he⟩ : ∃ e : Fin 2048, (⟨(y 1).val, (y 1).isLt⟩ : Fin 2048) = e := ⟨_, rfl⟩
  rw [hr, he, out13_at _ _ _ _ _ _ _ _ _ _ _ y r e (congrArg Fin.val hr) (congrArg Fin.val he)]
  unfold o2
  exact col_at m c t r _

/-- The block of the fourth result a point leaves. -/
theorem left3 (c : Dev nD) (hf : Finite m c) (t : Fin cfg0.N) (y : S8x512x64.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y = o3 (aP m c) (aQ m c) ⟨(y 0).val, (y 0).isLt⟩ (tok t ⟨(y 1).val, (y 1).isLt⟩) ⟨(y 2).val, (y 2).isLt⟩ := by
  obtain ⟨g, hg⟩ : ∃ g : Fin 8, (⟨(y 0).val, (y 0).isLt⟩ : Fin 8) = g := ⟨_, rfl⟩
  obtain ⟨r, hr⟩ : ∃ r : Fin 512, (⟨(y 1).val, (y 1).isLt⟩ : Fin 512) = r := ⟨_, rfl⟩
  obtain ⟨e, he⟩ : ∃ e : Fin 64, (⟨(y 2).val, (y 2).isLt⟩ : Fin 64) = e := ⟨_, rfl⟩
  rw [hg, hr, he, out14_at _ _ _ _ _ _ _ _ _ _ _ y g r e (congrArg Fin.val hg) (congrArg Fin.val hr) (congrArg Fin.val he)]
  unfold o3
  refine (normTurn_at m c t r _ (fun j => ?_) _ (aQ m c) (fun j => (read_qg t (V m c main_v46) j).trans (V_qg m c j)) _).trans ?_
  · rw [col_at]
    exact proj_real _ _ _ _ _ hf.x hf.g hf.sh hf.sc hf.w _ _
  · simp only [col_at]
    have e1 : ∀ j : Fin 64, 3072 + g.val / 2 * 128 + ((g.val % 2 * 64 + e.val) / 64 * 64 + j.val) = 3072 + (g.val * 64 + j.val) := fun j => by omega
    have e2 : (g.val % 2 * 64 + e.val) % 64 = e.val := by omega
    simp only [e1, e2]

/-- The block of the fifth result a point leaves. -/
theorem left4 (c : Dev nD) (hf : Finite m c) (t : Fin cfg0.N) (y : S2x512x64.Idx) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) y = o4 (aP m c) (aK m c) ⟨(y 0).val, (y 0).isLt⟩ (tok t ⟨(y 1).val, (y 1).isLt⟩) ⟨(y 2).val, (y 2).isLt⟩ := by
  obtain ⟨g, hg⟩ : ∃ g : Fin 2, (⟨(y 0).val, (y 0).isLt⟩ : Fin 2) = g := ⟨_, rfl⟩
  obtain ⟨r, hr⟩ : ∃ r : Fin 512, (⟨(y 1).val, (y 1).isLt⟩ : Fin 512) = r := ⟨_, rfl⟩
  obtain ⟨e, he⟩ : ∃ e : Fin 64, (⟨(y 2).val, (y 2).isLt⟩ : Fin 64) = e := ⟨_, rfl⟩
  rw [hg, hr, he, out15_at _ _ _ _ _ _ _ _ _ _ _ y g r e (congrArg Fin.val hg) (congrArg Fin.val hr) (congrArg Fin.val he)]
  unfold o4
  refine (normTurn_at m c t r _ (fun j => ?_) _ (aK m c) (fun j => (read_kg t (V m c main_v50) j).trans (V_kg m c j)) _).trans ?_
  · rw [col_at]
    exact proj_real _ _ _ _ _ hf.x hf.g hf.sh hf.sc hf.w _ _
  · simp only [col_at]
    have e1 : ∀ j : Fin 64, 3584 + g.val / 2 * 128 + ((g.val % 2 * 64 + e.val) / 64 * 64 + j.val) = 3584 + (g.val * 64 + j.val) := fun j => by omega
    have e2 : (g.val % 2 * 64 + e.val) % 64 = e.val := by omega
    simp only [e1, e2]

/-- The block of the sixth result a point leaves. -/
theorem left5 (c : Dev nD) (t : Fin cfg0.N) (y : S2x512x64.Idx) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) y = o5 (aP m c) ⟨(y 0).val, (y 0).isLt⟩ (tok t ⟨(y 1).val, (y 1).isLt⟩) ⟨(y 2).val, (y 2).isLt⟩ := by
  obtain ⟨g, hg⟩ : ∃ g : Fin 2, (⟨(y 0).val, (y 0).isLt⟩ : Fin 2) = g := ⟨_, rfl⟩
  obtain ⟨r, hr⟩ : ∃ r : Fin 512, (⟨(y 1).val, (y 1).isLt⟩ : Fin 512) = r := ⟨_, rfl⟩
  obtain ⟨e, he⟩ : ∃ e : Fin 64, (⟨(y 2).val, (y 2).isLt⟩ : Fin 64) = e := ⟨_, rfl⟩
  rw [hg, hr, he, out16_at _ _ _ _ _ _ _ _ _ _ _ y g r e (congrArg Fin.val hg) (congrArg Fin.val hr) (congrArg Fin.val he)]
  unfold o5
  refine (col_at m c t r _).trans ?_
  exact congrArg (aP m c (tok t r)) (Fin.ext (Nat.add_assoc _ _ _))

/-- After the last point the first result is complete. -/
theorem final0 (c : Dev nD) : (dats m 0 c).arrAt 11 cfg0.N = res0 m c := by
  refine (dats m 0 c).arrAt_eq_of_covers 11 _ (by decide +kernel) fun t _ y => ?_
  blk_simp
  rw [after0_11, read_o0 t (res0 m c) y]
  exact left0 m c t y

/-- After the last point the second result is complete. -/
theorem final1 (c : Dev nD) : (dats m 0 c).arrAt 12 cfg0.N = res1 m c := by
  refine (dats m 0 c).arrAt_eq_of_covers 12 _ (by decide +kernel) fun t _ y => ?_
  blk_simp
  rw [after0_12, read_o1 t (res1 m c) y]
  exact left1 m c t y

/-- After the last point the third result is complete. -/
theorem final2 (c : Dev nD) : (dats m 0 c).arrAt 13 cfg0.N = res2 m c := by
  refine (dats m 0 c).arrAt_eq_of_covers 13 _ (by decide +kernel) fun t _ y => ?_
  blk_simp
  rw [after0_13, read_o2 t (res2 m c) y]
  exact left2 m c t y

/-- After the last point the fourth result is complete. -/
theorem final3 (c : Dev nD) (hf : Finite m c) : (dats m 0 c).arrAt 14 cfg0.N = res3 m c := by
  refine (dats m 0 c).arrAt_eq_of_covers 14 _ (by decide +kernel) fun t _ y => ?_
  blk_simp
  rw [after0_14, read_o3 t (res3 m c) y]
  exact left3 m c hf t y

/-- After the last point the fifth result is complete. -/
theorem final4 (c : Dev nD) (hf : Finite m c) : (dats m 0 c).arrAt 15 cfg0.N = res4 m c := by
  refine (dats m 0 c).arrAt_eq_of_covers 15 _ (by decide +kernel) fun t _ y => ?_
  blk_simp
  rw [after0_15, read_o4 t (res4 m c) y]
  exact left4 m c hf t y

/-- After the last point the sixth result is complete. -/
theorem final5 (c : Dev nD) : (dats m 0 c).arrAt 16 cfg0.N = res5 m c := by
  refine (dats m 0 c).arrAt_eq_of_covers 16 _ (by decide +kernel) fun t _ y => ?_
  blk_simp
  rw [after0_16, read_o5 t (res5 m c) y]
  exact left5 m c t y

end Cert.InprojIdeal.Row

end
-- ==== Proof.ProjRun.lean ====
/-
  The projection's run: its six results complete, its arguments unchanged.
-/
module

public import proofs.«01_k».proof.Proof.Gen.InprojIdeal.Frame
public import proofs.«01_k».proof.Proof.Projected

@[expose] public section

noncomputable section

namespace Cert.InprojIdeal.Row

open Cert.InprojIdeal Cert.InprojIdeal.Gen
open Idealize.ShloMosaic Idealize.ShloMosaic.TcCoe Idealize.SL.Sem

variable (m : (ℓ : Loc nD τ sig) → Buf (Elt Ideal) ℓ) (ρ : Dev nD → PrngReg)

set_option maxHeartbeats 4000000 in
/-- The run, read: the six results, the arguments unchanged. -/
theorem run (hf : ∀ c : Dev nD, Finite m c) :
    θ_run defs (onTc (τ := τ) (main (F := Ideal))) ⟨m, fun _ => 0, ρ⟩ fun r => ∀ c : Dev nD,
      r.2.mem ((c.tc : Thread nD τ).loc main_v52_0) = res0 m c
      ∧ r.2.mem ((c.tc : Thread nD τ).loc main_v52_1) = res1 m c
      ∧ r.2.mem ((c.tc : Thread nD τ).loc main_v52_2) = res2 m c
      ∧ r.2.mem ((c.tc : Thread nD τ).loc main_v52_3) = res3 m c
      ∧ r.2.mem ((c.tc : Thread nD τ).loc main_v52_4) = res4 m c
      ∧ r.2.mem ((c.tc : Thread nD τ).loc main_v52_5) = res5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 11).trans (final0 m c),
      ((h c).1 12).trans (final1 m c),
      ((h c).1 13).trans (final2 m c),
      ((h c).1 14).trans (final3 m c (hf c)),
      ((h c).1 15).trans (final4 m c (hf c)),
      ((h c).1 16).trans (final5 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.InprojIdeal.Row

end
-- ==== Proof.RefProj.lean ====
/-
  The projection's reference read at an entry: the projected rows, the angles and the normed heads.
-/
module

public import proofs.«01_k».proof.Proof.Gen.InprojReferenceIdeal.Run
public import proofs.«01_k».proof.Proof.Spec
public import Idealize.ShloMosaic.Lib.Pipeline.ValueKit

@[expose] public section

set_option maxRecDepth 16384

noncomputable section

namespace Cert.InprojReferenceIdeal.Row

open Cert.InprojReferenceIdeal Cert.InprojReferenceIdeal.Gen Cert.InprojReferenceIdeal.Value
open Idealize.ShloMosaic Idealize.ShloMosaic.TcCoe Idealize.SL.Sem Idealize.ShloMosaic.StableHlo
open Cert.Rows

variable (V0 : Valuation τ sig (Elt Ideal))

/-- The tokens' rows. -/
def aX (n : Fin 33792) (d : Fin 1024) : EReal := V0 (Proc.devRef .tc main_arg0) (ix2 n d)

/-- The rows' gain. -/
def aG (d : Fin 1024) : EReal := V0 (Proc.devRef .tc main_arg1) (ix1 d)

/-- The shifts. -/
def aSH (b : Fin 8) (d : Fin 1024) : EReal := V0 (Proc.devRef .tc main_arg2) (ix2 b d)

/-- The scales. -/
def aSC (b : Fin 8) (d : Fin 1024) : EReal := V0 (Proc.devRef .tc main_arg3) (ix2 b d)

/-- The weights. -/
def aW (d : Fin 1024) (j : Fin 3840) : EReal := V0 (Proc.devRef .tc main_arg4) (ix2 d j)

/-- The queries' gain. -/
def aQ (d : Fin 64) : EReal := V0 (Proc.devRef .tc main_arg5) (ix1 d)

/-- The keys' gain. -/
def aK (d : Fin 64) : EReal := V0 (Proc.devRef .tc main_arg6) (ix1 d)

/-- The projection of the arguments. -/
def aP : Fin 33792 → Fin 3840 → EReal := proj (aX V0) (aG V0) (aSH V0) (aSC V0) (aW V0)

/-- A latent token's projection. -/
theorem lat_at (b : Fin 4) (q : Fin 8192) (k : Fin 3840) : res_main_v55 V0 (ix3 b q k) = aP V0 ⟨b.val * 8192 + q.val, by omega⟩ k := by
  have e : mrow ⟨b.val * 8192 + q.val, by omega⟩ = ⟨b.val, by omega⟩ := Fin.ext (show min ((b.val * 8192 + q.val) / 8192) 4 = b.val by omega)
  unfold aP proj
  rw [e]
  unfold modulated aX aG aSH aSC aW res_main_v55 res_main_v31
  pointwise

/-- A context token's projection. -/
theorem ctx_at (b : Fin 4) (q : Fin 256) (k : Fin 3840) : res_main_v215 V0 (ix3 b q k) = aP V0 ⟨32768 + (b.val * 256 + q.val), by omega⟩ k := by
  have e : mrow ⟨32768 + (b.val * 256 + q.val), by omega⟩ = 4 := Fin.ext (show min ((32768 + (b.val * 256 + q.val)) / 8192) 4 = 4 by omega)
  unfold aP proj
  rw [e]
  unfold modulated aX aG aSH aSC aW res_main_v215 res_main_v189
  pointwise

/-- The inverse frequencies. -/
theorem freq_at (f : Fin 16) : res_main_v14 V0 (ix1 f) = freq f.val := by
  unfold res_main_v14 freq
  pointwise

/-- The angles, by axis and frequency. -/
theorem angle_at (p : Fin 8192) (a : Fin 2) (f : Fin 16) : res_main_v27 V0 (ix3 p a f) = angle p.val (a.val * 32 + f.val) := by
  unfold res_main_v27 angle
  pointwise
  have e : (a.val * 32 + f.val) % 64 / 32 = a.val := by omega
  have e' : (a.val * 32 + f.val) % 16 = f.val := by omega
  rw [e, e', freq_at]
  split <;> rename_i h
  · rw [if_pos (by omega)]
  · rw [if_neg (by omega)]

/-- The attention queries of a latent token, a head normed. -/
theorem latQ_at (b : Fin 4) (q : Fin 8192) (h : Fin 8) (a s : Fin 2) (f : Fin 16) : res_main_v132 V0 (ix6 b q h a s f)
    = headNorm (fun j => aP V0 ⟨b.val * 8192 + q.val, by omega⟩ ⟨3072 + (h.val * 64 + j.val), by omega⟩) (aQ V0) ⟨a.val * 32 + s.val * 16 + f.val, by omega⟩ := by
  unfold headNorm aQ
  simp only [← lat_at]
  unfold res_main_v132 res_main_v61
  pointwise

/-- The attention keys of a latent token, a head normed. -/
theorem latK_at (b : Fin 4) (q : Fin 8192) (h : Fin 2) (a s : Fin 2) (f : Fin 16) : res_main_v153 V0 (ix6 b q h a s f)
    = headNorm (fun j => aP V0 ⟨b.val * 8192 + q.val, by omega⟩ ⟨3584 + (h.val * 64 + j.val), by omega⟩) (aK V0) ⟨a.val * 32 + s.val * 16 + f.val, by omega⟩ := by
  unfold headNorm aK
  simp only [← lat_at]
  unfold res_main_v153 res_main_v76
  pointwise

end Cert.InprojReferenceIdeal.Row

end
-- ==== Proof.Join.lean ====
/-
  Two arrays joined along an axis, an entry of either.
-/
module

public import proofs.«01_k».proof.Proof.Spec
public import Idealize.ShloMosaic.Lib.Pipeline.ValueKit

@[expose] public section

noncomputable section

namespace Cert.Rows

open Idealize.ShloMosaic Idealize.SL.Sem

/-- Two arrays joined by rows, an entry of the first. -/
theorem join_left {α : Type} {a b k d : Nat} (x : (⟨2, ![a, d]⟩ : Shape).Idx → α) (y : (⟨2, ![b, d]⟩ : Shape).Idx → α)
    (h : Shape.Concatenates [⟨2, ![a, d]⟩, ⟨2, ![b, d]⟩] ⟨2, ![k, d]⟩ 0) (n : Fin a) (hn : n.val < k) (e : Fin d) :
    concatenate ⟨2, ![k, d]⟩ 0 [⟨⟨2, ![a, d]⟩, x⟩, ⟨⟨2, ![b, d]⟩, y⟩] h (ix2 ⟨n.val, hn⟩ e) = x (ix2 n e) := by
  pointwise
  refine congrArg x (funext fun i => ?_)
  match i with
  | ⟨0, _⟩ => rfl
  | ⟨1, _⟩ => rfl

/-- Two arrays joined by rows, an entry of the second. -/
theorem join_right {α : Type} {a b k d : Nat} (x : (⟨2, ![a, d]⟩ : Shape).Idx → α) (y : (⟨2, ![b, d]⟩ : Shape).Idx → α)
    (h : Shape.Concatenates [⟨2, ![a, d]⟩, ⟨2, ![b, d]⟩] ⟨2, ![k, d]⟩ 0) (n : Fin b) (hn : a + n.val < k) (e : Fin d) :
    concatenate ⟨2, ![k, d]⟩ 0 [⟨⟨2, ![a, d]⟩, x⟩, ⟨⟨2, ![b, d]⟩, y⟩] h (ix2 ⟨a + n.val, hn⟩ e) = y (ix2 n e) := by
  pointwise
  refine congrArg y (funext fun i => Fin.ext ?_)
  match i with
  | ⟨0, _⟩ => rfl
  | ⟨1, _⟩ => rfl

/-- Two arrays joined along the middle axis, an entry of the first. -/
theorem join3_left {α : Type} {a b k g d : Nat} (x : (⟨3, ![g, a, d]⟩ : Shape).Idx → α) (y : (⟨3, ![g, b, d]⟩ : Shape).Idx → α)
    (h : Shape.Concatenates [⟨3, ![g, a, d]⟩, ⟨3, ![g, b, d]⟩] ⟨3, ![g, k, d]⟩ 1) (c : Fin g) (n : Fin a) (hn : n.val < k) (e : Fin d) :
    concatenate ⟨3, ![g, k, d]⟩ 1 [⟨⟨3, ![g, a, d]⟩, x⟩, ⟨⟨3, ![g, b, d]⟩, y⟩] h (ix3 c ⟨n.val, hn⟩ e) = x (ix3 c n e) := by
  pointwise
  refine congrArg x (funext fun i => ?_)
  match i with
  | ⟨0, _⟩ => rfl
  | ⟨1, _⟩ => rfl
  | ⟨2, _⟩ => rfl

/-- Two arrays joined along the middle axis, an entry of the second. -/
theorem join3_right {α : Type} {a b k g d : Nat} (x : (⟨3, ![g, a, d]⟩ : Shape).Idx → α) (y : (⟨3, ![g, b, d]⟩ : Shape).Idx → α)
    (h : Shape.Concatenates [⟨3, ![g, a, d]⟩, ⟨3, ![g, b, d]⟩] ⟨3, ![g, k, d]⟩ 1) (c : Fin g) (n : Fin b) (hn : a + n.val < k) (e : Fin d) :
    concatenate ⟨3, ![g, k, d]⟩ 1 [⟨⟨3, ![g, a, d]⟩, x⟩, ⟨⟨3, ![g, b, d]⟩, y⟩] h (ix3 c ⟨a + n.val, hn⟩ e) = y (ix3 c n e) := by
  pointwise
  refine congrArg y (funext fun i => Fin.ext ?_)
  match i with
  | ⟨0, _⟩ => rfl
  | ⟨1, _⟩ => rfl
  | ⟨2, _⟩ => rfl

end Cert.Rows

end
-- ==== Proof.RefOut.lean ====
/-
  The six results of the projection's reference, each at a latent and at a context row.
-/
module

public import proofs.«01_k».proof.Proof.Gen.InprojReferenceIdeal.Run
public import proofs.«01_k».proof.Proof.RefProj
public import proofs.«01_k».proof.Proof.Join
public import Idealize.ShloMosaic.Lib.Pipeline.ValueKit

@[expose] public section

set_option maxRecDepth 16384

noncomputable section

namespace Cert.InprojReferenceIdeal.Row

open Cert.InprojReferenceIdeal Cert.InprojReferenceIdeal.Gen Cert.InprojReferenceIdeal.Value
open Idealize.ShloMosaic Idealize.ShloMosaic.TcCoe Idealize.SL.Sem Idealize.ShloMosaic.StableHlo
open Cert.Rows

variable (V0 : Valuation τ sig (Elt Ideal))

/-- The narrowing cast keeps the number. -/
theorem trunc_at {s : Shape} (X : FVec Ideal s .f32) (h : FTy.bits .bf16 < FTy.bits .f32) (i : s.Idx) : (truncf .bf16 X h i : EReal) = X i := rfl

/-- A lower lane turned with its upper partner is its head under the rotation. -/
theorem rot_lo (t : Fin 64 → EReal) (n : Fin 32768) (e : Fin 64) (k : e.val % 32 < 16) (u v A B : EReal)
    (hu : u = t ⟨e.val / 32 * 32 + e.val % 16, by omega⟩) (hv : v = t ⟨e.val / 32 * 32 + 16 + e.val % 16, by omega⟩)
    (hA : A = angle (n.val % 8192) e.val) (hB : B = angle (n.val % 8192) e.val) :
    u * Ideal.cos A - v * Ideal.sin B = rot t ⟨n.val, by omega⟩ e := by
  subst hu hv hA hB
  unfold rot
  rw [if_pos (show n.val < 32768 from n.isLt), dif_pos k]
  have e1 : (⟨e.val / 32 * 32 + e.val % 16, by omega⟩ : Fin 64) = e := Fin.ext (show e.val / 32 * 32 + e.val % 16 = e.val by omega)
  have e2 : (⟨e.val / 32 * 32 + 16 + e.val % 16, by omega⟩ : Fin 64) = ⟨e.val + 16, by omega⟩ := Fin.ext (show e.val / 32 * 32 + 16 + e.val % 16 = e.val + 16 by omega)
  rw [e1, e2]

/-- An upper lane turned with its lower partner is its head under the rotation. -/
theorem rot_hi (t : Fin 64 → EReal) (n : Fin 32768) (e : Fin 64) (k : ¬ e.val % 32 < 16) (u v A B : EReal)
    (hv : v = t ⟨e.val / 32 * 32 + 16 + e.val % 16, by omega⟩) (hu : u = t ⟨e.val / 32 * 32 + e.val % 16, by omega⟩)
    (hA : A = angle (n.val % 8192) e.val) (hB : B = angle (n.val % 8192) e.val) :
    v * Ideal.cos A + u * Ideal.sin B = rot t ⟨n.val, by omega⟩ e := by
  subst hu hv hA hB
  unfold rot
  rw [if_pos (show n.val < 32768 from n.isLt), dif_neg k]
  have e1 : (⟨e.val / 32 * 32 + 16 + e.val % 16, by omega⟩ : Fin 64) = e := Fin.ext (show e.val / 32 * 32 + 16 + e.val % 16 = e.val by omega)
  have e2 : (⟨e.val / 32 * 32 + e.val % 16, by omega⟩ : Fin 64) = ⟨e.val - 16, by omega⟩ := Fin.ext (show e.val / 32 * 32 + e.val % 16 = e.val - 16 by omega)
  rw [e1, e2]

/-- A context token is not turned. -/
theorem rot_ctx (t : Fin 64 → EReal) (n : Fin 1024) (e : Fin 64) : rot t ⟨32768 + n.val, by omega⟩ e = t e := by
  unfold rot
  exact if_neg (show ¬ 32768 + n.val < 32768 by omega)

/-- The angle of a lane is that of its axis and frequency. -/
theorem angle_split (p l : Nat) : angle p (l % 64 / 32 * 32 + l % 16) = angle p l := by
  unfold angle
  rw [show (l % 64 / 32 * 32 + l % 16) % 64 / 32 = l % 64 / 32 by omega, show (l % 64 / 32 * 32 + l % 16) % 16 = l % 16 by omega]

/-- The angle of a head's lane is that of its axis and frequency. -/
theorem angle_lane (p : Nat) (e : Fin 64) : angle p (e.val / 32 * 32 + e.val % 16) = angle p e.val := by
  have h := angle_split p e.val
  rwa [show e.val % 64 = e.val by omega] at h

/-- A latent token's projection, by its number. -/
theorem lat_tok (n : Fin 32768) (k : Fin 3840) : res_main_v55 V0 (ix3 ⟨n.val / 8192, by omega⟩ ⟨n.val % 8192, by omega⟩ k) = aP V0 ⟨n.val, by omega⟩ k := by
  rw [lat_at]
  exact congrFun (congrArg (aP V0) (Fin.ext (Nat.div_add_mod' _ _))) _

/-- A context token's projection, by its number. -/
theorem ctx_tok (n : Fin 1024) (k : Fin 3840) : res_main_v215 V0 (ix3 ⟨n.val / 256, by omega⟩ ⟨n.val % 256, by omega⟩ k) = aP V0 ⟨32768 + n.val, by omega⟩ k := by
  rw [ctx_at]
  exact congrFun (congrArg (aP V0) (Fin.ext (congrArg (32768 + ·) (Nat.div_add_mod' _ _)))) _

/-- A latent token's normed query, by its number. -/
theorem latQ_tok (n : Fin 32768) (h : Fin 8) (a s : Fin 2) (f : Fin 16) : res_main_v132 V0 (ix6 ⟨n.val / 8192, by omega⟩ ⟨n.val % 8192, by omega⟩ h a s f)
    = headNorm (fun j => aP V0 ⟨n.val, by omega⟩ ⟨3072 + (h.val * 64 + j.val), by omega⟩) (aQ V0) ⟨a.val * 32 + s.val * 16 + f.val, by omega⟩ := by
  rw [latQ_at]
  exact congrArg (fun w => headNorm (fun j => aP V0 w ⟨3072 + (h.val * 64 + j.val), by omega⟩) (aQ V0) ⟨a.val * 32 + s.val * 16 + f.val, by omega⟩) (Fin.ext (Nat.div_add_mod' _ _))

/-- A latent token's normed key, by its number. -/
theorem latK_tok (n : Fin 32768) (h : Fin 2) (a s : Fin 2) (f : Fin 16) : res_main_v153 V0 (ix6 ⟨n.val / 8192, by omega⟩ ⟨n.val % 8192, by omega⟩ h a s f)
    = headNorm (fun j => aP V0 ⟨n.val, by omega⟩ ⟨3584 + (h.val * 64 + j.val), by omega⟩) (aK V0) ⟨a.val * 32 + s.val * 16 + f.val, by omega⟩ := by
  rw [latK_at]
  exact congrArg (fun w => headNorm (fun j => aP V0 w ⟨3584 + (h.val * 64 + j.val), by omega⟩) (aK V0) ⟨a.val * 32 + s.val * 16 + f.val, by omega⟩) (Fin.ext (Nat.div_add_mod' _ _))

/-- The angle of a column is that of its axis and frequency. -/
theorem angle_wide (p : Nat) (e : Fin 512) : angle p (e.val / 32 % 2 * 32 + e.val % 16) = angle p (e.val % 64) := by
  have h := angle_split p e.val
  rwa [← angle_mod p e.val, show e.val % 64 / 32 = e.val / 32 % 2 by omega] at h

/-- A latent token's retention key, by its number. -/
theorem latR_tok (n : Fin 32768) (h : Fin 8) (a s : Fin 2) (f : Fin 16) : res_main_v111 V0 (ix6 ⟨n.val / 8192, by omega⟩ ⟨n.val % 8192, by omega⟩ h a s f)
    = aP V0 ⟨n.val, by omega⟩ ⟨512 + (h.val * 64 + (a.val * 32 + s.val * 16 + f.val)), by omega⟩ := by
  rw [← lat_tok]
  unfold res_main_v111
  pointwise
  exact congrArg (fun w => res_main_v55 V0 (ix3 _ _ w)) (Fin.ext (show 512 + (h.val * 64 + a.val * 32 + s.val * 16 + f.val) = 512 + (h.val * 64 + (a.val * 32 + s.val * 16 + f.val)) by omega))

/-- The first result, a latent row. -/
theorem res0_lat (n : Fin 32768) (e : Fin 512) : val5 V0 (Proc.devRef .tc main_v265) (ix2 ⟨n.val, by omega⟩ e) = o0 (aP V0) ⟨n.val, by omega⟩ e := by
  rw [val5_main_v265]
  refine (trunc_at _ _ _).trans ((join_left (a := 32768) (b := 1024) (k := 33792) (d := 512) _ _ _ n _ e).trans ?_)
  unfold o0 res_main_v92 res_main_v94 res_main_v95 res_main_v96 res_main_v90 res_main_v28 res_main_v29
  pointwise
  simp only [lat_tok, angle_at]
  split
  · refine rot_lo _ n ⟨e.val % 64, by omega⟩ (show e.val % 64 % 32 < 16 by omega) _ _ _ _ ?_ ?_ ?_ ?_
    · exact congrArg (aP V0 _) (Fin.ext (show e.val / 64 * 64 + e.val / 32 % 2 * 32 + e.val % 16 = e.val / 64 * 64 + (e.val % 64 / 32 * 32 + e.val % 64 % 16) by omega))
    · exact congrArg (aP V0 _) (Fin.ext (show e.val / 64 * 64 + e.val / 32 % 2 * 32 + 16 + e.val % 16 = e.val / 64 * 64 + (e.val % 64 / 32 * 32 + 16 + e.val % 64 % 16) by omega))
    · exact angle_wide _ e
    · exact angle_wide _ e
  · refine rot_hi _ n ⟨e.val % 64, by omega⟩ (show ¬ e.val % 64 % 32 < 16 by omega) _ _ _ _ ?_ ?_ ?_ ?_
    · exact congrArg (aP V0 _) (Fin.ext (show e.val / 64 * 64 + e.val / 32 % 2 * 32 + 16 + e.val % 16 = e.val / 64 * 64 + (e.val % 64 / 32 * 32 + 16 + e.val % 64 % 16) by omega))
    · exact congrArg (aP V0 _) (Fin.ext (show e.val / 64 * 64 + e.val / 32 % 2 * 32 + e.val % 16 = e.val / 64 * 64 + (e.val % 64 / 32 * 32 + e.val % 64 % 16) by omega))
    · exact angle_wide _ e
    · exact angle_wide _ e

/-- The first result, a context row. -/
theorem res0_ctx (n : Fin 1024) (e : Fin 512) : val5 V0 (Proc.devRef .tc main_v265) (ix2 ⟨32768 + n.val, by omega⟩ e) = o0 (aP V0) ⟨32768 + n.val, by omega⟩ e := by
  rw [val5_main_v265]
  refine (trunc_at _ _ _).trans ((join_right (a := 32768) (b := 1024) (k := 33792) (d := 512) _ _ _ n _ e).trans ?_)
  unfold o0
  pointwise
  rw [ctx_tok]
  refine Eq.trans ?_ (rot_ctx _ n _).symm
  refine congrArg (aP V0 _) (Fin.ext ?_)
  show _ = _
  simp only
  omega

/-- A row-major regrouping of the retention keys, an entry. -/
theorem rows_at (X : (⟨4, ![4, 8192, 8, 64]⟩ : Shape).Idx → EReal) (hc : Shape.ShapeCasts ⟨4, ![4, 8192, 8, 64]⟩ ⟨2, ![32768, 512]⟩) (n : Fin 32768) (e : Fin 512) :
    shapeCast ⟨2, ![32768, 512]⟩ X hc (ix2 n e) = X (ix4 ⟨n.val / 8192, by omega⟩ ⟨n.val % 8192, by omega⟩ ⟨e.val / 64, by omega⟩ ⟨e.val % 64, by omega⟩) := by
  pointwise

/-- Two arrays interleaved along an axis and regrouped into heads, an entry. -/
theorem turned_at (x y : (⟨5, ![4, 8192, 8, 2, 16]⟩ : Shape).Idx → EReal)
    (b : Fin 4) (q : Fin 8192) (h : Fin 8) (d : Fin 64) :
    shapeCast S4x8192x8x64 (concatenate S4x8192x8x2x2x16 4
      [⟨S4x8192x8x2x1x16, broadcastInDim S4x8192x8x2x1x16 ![0, 1, 2, 3, 5] bcast_S4x8192x8x2x16_S4x8192x8x2x1x16_0_1_2_3_5 x⟩,
        ⟨S4x8192x8x2x1x16, broadcastInDim S4x8192x8x2x1x16 ![0, 1, 2, 3, 5] bcast_S4x8192x8x2x16_S4x8192x8x2x1x16_0_1_2_3_5 y⟩]
      concatenates_S4x8192x8x2x1x16_S4x8192x8x2x1x16_S4x8192x8x2x2x16_d4) shapeCasts_S4x8192x8x2x2x16_S4x8192x8x64 (ix4 b q h d)
    = if d.val / 16 % 2 < 1 then x (ix5 b q h ⟨d.val / 32, by omega⟩ ⟨d.val % 16, by omega⟩) else y (ix5 b q h ⟨d.val / 32, by omega⟩ ⟨d.val % 16, by omega⟩) := by
  pointwise
  split <;> rfl

/-- A product of arrays, an entry. -/
theorem mulf_at {s : Shape} (X Y : FVec Ideal s .f32) (i : s.Idx) : (mulf X Y i : EReal) = X i * Y i := rfl

/-- An array of one constant, an entry. -/
theorem eighth_at (i : S4x8192x8x64.Idx) : (broadcastInDim S4x8192x8x64 ![] bcast_S_S4x8192x8x64 (constant (F := Ideal) S_ .f32 0x3E000000#32) i : EReal) = Ideal.ofBits .f32 0x3E000000#32 := rfl

/-- A lower lane of a retention key, turned. -/
theorem lower_at (n : Fin 32768) (h : Fin 8) (a : Fin 2) (f : Fin 16) :
    (subf (mulf (res_main_v113 V0) (broadcastInDim S4x8192x8x2x16 ![0, 1, 2, 3, 4] bcast_S1x8192x1x2x16_S4x8192x8x2x16_0_1_2_3_4 (res_main_v116 V0)))
      (mulf (res_main_v115 V0) (broadcastInDim S4x8192x8x2x16 ![0, 1, 2, 3, 4] bcast_S1x8192x1x2x16_S4x8192x8x2x16_0_1_2_3_4 (res_main_v117 V0)))
      (ix5 ⟨n.val / 8192, by omega⟩ ⟨n.val % 8192, by omega⟩ h a f) : EReal)
    = aP V0 ⟨n.val, by omega⟩ ⟨512 + (h.val * 64 + (a.val * 32 + 0 * 16 + f.val)), by omega⟩ * Ideal.cos (angle (n.val % 8192) (a.val * 32 + f.val))
      - aP V0 ⟨n.val, by omega⟩ ⟨512 + (h.val * 64 + (a.val * 32 + 1 * 16 + f.val)), by omega⟩ * Ideal.sin (angle (n.val % 8192) (a.val * 32 + f.val)) := by
  unfold res_main_v113 res_main_v115 res_main_v116 res_main_v117 res_main_v28 res_main_v29
  pointwise
  simp only [latR_tok, angle_at]
  rfl

/-- An upper lane of a retention key, turned. -/
theorem upper_at (n : Fin 32768) (h : Fin 8) (a : Fin 2) (f : Fin 16) :
    (addf (mulf (res_main_v115 V0) (broadcastInDim S4x8192x8x2x16 ![0, 1, 2, 3, 4] bcast_S1x8192x1x2x16_S4x8192x8x2x16_0_1_2_3_4 (res_main_v116 V0)))
      (mulf (res_main_v113 V0) (broadcastInDim S4x8192x8x2x16 ![0, 1, 2, 3, 4] bcast_S1x8192x1x2x16_S4x8192x8x2x16_0_1_2_3_4 (res_main_v117 V0)))
      (ix5 ⟨n.val / 8192, by omega⟩ ⟨n.val % 8192, by omega⟩ h a f) : EReal)
    = aP V0 ⟨n.val, by omega⟩ ⟨512 + (h.val * 64 + (a.val * 32 + 1 * 16 + f.val)), by omega⟩ * Ideal.cos (angle (n.val % 8192) (a.val * 32 + f.val))
      + aP V0 ⟨n.val, by omega⟩ ⟨512 + (h.val * 64 + (a.val * 32 + 0 * 16 + f.val)), by omega⟩ * Ideal.sin (angle (n.val % 8192) (a.val * 32 + f.val)) := by
  unfold res_main_v113 res_main_v115 res_main_v116 res_main_v117 res_main_v28 res_main_v29
  pointwise
  simp only [latR_tok, angle_at]
  rfl

/-- The second result, a latent row. -/
theorem res1_lat (n : Fin 32768) (e : Fin 512) : val5 V0 (Proc.devRef .tc main_v267) (ix2 ⟨n.val, by omega⟩ e) = o1 (aP V0) ⟨n.val, by omega⟩ e := by
  rw [val5_main_v267]
  refine (trunc_at _ _ _).trans ((join_left (a := 32768) (b := 1024) (k := 33792) (d := 512) _ _ _ n _ e).trans ?_)
  refine (rows_at _ _ n e).trans ?_
  refine (mulf_at _ _ _).trans ?_
  rw [eighth_at]
  unfold o1
  refine congrArg (fun w : EReal => w * Ideal.ofBits .f32 0x3E000000#32) ?_
  refine (turned_at _ _ _ _ _ _).trans ?_
  refine (ite_congr rfl (fun _ => lower_at V0 n _ _ _) (fun _ => upper_at V0 n _ _ _)).trans ?_
  split
  · rename_i k
    have k' : e.val % 64 / 16 % 2 < 1 := k
    refine rot_lo _ n ⟨e.val % 64, by omega⟩ (show e.val % 64 % 32 < 16 by omega) _ _ _ _ ?_ ?_ ?_ ?_
    · exact congrArg (aP V0 _) (Fin.ext (show 512 + (e.val / 64 * 64 + (e.val % 64 / 32 * 32 + 0 * 16 + e.val % 64 % 16)) = 512 + (e.val / 64 * 64 + (e.val % 64 / 32 * 32 + e.val % 64 % 16)) by omega))
    · exact congrArg (aP V0 _) (Fin.ext (show 512 + (e.val / 64 * 64 + (e.val % 64 / 32 * 32 + 1 * 16 + e.val % 64 % 16)) = 512 + (e.val / 64 * 64 + (e.val % 64 / 32 * 32 + 16 + e.val % 64 % 16)) by omega))
    · exact angle_lane _ ⟨e.val % 64, by omega⟩
    · exact angle_lane _ ⟨e.val % 64, by omega⟩
  · rename_i k
    have k' : ¬ e.val % 64 / 16 % 2 < 1 := k
    refine rot_hi _ n ⟨e.val % 64, by omega⟩ (show ¬ e.val % 64 % 32 < 16 by omega) _ _ _ _ ?_ ?_ ?_ ?_
    · exact congrArg (aP V0 _) (Fin.ext (show 512 + (e.val / 64 * 64 + (e.val % 64 / 32 * 32 + 1 * 16 + e.val % 64 % 16)) = 512 + (e.val / 64 * 64 + (e.val % 64 / 32 * 32 + 16 + e.val % 64 % 16)) by omega))
    · exact congrArg (aP V0 _) (Fin.ext (show 512 + (e.val / 64 * 64 + (e.val % 64 / 32 * 32 + 0 * 16 + e.val % 64 % 16)) = 512 + (e.val / 64 * 64 + (e.val % 64 / 32 * 32 + e.val % 64 % 16)) by omega))
    · exact angle_lane _ ⟨e.val % 64, by omega⟩
    · exact angle_lane _ ⟨e.val % 64, by omega⟩

/-- The second result, a context row. -/
theorem res1_ctx (n : Fin 1024) (e : Fin 512) : val5 V0 (Proc.devRef .tc main_v267) (ix2 ⟨32768 + n.val, by omega⟩ e) = o1 (aP V0) ⟨32768 + n.val, by omega⟩ e := by
  rw [val5_main_v267]
  refine (trunc_at _ _ _).trans ((join_right (a := 32768) (b := 1024) (k := 33792) (d := 512) _ _ _ n _ e).trans ?_)
  unfold o1
  pointwise
  refine congrArg (· * Ideal.ofBits .f32 0x3E000000#32) ?_
  rw [ctx_tok]
  refine Eq.trans ?_ (rot_ctx _ n _).symm
  refine congrArg (aP V0 _) (Fin.ext ?_)
  show _ = _
  simp only
  omega

/-- The third result, a latent row. -/
theorem res2_lat (n : Fin 32768) (e : Fin 2048) : val5 V0 (Proc.devRef .tc main_v269) (ix2 ⟨n.val, by omega⟩ e) = o2 (aP V0) ⟨n.val, by omega⟩ e := by
  rw [val5_main_v269]
  refine (trunc_at _ _ _).trans ((join_left (a := 32768) (b := 1024) (k := 33792) (d := 2048) _ _ _ n _ e).trans ?_)
  unfold o2
  pointwise
  rw [lat_tok]

/-- The third result, a context row. -/
theorem res2_ctx (n : Fin 1024) (e : Fin 2048) : val5 V0 (Proc.devRef .tc main_v269) (ix2 ⟨32768 + n.val, by omega⟩ e) = o2 (aP V0) ⟨32768 + n.val, by omega⟩ e := by
  rw [val5_main_v269]
  refine (trunc_at _ _ _).trans ((join_right (a := 32768) (b := 1024) (k := 33792) (d := 2048) _ _ _ n _ e).trans ?_)
  unfold o2
  pointwise
  rw [ctx_tok]

/-- The fourth result, a latent row. -/
theorem res3_lat (h : Fin 8) (n : Fin 32768) (e : Fin 64) : val5 V0 (Proc.devRef .tc main_v270) (ix3 h ⟨n.val, by omega⟩ e) = o3 (aP V0) (aQ V0) h ⟨n.val, by omega⟩ e := by
  rw [val5_main_v270]
  refine (join3_left (g := 8) (a := 32768) (b := 1024) (k := 33792) (d := 64) _ _ _ h n _ e).trans ?_
  unfold o3 res_main_v134 res_main_v136 res_main_v137 res_main_v138 res_main_v28 res_main_v29
  pointwise
  simp only [latQ_tok, angle_at]
  split
  · refine rot_lo _ n e (by omega) _ _ _ _ ?_ ?_ ?_ ?_
    · exact congrArg (headNorm _ _) (Fin.ext (show e.val / 32 * 32 + 0 * 16 + e.val % 16 = e.val / 32 * 32 + e.val % 16 by omega))
    · exact congrArg (headNorm _ _) (Fin.ext (show e.val / 32 * 32 + 1 * 16 + e.val % 16 = e.val / 32 * 32 + 16 + e.val % 16 by omega))
    · exact angle_lane _ e
    · exact angle_lane _ e
  · refine rot_hi _ n e (by omega) _ _ _ _ ?_ ?_ ?_ ?_
    · exact congrArg (headNorm _ _) (Fin.ext (show e.val / 32 * 32 + 1 * 16 + e.val % 16 = e.val / 32 * 32 + 16 + e.val % 16 by omega))
    · exact congrArg (headNorm _ _) (Fin.ext (show e.val / 32 * 32 + 0 * 16 + e.val % 16 = e.val / 32 * 32 + e.val % 16 by omega))
    · exact angle_lane _ e
    · exact angle_lane _ e

/-- The fourth result, a context row. -/
theorem res3_ctx (h : Fin 8) (n : Fin 1024) (e : Fin 64) : val5 V0 (Proc.devRef .tc main_v270) (ix3 h ⟨32768 + n.val, by omega⟩ e) = o3 (aP V0) (aQ V0) h ⟨32768 + n.val, by omega⟩ e := by
  rw [val5_main_v270]
  refine (join3_right (g := 8) (a := 32768) (b := 1024) (k := 33792) (d := 64) _ _ _ h n _ e).trans ?_
  unfold o3 res_main_v221
  pointwise
  simp only [ctx_tok]
  refine Eq.trans ?_ (rot_ctx _ n e).symm
  unfold headNorm aQ
  rfl

/-- The fifth result, a latent row. -/
theorem res4_lat (h : Fin 2) (n : Fin 32768) (e : Fin 64) : val5 V0 (Proc.devRef .tc main_v272) (ix3 h ⟨n.val, by omega⟩ e) = o4 (aP V0) (aK V0) h ⟨n.val, by omega⟩ e := by
  rw [val5_main_v272]
  refine (trunc_at _ _ _).trans ((join3_left (g := 2) (a := 32768) (b := 1024) (k := 33792) (d := 64) _ _ _ h n _ e).trans ?_)
  unfold o4 res_main_v155 res_main_v157 res_main_v158 res_main_v159 res_main_v28 res_main_v29
  pointwise
  simp only [latK_tok, angle_at]
  split
  · refine rot_lo _ n e (by omega) _ _ _ _ ?_ ?_ ?_ ?_
    · exact congrArg (headNorm _ _) (Fin.ext (show e.val / 32 * 32 + 0 * 16 + e.val % 16 = e.val / 32 * 32 + e.val % 16 by omega))
    · exact congrArg (headNorm _ _) (Fin.ext (show e.val / 32 * 32 + 1 * 16 + e.val % 16 = e.val / 32 * 32 + 16 + e.val % 16 by omega))
    · exact angle_lane _ e
    · exact angle_lane _ e
  · refine rot_hi _ n e (by omega) _ _ _ _ ?_ ?_ ?_ ?_
    · exact congrArg (headNorm _ _) (Fin.ext (show e.val / 32 * 32 + 1 * 16 + e.val % 16 = e.val / 32 * 32 + 16 + e.val % 16 by omega))
    · exact congrArg (headNorm _ _) (Fin.ext (show e.val / 32 * 32 + 0 * 16 + e.val % 16 = e.val / 32 * 32 + e.val % 16 by omega))
    · exact angle_lane _ e
    · exact angle_lane _ e

/-- The fifth result, a context row. -/
theorem res4_ctx (h : Fin 2) (n : Fin 1024) (e : Fin 64) : val5 V0 (Proc.devRef .tc main_v272) (ix3 h ⟨32768 + n.val, by omega⟩ e) = o4 (aP V0) (aK V0) h ⟨32768 + n.val, by omega⟩ e := by
  rw [val5_main_v272]
  refine (trunc_at _ _ _).trans ((join3_right (g := 2) (a := 32768) (b := 1024) (k := 33792) (d := 64) _ _ _ h n _ e).trans ?_)
  unfold o4 res_main_v236
  pointwise
  simp only [ctx_tok]
  refine Eq.trans ?_ (rot_ctx _ n e).symm
  unfold headNorm aK
  rfl

/-- The sixth result, a latent row. -/
theorem res5_lat (h : Fin 2) (n : Fin 32768) (e : Fin 64) : val5 V0 (Proc.devRef .tc main_v274) (ix3 h ⟨n.val, by omega⟩ e) = o5 (aP V0) h ⟨n.val, by omega⟩ e := by
  rw [val5_main_v274]
  refine (trunc_at _ _ _).trans ((join3_left (g := 2) (a := 32768) (b := 1024) (k := 33792) (d := 64) _ _ _ h n _ e).trans ?_)
  unfold o5
  pointwise
  rw [lat_tok]

/-- The sixth result, a context row. -/
theorem res5_ctx (h : Fin 2) (n : Fin 1024) (e : Fin 64) : val5 V0 (Proc.devRef .tc main_v274) (ix3 h ⟨32768 + n.val, by omega⟩ e) = o5 (aP V0) h ⟨32768 + n.val, by omega⟩ e := by
  rw [val5_main_v274]
  refine (trunc_at _ _ _).trans ((join3_right (g := 2) (a := 32768) (b := 1024) (k := 33792) (d := 64) _ _ _ h n _ e).trans ?_)
  unfold o5
  pointwise
  rw [ctx_tok]

end Cert.InprojReferenceIdeal.Row

end
-- ==== Proof.RefRows.lean ====
/-
  The six results of the projection's reference, whole.
-/
module

public import proofs.«01_k».proof.Proof.Gen.InprojReferenceIdeal.Run
public import proofs.«01_k».proof.Proof.RefOut
public import Idealize.ShloMosaic.Lib.Pipeline.ValueKit

@[expose] public section

noncomputable section

namespace Cert.InprojReferenceIdeal.Row

open Cert.InprojReferenceIdeal Cert.InprojReferenceIdeal.Gen Cert.InprojReferenceIdeal.Value
open Idealize.ShloMosaic Idealize.ShloMosaic.TcCoe Idealize.SL.Sem Idealize.ShloMosaic.StableHlo
open Cert.Rows

variable (V0 : Valuation τ sig (Elt Ideal))

/-- A token is a latent one or a context one. -/
theorem token (p : Fin 33792 → Prop) (hl : ∀ n : Fin 32768, p ⟨n.val, by omega⟩) (hc : ∀ n : Fin 1024, p ⟨32768 + n.val, by omega⟩) (n : Fin 33792) : p n := by
  by_cases h : n.val < 32768
  · exact hl ⟨n.val, h⟩
  · have e : (⟨32768 + (⟨n.val - 32768, by omega⟩ : Fin 1024).val, by omega⟩ : Fin 33792) = n := Fin.ext (show 32768 + (n.val - 32768) = n.val by omega)
    exact e ▸ hc ⟨n.val - 32768, by omega⟩

/-- The first result at an entry. -/
theorem whole0 (n : Fin 33792) (e : Fin 512) : val5 V0 (Proc.devRef .tc main_v265) (ix2 n e) = o0 (aP V0) n e :=
  token (fun n => val5 V0 (Proc.devRef .tc main_v265) (ix2 n e) = o0 (aP V0) n e) (fun n => res0_lat V0 n e) (fun n => res0_ctx V0 n e) n

/-- The second result at an entry. -/
theorem whole1 (n : Fin 33792) (e : Fin 512) : val5 V0 (Proc.devRef .tc main_v267) (ix2 n e) = o1 (aP V0) n e :=
  token (fun n => val5 V0 (Proc.devRef .tc main_v267) (ix2 n e) = o1 (aP V0) n e) (fun n => res1_lat V0 n e) (fun n => res1_ctx V0 n e) n

/-- The third result at an entry. -/
theorem whole2 (n : Fin 33792) (e : Fin 2048) : val5 V0 (Proc.devRef .tc main_v269) (ix2 n e) = o2 (aP V0) n e :=
  token (fun n => val5 V0 (Proc.devRef .tc main_v269) (ix2 n e) = o2 (aP V0) n e) (fun n => res2_lat V0 n e) (fun n => res2_ctx V0 n e) n

/-- The fourth result at an entry. -/
theorem whole3 (h : Fin 8) (n : Fin 33792) (e : Fin 64) : val5 V0 (Proc.devRef .tc main_v270) (ix3 h n e) = o3 (aP V0) (aQ V0) h n e :=
  token (fun n => val5 V0 (Proc.devRef .tc main_v270) (ix3 h n e) = o3 (aP V0) (aQ V0) h n e) (fun n => res3_lat V0 h n e) (fun n => res3_ctx V0 h n e) n

/-- The fifth result at an entry. -/
theorem whole4 (h : Fin 2) (n : Fin 33792) (e : Fin 64) : val5 V0 (Proc.devRef .tc main_v272) (ix3 h n e) = o4 (aP V0) (aK V0) h n e :=
  token (fun n => val5 V0 (Proc.devRef .tc main_v272) (ix3 h n e) = o4 (aP V0) (aK V0) h n e) (fun n => res4_lat V0 h n e) (fun n => res4_ctx V0 h n e) n

/-- The sixth result at an entry. -/
theorem whole5 (h : Fin 2) (n : Fin 33792) (e : Fin 64) : val5 V0 (Proc.devRef .tc main_v274) (ix3 h n e) = o5 (aP V0) h n e :=
  token (fun n => val5 V0 (Proc.devRef .tc main_v274) (ix3 h n e) = o5 (aP V0) h n e) (fun n => res5_lat V0 h n e) (fun n => res5_ctx V0 h n e) n

end Cert.InprojReferenceIdeal.Row

end
-- ==== Proof.Finite2.lean ====
/-
  The projection's precondition read: what it multiplies is a real number.
-/
module

public import proofs.«01_k».proof.Proof.Gen.Pre_finite_projection
public import proofs.«01_k».proof.Proof.Finite
public import proofs.«01_k».proof.Proof.Join

@[expose] public section

set_option maxRecDepth 16384

noncomputable section

namespace Cert.Pre_finite_projection.Row

open Cert.Pre_finite_projection Cert.Pre_finite_projection.Gen
open Idealize.ShloMosaic Idealize.ShloMosaic.TcCoe Idealize.SL.Sem
open Cert.Rows Cert.Pre_finite_scores.Attn

/-- A comparison with +∞ that holds is of a real. -/
theorem real_of_word (x : EReal) (e : BitVec.ofBool (decide (max x (-x) < ⊤)) = 1#1) : ∃ r : ℝ, x = (r : EReal) := by
  refine real_of_abs x ?_
  by_contra hn
  rw [decide_eq_false hn] at e
  exact absurd e (by decide)

/-- Two one-bit words whose conjunction is set are both set. -/
theorem both (a b : BitVec 1) (h : a &&& b = 1#1) : a = 1#1 ∧ b = 1#1 := by
  revert a b
  decide

variable (A0 : FVec Ideal S33792x1024 .f32) (A1 : FVec Ideal S1024 .f32) (A2 A3 : FVec Ideal S8x1024 .f32)
  (A4 : FVec Ideal S1024x3840 .f32) (A5 A6 : FVec Ideal S64 .f32)

/-- Under the precondition every entry of the rows and of their gain is a real. -/
theorem row_real (h : fn (F := Ideal) A0 A1 A2 A3 A4 A5 A6 = fun _ => 1#1) (n : Fin 33792) (d : Fin 1024) :
    (∃ r : ℝ, A0 (ix2 n d) = (r : EReal)) ∧ ∃ r : ℝ, A1 (ix1 d) = (r : EReal) := by
  have e := congrFun h (ix2 ⟨n.val, by omega⟩ d)
  unfold fn fn_part1 at e
  have e1 := (join_left (a := 37632) (b := 8) (k := 37640) (d := 1024) _ _ _ ⟨n.val, by omega⟩ (by simp only; omega) d).symm.trans e
  have e2 := (join_left (a := 33792) (b := 3840) (k := 37632) (d := 1024) _ _ _ n (by omega) d).symm.trans e1
  clear e e1
  revert e2
  pointwise
  rw [ofBits_inf]
  intro e
  have e' := both _ _ e
  exact ⟨real_of_word _ e'.1, real_of_word _ e'.2⟩

/-- Under the precondition every weight is a real. -/
theorem weight_real (h : fn (F := Ideal) A0 A1 A2 A3 A4 A5 A6 = fun _ => 1#1) (d : Fin 1024) (j : Fin 3840) : ∃ r : ℝ, A4 (ix2 d j) = (r : EReal) := by
  have e := congrFun h (ix2 ⟨33792 + j.val, by omega⟩ d)
  unfold fn fn_part1 at e
  have e1 := (join_left (a := 37632) (b := 8) (k := 37640) (d := 1024) _ _ _ ⟨33792 + j.val, by omega⟩ (by simp only; omega) d).symm.trans e
  have e2 := (join_right (a := 33792) (b := 3840) (k := 37632) (d := 1024) _ _ _ j (by omega) d).symm.trans e1
  clear e e1
  revert e2
  pointwise
  rw [ofBits_inf]
  intro e
  exact real_of_word _ e

/-- Under the precondition every shift and every scale is a real. -/
theorem modulation_real (h : fn (F := Ideal) A0 A1 A2 A3 A4 A5 A6 = fun _ => 1#1) (b : Fin 8) (d : Fin 1024) :
    (∃ r : ℝ, A2 (ix2 b d) = (r : EReal)) ∧ ∃ r : ℝ, A3 (ix2 b d) = (r : EReal) := by
  have e := congrFun h (ix2 ⟨37632 + b.val, by omega⟩ d)
  unfold fn fn_part1 at e
  have e1 := (join_right (a := 37632) (b := 8) (k := 37640) (d := 1024) _ _ _ b (by omega) d).symm.trans e
  clear e
  revert e1
  pointwise
  rw [ofBits_inf]
  intro e
  have e' := both _ _ e
  exact ⟨real_of_word _ e'.1, real_of_word _ e'.2⟩

end Cert.Pre_finite_projection.Row

end
-- ==== Proof.Projection.lean ====
/-
  The projection: the kernel's six results are the reference's.
-/
module

public import proofs.«01_k».proof.Defs
public import proofs.«01_k».proof.Proof.ProjRun
public import proofs.«01_k».proof.Proof.RefRows
public import proofs.«01_k».proof.Proof.Finite2

@[expose] public section

noncomputable section

namespace Cert.Projection

open Idealize.ShloMosaic Idealize.SL.Sem Idealize.ShloMosaic.StableHlo

variable (m : (ℓ : Loc Cert.InprojIdeal.nD Cert.InprojIdeal.τ Cert.InprojIdeal.sig) → Buf (Elt Ideal) ℓ)
  (m' : (ℓ : Loc Cert.InprojReferenceIdeal.nD Cert.InprojReferenceIdeal.τ Cert.InprojReferenceIdeal.sig) → Buf (Elt Ideal) ℓ) (c : Dev Cert.InprojIdeal.nD)

/-- Under the precondition what the projection multiplies is finite. -/
theorem finite (h : Cert.Pre_InprojIdeal_finite_projection m) : Cert.InprojIdeal.Row.Finite m c where
  x n d := (Cert.Pre_finite_projection.Row.row_real _ _ _ _ _ _ _ (h c) n d).1
  g d := (Cert.Pre_finite_projection.Row.row_real _ _ _ _ _ _ _ (h c) 0 d).2
  sh b d := (Cert.Pre_finite_projection.Row.modulation_real _ _ _ _ _ _ _ (h c) b d).1
  sc b d := (Cert.Pre_finite_projection.Row.modulation_real _ _ _ _ _ _ _ (h c) b d).2
  w d j := Cert.Pre_finite_projection.Row.weight_real _ _ _ _ _ _ _ (h c) d j

/-- The two programs' arguments are the same on a device. -/
structure Same : Prop where
  h0 : m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
  h1 : m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
  h2 : m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
  h3 : m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
  h4 : m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
  h5 : m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
  h6 : m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)

variable {m m' c}

/-- From the same arguments the two programs project alike. -/
theorem proj_eq (h : Same m m' c) : Cert.InprojReferenceIdeal.Row.aP (launchContents m' c) = Cert.InprojIdeal.Row.aP m c := by
  have x : Cert.InprojReferenceIdeal.Row.aX (launchContents m' c) = Cert.InprojIdeal.Row.aX m c := funext fun n => funext fun d => congrFun h.h0 (ix2 n d)
  have g : Cert.InprojReferenceIdeal.Row.aG (launchContents m' c) = Cert.InprojIdeal.Row.aG m c := funext fun d => congrFun h.h1 (ix1 d)
  have sh : Cert.InprojReferenceIdeal.Row.aSH (launchContents m' c) = Cert.InprojIdeal.Row.aSH m c := funext fun b => funext fun d => congrFun h.h2 (ix2 b d)
  have sc : Cert.InprojReferenceIdeal.Row.aSC (launchContents m' c) = Cert.InprojIdeal.Row.aSC m c := funext fun b => funext fun d => congrFun h.h3 (ix2 b d)
  have w : Cert.InprojReferenceIdeal.Row.aW (launchContents m' c) = Cert.InprojIdeal.Row.aW m c := funext fun d => funext fun j => congrFun h.h4 (ix2 d j)
  unfold Cert.InprojReferenceIdeal.Row.aP Cert.InprojIdeal.Row.aP
  rw [x, g, sh, sc, w]

/-- The queries' gain is the same. -/
theorem gainQ_eq (h : Same m m' c) : Cert.InprojReferenceIdeal.Row.aQ (launchContents m' c) = Cert.InprojIdeal.Row.aQ m c := funext fun d => congrFun h.h5 (ix1 d)

/-- The keys' gain is the same. -/
theorem gainK_eq (h : Same m m' c) : Cert.InprojReferenceIdeal.Row.aK (launchContents m' c) = Cert.InprojIdeal.Row.aK m c := funext fun d => congrFun h.h6 (ix1 d)

/-- The first result is the same array. -/
theorem equal0 (h : Same m m' c) : Cert.InprojReferenceIdeal.Value.val5 (launchContents m' c) (Proc.devRef .tc Cert.InprojReferenceIdeal.main_v265) = Cert.InprojIdeal.Row.res0 m c := by
  funext i
  obtain ⟨n, e, rfl⟩ : ∃ (n : Fin 33792) (e : Fin 512), i = ix2 n e :=
    ⟨⟨(i 0).val, (i 0).isLt⟩, ⟨(i 1).val, (i 1).isLt⟩, funext fun a => match a with | ⟨0, _⟩ => rfl | ⟨1, _⟩ => rfl⟩
  refine (Cert.InprojReferenceIdeal.Row.whole0 (launchContents m' c) n e).trans ?_
  rw [proj_eq h]
  rfl

/-- The second result is the same array. -/
theorem equal1 (h : Same m m' c) : Cert.InprojReferenceIdeal.Value.val5 (launchContents m' c) (Proc.devRef .tc Cert.InprojReferenceIdeal.main_v267) = Cert.InprojIdeal.Row.res1 m c := by
  funext i
  obtain ⟨n, e, rfl⟩ : ∃ (n : Fin 33792) (e : Fin 512), i = ix2 n e :=
    ⟨⟨(i 0).val, (i 0).isLt⟩, ⟨(i 1).val, (i 1).isLt⟩, funext fun a => match a with | ⟨0, _⟩ => rfl | ⟨1, _⟩ => rfl⟩
  refine (Cert.InprojReferenceIdeal.Row.whole1 (launchContents m' c) n e).trans ?_
  rw [proj_eq h]
  rfl

/-- The third result is the same array. -/
theorem equal2 (h : Same m m' c) : Cert.InprojReferenceIdeal.Value.val5 (launchContents m' c) (Proc.devRef .tc Cert.InprojReferenceIdeal.main_v269) = Cert.InprojIdeal.Row.res2 m c := by
  funext i
  obtain ⟨n, e, rfl⟩ : ∃ (n : Fin 33792) (e : Fin 2048), i = ix2 n e :=
    ⟨⟨(i 0).val, (i 0).isLt⟩, ⟨(i 1).val, (i 1).isLt⟩, funext fun a => match a with | ⟨0, _⟩ => rfl | ⟨1, _⟩ => rfl⟩
  refine (Cert.InprojReferenceIdeal.Row.whole2 (launchContents m' c) n e).trans ?_
  rw [proj_eq h]
  rfl

/-- The fourth result is the same array. -/
theorem equal3 (h : Same m m' c) : Cert.InprojReferenceIdeal.Value.val5 (launchContents m' c) (Proc.devRef .tc Cert.InprojReferenceIdeal.main_v270) = Cert.InprojIdeal.Row.res3 m c := by
  funext i
  obtain ⟨a, n, e, rfl⟩ : ∃ (a : Fin 8) (n : Fin 33792) (e : Fin 64), i = ix3 a n e :=
    ⟨⟨(i 0).val, (i 0).isLt⟩, ⟨(i 1).val, (i 1).isLt⟩, ⟨(i 2).val, (i 2).isLt⟩,
      funext fun a => match a with | ⟨0, _⟩ => rfl | ⟨1, _⟩ => rfl | ⟨2, _⟩ => rfl⟩
  refine (Cert.InprojReferenceIdeal.Row.whole3 (launchContents m' c) a n e).trans ?_
  rw [proj_eq h, gainQ_eq h]
  rfl

/-- The fifth result is the same array. -/
theorem equal4 (h : Same m m' c) : Cert.InprojReferenceIdeal.Value.val5 (launchContents m' c) (Proc.devRef .tc Cert.InprojReferenceIdeal.main_v272) = Cert.InprojIdeal.Row.res4 m c := by
  funext i
  obtain ⟨a, n, e, rfl⟩ : ∃ (a : Fin 2) (n : Fin 33792) (e : Fin 64), i = ix3 a n e :=
    ⟨⟨(i 0).val, (i 0).isLt⟩, ⟨(i 1).val, (i 1).isLt⟩, ⟨(i 2).val, (i 2).isLt⟩,
      funext fun a => match a with | ⟨0, _⟩ => rfl | ⟨1, _⟩ => rfl | ⟨2, _⟩ => rfl⟩
  refine (Cert.InprojReferenceIdeal.Row.whole4 (launchContents m' c) a n e).trans ?_
  rw [proj_eq h, gainK_eq h]
  rfl

/-- The sixth result is the same array. -/
theorem equal5 (h : Same m m' c) : Cert.InprojReferenceIdeal.Value.val5 (launchContents m' c) (Proc.devRef .tc Cert.InprojReferenceIdeal.main_v274) = Cert.InprojIdeal.Row.res5 m c := by
  funext i
  obtain ⟨a, n, e, rfl⟩ : ∃ (a : Fin 2) (n : Fin 33792) (e : Fin 64), i = ix3 a n e :=
    ⟨⟨(i 0).val, (i 0).isLt⟩, ⟨(i 1).val, (i 1).isLt⟩, ⟨(i 2).val, (i 2).isLt⟩,
      funext fun a => match a with | ⟨0, _⟩ => rfl | ⟨1, _⟩ => rfl | ⟨2, _⟩ => rfl⟩
  refine (Cert.InprojReferenceIdeal.Row.whole5 (launchContents m' c) a n e).trans ?_
  rw [proj_eq h]
  rfl

set_option maxHeartbeats 4000000 in
/-- Over the extended reals, where what the projection multiplies is finite, the kernel's results are the reference's. -/
theorem algebraic : Cert.algebraic_InprojIdeal_InprojReferenceIdeal_pre_finite_projection := fun m g m' g' hp ha =>
  have hs : ∀ c, Same m m' c := fun c => ⟨(ha c).1, (ha c).2.1, (ha c).2.2.1, (ha c).2.2.2.1, (ha c).2.2.2.2.1, (ha c).2.2.2.2.2.1, (ha c).2.2.2.2.2.2⟩
  ⟨fun c => Cert.InprojIdeal.Row.res0 m c, fun c => Cert.InprojIdeal.Row.res1 m c, fun c => Cert.InprojIdeal.Row.res2 m c, fun c => Cert.InprojIdeal.Row.res3 m c, fun c => Cert.InprojIdeal.Row.res4 m c, fun c => Cert.InprojIdeal.Row.res5 m c,
    Cert.InprojIdeal.Row.run m g (fun c => finite m c hp),
    (θ_run Cert.InprojReferenceIdeal.defs _ _).mono
      (fun _ h c => ⟨(h c).1.trans ((Cert.InprojReferenceIdeal.Value.val5_main_v265 _).symm.trans (equal0 (hs c))),
        (h c).2.1.trans ((Cert.InprojReferenceIdeal.Value.val5_main_v267 _).symm.trans (equal1 (hs c))),
        (h c).2.2.1.trans ((Cert.InprojReferenceIdeal.Value.val5_main_v269 _).symm.trans (equal2 (hs c))),
        (h c).2.2.2.1.trans ((Cert.InprojReferenceIdeal.Value.val5_main_v270 _).symm.trans (equal3 (hs c))),
        (h c).2.2.2.2.1.trans ((Cert.InprojReferenceIdeal.Value.val5_main_v272 _).symm.trans (equal4 (hs c))),
        (h c).2.2.2.2.2.1.trans ((Cert.InprojReferenceIdeal.Value.val5_main_v274 _).symm.trans (equal5 (hs c))),
        (h c).2.2.2.2.2.2⟩)
      (Cert.InprojReferenceIdeal.Value.run (F := Ideal) m' g')⟩

end Cert.Projection

end
-- ==== Proof.OddSpec.lean ====
/-
  The arithmetic of one row of the projection into the odd layers' mixer over the extended reals: the projected row, its two
  neighbours in the sequence, the short convolution, the unit norm of a head, and the gates.
-/
module

public import proofs.«01_k».proof.Proof.Spec
public import Idealize.ShloMosaic.Lib.IdealHost

@[expose] public section

noncomputable section

namespace Cert.OddRows

open Idealize.ShloMosaic Cert.Rows

/-- A row of the projection: normed, modulated, multiplied by the weights. -/
def proj (X : Fin 33792 → Fin 1024 → EReal) (G : Fin 1024 → EReal) (SH SC : Fin 8 → Fin 1024 → EReal) (W : Fin 1024 → Fin 4128 → EReal)
    (n : Fin 33792) (j : Fin 4128) : EReal :=
  ∑ d : Fin 1024, modulated (X n) G (SH (mrow n)) (SC (mrow n)) d * W d j

/-- The length of the sequence a token lies in. -/
def len (n : Nat) : Nat := if n < 32768 then 8192 else 256

/-- The row before a token's, zero at the sequence's start. -/
def prev (P : Fin 33792 → Fin 4128 → EReal) (n : Fin 33792) (j : Fin 4128) : EReal :=
  if n.val % len n.val = 0 then 0 else P ⟨n.val - 1, by omega⟩ j

/-- The row after a token's, zero at the sequence's end. -/
def next (P : Fin 33792 → Fin 4128 → EReal) (n : Fin 33792) (j : Fin 4128) : EReal :=
  if (n.val + 1) % len n.val = 0 then 0 else P ⟨min (n.val + 1) 33791, by omega⟩ j

/-- A value times its logistic. -/
def gated (y : EReal) : EReal := Ideal.div y (1 + Ideal.exp (0 - y))

/-- An exponential and one do not cancel. -/
theorem one_add_exp (z : EReal) : 1 + Ideal.exp z ≠ 0 := by
  have h : 0 ≤ Ideal.exp z := by
    induction z with
    | bot => exact le_refl _
    | top => exact le_top
    | coe r => exact EReal.coe_nonneg.mpr (Real.exp_pos r).le
  have h1 : (1 : EReal) ≤ 1 + Ideal.exp z := le_add_of_nonneg_right h
  exact (lt_of_lt_of_le zero_lt_one h1).ne'

/-- The same, the logistic taken first. -/
theorem gated_eq (y : EReal) : y * Ideal.div 1 (1 + Ideal.exp (-y)) = gated y := by
  unfold gated
  rw [Ideal.mul_one_div (one_add_exp _), zero_sub]

/-- The convolved and gated row. -/
def act (P : Fin 33792 → Fin 4128 → EReal) (C : Fin 3 → Fin 3072 → EReal) (n : Fin 33792) (j : Fin 3072) : EReal :=
  gated (prev P n ⟨j.val, by omega⟩ * C 0 j + P n ⟨j.val, by omega⟩ * C 1 j + next P n ⟨j.val, by omega⟩ * C 2 j)

/-- A lane of a head over the head's norm. -/
def unit (t : Fin 128 → EReal) (l : Fin 128) : EReal := t l * Ideal.rsqrt (∑ x, t x * t x + Ideal.ofBits .f32 0x358637BD#32)

/-- The queries. -/
def oQ (P : Fin 33792 → Fin 4128 → EReal) (C : Fin 3 → Fin 3072 → EReal) (n : Fin 33792) (e : Fin 1024) : EReal :=
  unit (fun l => act P C n ⟨e.val / 128 * 128 + l.val, by omega⟩) ⟨e.val % 128, by omega⟩ * Ideal.ofBits .f32 0x3DB504F3#32

/-- The keys. -/
def oK (P : Fin 33792 → Fin 4128 → EReal) (C : Fin 3 → Fin 3072 → EReal) (n : Fin 33792) (e : Fin 1024) : EReal :=
  unit (fun l => act P C n ⟨1024 + (e.val / 128 * 128 + l.val), by omega⟩) ⟨e.val % 128, by omega⟩

/-- The values. -/
def oV (P : Fin 33792 → Fin 4128 → EReal) (C : Fin 3 → Fin 3072 → EReal) (n : Fin 33792) (e : Fin 1024) : EReal :=
  act P C n ⟨2048 + e.val, by omega⟩

/-- The output gates. -/
def oZ (P : Fin 33792 → Fin 4128 → EReal) (n : Fin 33792) (e : Fin 1024) : EReal := P n ⟨3072 + e.val, by omega⟩

/-- A decay: minus the rate times the softplus. -/
def decay (a z : EReal) : EReal := -Ideal.exp a * (max z 0 + Ideal.log (1 + Ideal.exp (-(max z (-z)))))

/-- A write strength: the logistic. -/
def strength (z : EReal) : EReal := Ideal.div (Ideal.ofBits .f32 0x3F800000#32) (Ideal.ofBits .f32 0x3F800000#32 + Ideal.exp (-z))

/-- The decays of both directions, the write strengths, and zeros. -/
def oG (P : Fin 33792 → Fin 4128 → EReal) (AF AB DF DB : Fin 8 → EReal) (n : Fin 33792) (e : Fin 128) : EReal :=
  if h : e.val < 8 then decay (AF ⟨e.val, h⟩) (P n ⟨4096 + e.val, by omega⟩ + DF ⟨e.val, h⟩)
  else if h' : e.val < 16 then decay (AB ⟨e.val - 8, by omega⟩) (P n ⟨4096 + e.val, by omega⟩ + DB ⟨e.val - 8, by omega⟩)
  else if h'' : e.val < 32 then strength (P n ⟨4096 + e.val, by omega⟩)
  else 0

end Cert.OddRows

end
-- ==== Proof.OddConv.lean ====
/-
  The odd projection's block arithmetic: a column of the block's product, its neighbours, and the convolution.
-/
module

public import proofs.«01_k».proof.Proof.Gen.OddIdeal.Frame
public import proofs.«01_k».proof.Proof.OddSpec
public import Idealize.ShloMosaic.Lib.Pipeline.ValueKit

@[expose] public section

set_option maxRecDepth 16384

noncomputable section

namespace Cert.OddIdeal.Row

open Cert.OddIdeal Cert.OddIdeal.Gen Cert.Rows Cert.OddRows
open Idealize.ShloMosaic Idealize.ShloMosaic.TcCoe Idealize.SL.Sem

/-- A load from a whole buffer, an entry. -/
theorem load_at {p q u v : Nat} {et : EltTy} {g : Memref sig .tc .vmem ⟨2, ![p, q]⟩ et} (h : g.IsWhole) (X : Vec Ideal ⟨2, ![p, q]⟩ et) (o0 o1 : Nat)
    (hb : ∀ k, (![o0, o1] : Fin 2 → Nat) k + (![u, v] : Fin 2 → Nat) k ≤ (⟨2, ![p, q]⟩ : Shape).size k) (a : Fin u) (b : Fin v) :
    View.readAt (Elt Ideal) g.view (Rect.unit (s := ⟨2, ![p, q]⟩) ![o0, o1] ![u, v] hb).toLoadRect (h.unread X) (ix2 a b)
      = X (ix2 ⟨o0 + a.val, Nat.lt_of_lt_of_le (Nat.add_lt_add_left a.isLt o0) (hb 0)⟩ ⟨o1 + b.val, Nat.lt_of_lt_of_le (Nat.add_lt_add_left b.isLt o1) (hb 1)⟩) := by
  refine (congrFun (Memref.IsWhole.read_unread h X) _).trans (congrArg X (funext fun k => Fin.ext ?_))
  match k with
  | ⟨0, _⟩ => show o0 + 1 * a.val = o0 + a.val; omega
  | ⟨1, _⟩ => show o1 + 1 * b.val = o1 + b.val; omega

/-- A column of the block's product with the weights. -/
def bcol (H : FVec Ideal S528x1024 .bf16) (w : Vec Ideal S1024x4224 .bf16) (a : Fin 528) (k : Fin 4224) : EReal :=
  ∑ d : Fin 1024, H (ix2 a d) * w (ix2 d k)

/-- The row before, as the block has it. -/
def bprev (H : FVec Ideal S528x1024 .bf16) (w : Vec Ideal S1024x4224 .bf16) (g : BitVec 32) (kp : EReal) (r : Fin 512) (k : Fin 4224) : EReal :=
  Scalar.select (IntOp.andi (Scalar.cmpi .sge g 64#32) (IntOp.cmpi .eq (IntOp.andi (BitVec.ofNat 32 r.val) 255#32) 0#32)) 0
    (Scalar.select (IntOp.cmpi .eq (BitVec.ofNat 32 r.val) 0#32) (bcol H w 519 k * kp) (bcol H w ⟨(r.val + 512 - 1) % 512, by omega⟩ k))

/-- The row after, as the block has it. -/
def bnext (H : FVec Ideal S528x1024 .bf16) (w : Vec Ideal S1024x4224 .bf16) (g : BitVec 32) (kn : EReal) (r : Fin 512) (k : Fin 4224) : EReal :=
  Scalar.select (IntOp.andi (Scalar.cmpi .sge g 64#32) (IntOp.cmpi .eq (IntOp.andi (BitVec.ofNat 32 r.val) 255#32) 255#32)) 0
    (Scalar.select (IntOp.cmpi .eq (BitVec.ofNat 32 r.val) 511#32) (bcol H w 520 k * kn) (bcol H w ⟨(r.val + 512 - 511) % 512, by omega⟩ k))

/-- The convolution before its gate. -/
def bconv (H : FVec Ideal S528x1024 .bf16) (w : Vec Ideal S1024x4224 .bf16) (cw : Vec Ideal S3x3072 .f32) (g : BitVec 32) (kp kn : EReal) (r : Fin 512) (k : Fin 3072) : EReal :=
  bprev H w g kp r ⟨k.val, by omega⟩ * cw (ix2 0 k) + bcol H w ⟨r.val, by omega⟩ ⟨k.val, by omega⟩ * cw (ix2 1 k) + bnext H w g kn r ⟨k.val, by omega⟩ * cw (ix2 2 k)

/-- The convolution, gated. -/
def bact (H : FVec Ideal S528x1024 .bf16) (w : Vec Ideal S1024x4224 .bf16) (cw : Vec Ideal S3x3072 .f32) (g : BitVec 32) (kp kn : EReal) (r : Fin 512) (k : Fin 3072) : EReal :=
  Ideal.div (bconv H w cw g kp kn r k) (1 + Ideal.exp (0 - bconv H w cw g kp kn r k))

end Cert.OddIdeal.Row

end
-- ==== Proof.OddHall.lean ====
/-
  The odd projection's block arithmetic: the normed rows with their halo, and the flags.
-/
module

public import proofs.«01_k».proof.Proof.Gen.OddIdeal.Frame
public import proofs.«01_k».proof.Proof.OddSpec
public import proofs.«01_k».proof.Proof.OddConv
public import proofs.«01_k».proof.Proof.Rows
public import Idealize.ShloMosaic.Lib.Pipeline.ValueKit

@[expose] public section

set_option maxRecDepth 16384

noncomputable section

namespace Cert.OddIdeal.Row

open Cert.OddIdeal Cert.OddIdeal.Gen Cert.Rows Cert.OddRows
open Idealize.ShloMosaic Idealize.ShloMosaic.TcCoe Idealize.SL.Sem

/-- A load of a whole block, an entry. -/
theorem load3_at {q : Nat} {et : EltTy} {g : Memref sig .tc .vmem ⟨3, ![1, 1, q]⟩ et} (h : g.IsWhole) (X : Vec Ideal ⟨3, ![1, 1, q]⟩ et)
    (hb : ∀ k, (![0, 0, 0] : Fin 3 → Nat) k + (![1, 1, q] : Fin 3 → Nat) k ≤ (⟨3, ![1, 1, q]⟩ : Shape).size k) (b : Fin q) :
    View.readAt (Elt Ideal) g.view (Rect.unit (s := ⟨3, ![1, 1, q]⟩) ![0, 0, 0] ![1, 1, q] hb).toLoadRect (h.unread X) (ix3 0 0 b) = X (ix3 0 0 b) := by
  refine (congrFun (Memref.IsWhole.read_unread h X) _).trans (congrArg X (funext fun k => Fin.ext ?_))
  match k with
  | ⟨0, _⟩ => rfl
  | ⟨1, _⟩ => rfl
  | ⟨2, _⟩ => show 0 + 1 * b.val = b.val; omega

variable (c : Dev nD) (i : grid0.Coords) (arg3 : Memref sig .tc .vmem S512x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x4224 .bf16) (harg9 : arg9.IsWhole) (arg10 : Memref sig .tc .vmem S3x3072 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x128 .f32) (harg17 : arg17.IsWhole) (x0 : Vec Ideal S512x1024 .f32) (x1 : Vec Ideal S8x1024 .f32) (x2 : Vec Ideal S8x1024 .f32) (x3 : Vec Ideal S1x1024 .f32) (x4 : Vec Ideal S1x1x1024 .f32) (x5 : Vec Ideal S1x1x1024 .f32) (x6 : Vec Ideal S1024x4224 .bf16) (x7 : Vec Ideal S3x3072 .f32) (x8 : Vec Ideal S1x128 .f32) (x9 : Vec Ideal S1x128 .f32) (xt0 : TbBuf0 (F := Ideal) c tbM0_0) (xt1 : TbBuf0 (F := Ideal) c tbM0_1)

/-- The row of the block and its halo. -/
def brow (x0 : Vec Ideal S512x1024 .f32) (x1 x2 : Vec Ideal S8x1024 .f32) (a : Fin 528) (d : Fin 1024) : EReal :=
  if h : a.val < 512 then x0 (ix2 ⟨a.val, h⟩ d) else if h' : a.val - 512 < 8 then x1 (ix2 ⟨a.val - 512, h'⟩ d) else x2 (ix2 ⟨a.val - 512 - 8, by omega⟩ d)

/-- The normed and modulated block with its halo, an entry. -/
theorem hall_at (a : Fin 528) (d : Fin 1024) : kernelRun0_A.sl.r_2 c arg3 harg3 arg4 harg4 arg5 harg5 arg6 harg6 arg7 harg7 arg8 harg8 x0 x1 x2 x3 x4 x5 (ix2 a d)
    = modulated (brow x0 x1 x2 a) (fun e => x3 (ix2 0 e)) (fun e => x4 (ix3 0 0 e)) (fun e => x5 (ix3 0 0 e)) d := by
  unfold kernelRun0_A.sl.r_2 k0_pay2 modulated brow
  pointwise <;> simp only [load_at, load3_at, ← Nat.add_assoc, Nat.reduceAdd, Nat.zero_add, Nat.add_zero] <;> rfl

/-- The block without its halo. -/
theorem hb_at (a : Fin 512) (d : Fin 1024) : kernelRun0_A.sl.r_3 c arg3 harg3 arg4 harg4 arg5 harg5 arg6 harg6 arg7 harg7 arg8 harg8 x0 x1 x2 x3 x4 x5 (ix2 a d) = kernelRun0_A.sl.r_2 c arg3 harg3 arg4 harg4 arg5 harg5 arg6 harg6 arg7 harg7 arg8 harg8 x0 x1 x2 x3 x4 x5 (ix2 ⟨a.val, by omega⟩ d) := by
  unfold kernelRun0_A.sl.r_3 kernelRun0_A.sl.r_2 k0_pay3
  pointwise

end Cert.OddIdeal.Row

end
-- ==== Proof.OddQ.lean ====
/-
  The block's queries at an entry.
-/
module

public import proofs.«01_k».proof.Proof.Gen.OddIdeal.Frame
public import proofs.«01_k».proof.Proof.OddSpec
public import proofs.«01_k».proof.Proof.OddConv
public import Idealize.ShloMosaic.Lib.Pipeline.ValueKit

@[expose] public section

set_option maxRecDepth 16384

noncomputable section

namespace Cert.OddIdeal.Row

open Cert.OddIdeal Cert.OddIdeal.Gen Cert.Rows Cert.OddRows
open Idealize.ShloMosaic Idealize.ShloMosaic.TcCoe Idealize.SL.Sem

variable (c : Dev nD) (i : grid0.Coords) (arg3 : Memref sig .tc .vmem S512x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x4224 .bf16) (harg9 : arg9.IsWhole) (arg10 : Memref sig .tc .vmem S3x3072 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x128 .f32) (harg17 : arg17.IsWhole) (x0 : Vec Ideal S512x1024 .f32) (x1 : Vec Ideal S8x1024 .f32) (x2 : Vec Ideal S8x1024 .f32) (x3 : Vec Ideal S1x1024 .f32) (x4 : Vec Ideal S1x1x1024 .f32) (x5 : Vec Ideal S1x1x1024 .f32) (x6 : Vec Ideal S1024x4224 .bf16) (x7 : Vec Ideal S3x3072 .f32) (x8 : Vec Ideal S1x128 .f32) (x9 : Vec Ideal S1x128 .f32) (xt0 : TbBuf0 (F := Ideal) c tbM0_0) (xt1 : TbBuf0 (F := Ideal) c tbM0_1)

set_option maxHeartbeats 8000000 in
/-- The block's queries at an entry. -/
theorem out10_at (y : S512x1024.Idx) (r : Fin 512) (e : Fin 1024) (h0 : (y 0).val = r.val) (h1 : (y 1).val = e.val) :
    out0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0 xt1 y = unit (fun l => bact (kernelRun0_A.sl.r_2 c arg3 harg3 arg4 harg4 arg5 harg5 arg6 harg6 arg7 harg7 arg8 harg8 x0 x1 x2 x3 x4 x5) x6 x7 (BitVec.ofNat 32 (i 0).val) (kernelRun0_A.sl.r_4 c i xt0) (kernelRun0_A.sl.r_5 c i xt1) r ⟨e.val / 128 * 128 + l.val, by omega⟩) ⟨e.val % 128, by omega⟩ * Ideal.ofBits .f32 0x3DB504F3#32 := by
  unfold out0_A_10 kernelRun0_A
  dsimp only
  rw [View.read_writes_junk_eq_canon]
  canon_tiles x hx
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 896 + l.val := h1.symm.trans hx1
    have e1 : e.val / 128 * 128 = 896 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 768 + l.val := h1.symm.trans hx1
    have e1 : e.val / 128 * 128 = 768 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 640 + l.val := h1.symm.trans hx1
    have e1 : e.val / 128 * 128 = 640 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 512 + l.val := h1.symm.trans hx1
    have e1 : e.val / 128 * 128 = 512 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 384 + l.val := h1.symm.trans hx1
    have e1 : e.val / 128 * 128 = 384 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 256 + l.val := h1.symm.trans hx1
    have e1 : e.val / 128 * 128 = 256 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 128 + l.val := h1.symm.trans hx1
    have e1 : e.val / 128 * 128 = 128 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 0 + l.val := h1.symm.trans (hx1.trans (Nat.zero_add _).symm)
    have e1 : e.val / 128 * 128 = 0 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]

end Cert.OddIdeal.Row

end
-- ==== Proof.OddK.lean ====
/-
  The block's keys at an entry.
-/
module

public import proofs.«01_k».proof.Proof.Gen.OddIdeal.Frame
public import proofs.«01_k».proof.Proof.OddSpec
public import proofs.«01_k».proof.Proof.OddConv
public import Idealize.ShloMosaic.Lib.Pipeline.ValueKit

@[expose] public section

set_option maxRecDepth 16384

noncomputable section

namespace Cert.OddIdeal.Row

open Cert.OddIdeal Cert.OddIdeal.Gen Cert.Rows Cert.OddRows
open Idealize.ShloMosaic Idealize.ShloMosaic.TcCoe Idealize.SL.Sem

variable (c : Dev nD) (i : grid0.Coords) (arg3 : Memref sig .tc .vmem S512x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x4224 .bf16) (harg9 : arg9.IsWhole) (arg10 : Memref sig .tc .vmem S3x3072 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x128 .f32) (harg17 : arg17.IsWhole) (x0 : Vec Ideal S512x1024 .f32) (x1 : Vec Ideal S8x1024 .f32) (x2 : Vec Ideal S8x1024 .f32) (x3 : Vec Ideal S1x1024 .f32) (x4 : Vec Ideal S1x1x1024 .f32) (x5 : Vec Ideal S1x1x1024 .f32) (x6 : Vec Ideal S1024x4224 .bf16) (x7 : Vec Ideal S3x3072 .f32) (x8 : Vec Ideal S1x128 .f32) (x9 : Vec Ideal S1x128 .f32) (xt0 : TbBuf0 (F := Ideal) c tbM0_0) (xt1 : TbBuf0 (F := Ideal) c tbM0_1)

set_option maxHeartbeats 8000000 in
/-- The block's keys at an entry. -/
theorem out11_at (y : S512x1024.Idx) (r : Fin 512) (e : Fin 1024) (h0 : (y 0).val = r.val) (h1 : (y 1).val = e.val) :
    out0_A_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0 xt1 y = unit (fun l => bact (kernelRun0_A.sl.r_2 c arg3 harg3 arg4 harg4 arg5 harg5 arg6 harg6 arg7 harg7 arg8 harg8 x0 x1 x2 x3 x4 x5) x6 x7 (BitVec.ofNat 32 (i 0).val) (kernelRun0_A.sl.r_4 c i xt0) (kernelRun0_A.sl.r_5 c i xt1) r ⟨1024 + (e.val / 128 * 128 + l.val), by omega⟩) ⟨e.val % 128, by omega⟩ := by
  unfold out0_A_11 kernelRun0_A
  dsimp only
  rw [View.read_writes_junk_eq_canon]
  canon_tiles x hx
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 896 + l.val := h1.symm.trans hx1
    have e1 : e.val / 128 * 128 = 896 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 768 + l.val := h1.symm.trans hx1
    have e1 : e.val / 128 * 128 = 768 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 640 + l.val := h1.symm.trans hx1
    have e1 : e.val / 128 * 128 = 640 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 512 + l.val := h1.symm.trans hx1
    have e1 : e.val / 128 * 128 = 512 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 384 + l.val := h1.symm.trans hx1
    have e1 : e.val / 128 * 128 = 384 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 256 + l.val := h1.symm.trans hx1
    have e1 : e.val / 128 * 128 = 256 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 128 + l.val := h1.symm.trans hx1
    have e1 : e.val / 128 * 128 = 128 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 0 + l.val := h1.symm.trans (hx1.trans (Nat.zero_add _).symm)
    have e1 : e.val / 128 * 128 = 0 := by omega
    have e2 : e.val % 128 = l.val := by omega
    simp only [e1, e2]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold unit bact bconv bprev bnext bcol
    pointwise <;> simp only [load_at, ← Nat.add_assoc, Nat.reduceAdd, Nat.zero_add, Nat.add_zero]

end Cert.OddIdeal.Row

end
-- ==== Proof.OddV.lean ====
/-
  The block's values at an entry.
-/
module

public import proofs.«01_k».proof.Proof.Gen.OddIdeal.Frame
public import proofs.«01_k».proof.Proof.OddSpec
public import proofs.«01_k».proof.Proof.OddConv
public import Idealize.ShloMosaic.Lib.Pipeline.ValueKit

@[expose] public section

set_option maxRecDepth 16384

noncomputable section

namespace Cert.OddIdeal.Row

open Cert.OddIdeal Cert.OddIdeal.Gen Cert.Rows Cert.OddRows
open Idealize.ShloMosaic Idealize.ShloMosaic.TcCoe Idealize.SL.Sem

variable (c : Dev nD) (i : grid0.Coords) (arg3 : Memref sig .tc .vmem S512x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x4224 .bf16) (harg9 : arg9.IsWhole) (arg10 : Memref sig .tc .vmem S3x3072 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x128 .f32) (harg17 : arg17.IsWhole) (x0 : Vec Ideal S512x1024 .f32) (x1 : Vec Ideal S8x1024 .f32) (x2 : Vec Ideal S8x1024 .f32) (x3 : Vec Ideal S1x1024 .f32) (x4 : Vec Ideal S1x1x1024 .f32) (x5 : Vec Ideal S1x1x1024 .f32) (x6 : Vec Ideal S1024x4224 .bf16) (x7 : Vec Ideal S3x3072 .f32) (x8 : Vec Ideal S1x128 .f32) (x9 : Vec Ideal S1x128 .f32) (xt0 : TbBuf0 (F := Ideal) c tbM0_0) (xt1 : TbBuf0 (F := Ideal) c tbM0_1)

set_option maxHeartbeats 8000000 in
/-- The block's values at an entry. -/
theorem out12_at (y : S512x1024.Idx) (r : Fin 512) (e : Fin 1024) (h0 : (y 0).val = r.val) (h1 : (y 1).val = e.val) :
    out0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0 xt1 y = bact (kernelRun0_A.sl.r_2 c arg3 harg3 arg4 harg4 arg5 harg5 arg6 harg6 arg7 harg7 arg8 harg8 x0 x1 x2 x3 x4 x5) x6 x7 (BitVec.ofNat 32 (i 0).val) (kernelRun0_A.sl.r_4 c i xt0) (kernelRun0_A.sl.r_5 c i xt1) r ⟨2048 + e.val, by omega⟩ := by
  unfold out0_A_12 kernelRun0_A
  dsimp only
  rw [View.read_writes_junk_eq_canon]
  canon_tiles x hx
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 896 + l.val := h1.symm.trans hx1
    have e1 : e.val / 128 * 128 = 896 := by omega
    have e2 : e.val % 128 = l.val := by omega
    simp only [he]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 768 + l.val := h1.symm.trans hx1
    have e1 : e.val / 128 * 128 = 768 := by omega
    have e2 : e.val % 128 = l.val := by omega
    simp only [he]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 640 + l.val := h1.symm.trans hx1
    have e1 : e.val / 128 * 128 = 640 := by omega
    have e2 : e.val % 128 = l.val := by omega
    simp only [he]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 512 + l.val := h1.symm.trans hx1
    have e1 : e.val / 128 * 128 = 512 := by omega
    have e2 : e.val % 128 = l.val := by omega
    simp only [he]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 384 + l.val := h1.symm.trans hx1
    have e1 : e.val / 128 * 128 = 384 := by omega
    have e2 : e.val % 128 = l.val := by omega
    simp only [he]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 256 + l.val := h1.symm.trans hx1
    have e1 : e.val / 128 * 128 = 256 := by omega
    have e2 : e.val % 128 = l.val := by omega
    simp only [he]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 128 + l.val := h1.symm.trans hx1
    have e1 : e.val / 128 * 128 = 128 := by omega
    have e2 : e.val % 128 = l.val := by omega
    simp only [he]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold bact bconv bprev bnext bcol
    pointwise <;> simp only [load_at, ← Nat.add_assoc, Nat.reduceAdd, Nat.zero_add, Nat.add_zero]
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 0 + l.val := h1.symm.trans (hx1.trans (Nat.zero_add _).symm)
    have e1 : e.val / 128 * 128 = 0 := by omega
    have e2 : e.val % 128 = l.val := by omega
    simp only [he]
    simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38]
    generalize kernelRun0_A.sl.r_2 c arg3 harg3 arg4 harg4 arg5 harg5 arg6 harg6 arg7 harg7 arg8 harg8 x0 x1 x2 x3 x4 x5 = H
    generalize kernelRun0_A.sl.r_4 c i xt0 = kp
    generalize kernelRun0_A.sl.r_5 c i xt1 = kn
    simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148]
    unfold bact bconv bprev bnext bcol
    pointwise <;> simp only [load_at, ← Nat.add_assoc, Nat.reduceAdd, Nat.zero_add, Nat.add_zero]

end Cert.OddIdeal.Row

end
-- ==== Proof.OddGate.lean ====
/-
  The odd projection's block arithmetic: the output gates, and the decays and write strengths.
-/
module

public import proofs.«01_k».proof.Proof.Gen.OddIdeal.Frame
public import proofs.«01_k».proof.Proof.OddSpec
public import proofs.«01_k».proof.Proof.OddConv
public import Idealize.ShloMosaic.Lib.Pipeline.ValueKit

@[expose] public section

set_option maxRecDepth 16384

noncomputable section

namespace Cert.OddIdeal.Row

open Cert.OddIdeal Cert.OddIdeal.Gen Cert.Rows Cert.OddRows
open Idealize.ShloMosaic Idealize.ShloMosaic.TcCoe Idealize.SL.Sem

/-- A column of the block's product with the weights, the halo left out. -/
def hcol (H : FVec Ideal S512x1024 .bf16) (w : Vec Ideal S1024x4224 .bf16) (a : Fin 512) (k : Fin 4224) : EReal :=
  ∑ d : Fin 1024, H (ix2 a d) * w (ix2 d k)

/-- A lane of the block's gates. -/
def bgate (a α β : EReal) (e : Fin 128) : EReal :=
  Scalar.select (IntOp.cmpi .slt (BitVec.ofNat 32 e.val) 16#32)
    ((0 - Ideal.exp α) * (max (a + β) 0 + Ideal.log (1 + Ideal.exp (0 - max (a + β) (-(a + β))))))
    (Scalar.select (IntOp.cmpi .slt (BitVec.ofNat 32 e.val) 32#32) (Ideal.div 1 (1 + Ideal.exp (0 - a))) 0)

variable (c : Dev nD) (i : grid0.Coords) (arg3 : Memref sig .tc .vmem S512x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x4224 .bf16) (harg9 : arg9.IsWhole) (arg10 : Memref sig .tc .vmem S3x3072 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x128 .f32) (harg17 : arg17.IsWhole) (x0 : Vec Ideal S512x1024 .f32) (x1 : Vec Ideal S8x1024 .f32) (x2 : Vec Ideal S8x1024 .f32) (x3 : Vec Ideal S1x1024 .f32) (x4 : Vec Ideal S1x1x1024 .f32) (x5 : Vec Ideal S1x1x1024 .f32) (x6 : Vec Ideal S1024x4224 .bf16) (x7 : Vec Ideal S3x3072 .f32) (x8 : Vec Ideal S1x128 .f32) (x9 : Vec Ideal S1x128 .f32) (xt0 : TbBuf0 (F := Ideal) c tbM0_0) (xt1 : TbBuf0 (F := Ideal) c tbM0_1)

set_option maxHeartbeats 8000000 in
/-- The block's output gates at an entry. -/
theorem out13_at (y : S512x1024.Idx) (r : Fin 512) (e : Fin 1024) (h0 : (y 0).val = r.val) (h1 : (y 1).val = e.val) :
    out0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0 xt1 y = hcol (kernelRun0_A.sl.r_3 c arg3 harg3 arg4 harg4 arg5 harg5 arg6 harg6 arg7 harg7 arg8 harg8 x0 x1 x2 x3 x4 x5) x6 r ⟨3072 + e.val, by omega⟩ := by
  unfold out0_A_13 kernelRun0_A
  dsimp only
  rw [View.read_writes_junk_eq_canon]
  generalize kernelRun0_A.sl.r_3 c arg3 harg3 arg4 harg4 arg5 harg5 arg6 harg6 arg7 harg7 arg8 harg8 x0 x1 x2 x3 x4 x5 = H
  canon_tiles x hx
  · obtain ⟨a, l, rfl⟩ : ∃ (a : Fin 512) (l : Fin 512), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 512 + l.val := h1.symm.trans hx1
    simp only [he]
    unfold k0_pay146 hcol
    pointwise <;> simp only [load_at, ← Nat.add_assoc, Nat.reduceAdd, Nat.zero_add, Nat.add_zero]
  · obtain ⟨a, l, rfl⟩ : ∃ (a : Fin 512) (l : Fin 512), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    have he : e.val = 0 + l.val := h1.symm.trans (hx1.trans (Nat.zero_add _).symm)
    simp only [he]
    unfold k0_pay145 hcol
    pointwise <;> simp only [load_at, ← Nat.add_assoc, Nat.reduceAdd, Nat.zero_add, Nat.add_zero]

set_option maxHeartbeats 8000000 in
/-- The block's decays and write strengths at an entry. -/
theorem out14_at (y : S512x128.Idx) (r : Fin 512) (e : Fin 128) (h0 : (y 0).val = r.val) (h1 : (y 1).val = e.val) :
    out0_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0 xt1 y = bgate (hcol (kernelRun0_A.sl.r_3 c arg3 harg3 arg4 harg4 arg5 harg5 arg6 harg6 arg7 harg7 arg8 harg8 x0 x1 x2 x3 x4 x5) x6 r ⟨4096 + e.val, by omega⟩) (x8 (ix2 0 e)) (x9 (ix2 0 e)) e := by
  unfold out0_A_14 kernelRun0_A
  dsimp only
  rw [View.read_writes_junk_eq_canon]
  simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.v38, kernelRun0_A.sl.v1207, kernelRun0_A.sl.cst_330]
  generalize kernelRun0_A.sl.r_3 c arg3 harg3 arg4 harg4 arg5 harg5 arg6 harg6 arg7 harg7 arg8 harg8 x0 x1 x2 x3 x4 x5 = H
  canon_tiles x hx
  · obtain ⟨a, l, rfl⟩ : ∃ (a : Fin 512) (l : Fin 128), x = ix2 a l :=
      ⟨⟨(x 0).val, (x 0).isLt⟩, ⟨(x 1).val, (x 1).isLt⟩, funext fun a => match a with | ⟨0, _⟩ => rfl | ⟨1, _⟩ => rfl⟩
    obtain rfl : r = a := Fin.ext (h0.symm.trans hx0)
    obtain rfl : e = l := Fin.ext (h1.symm.trans hx1)
    unfold k0_pay1 k0_pay148 k0_pay147 hcol bgate
    pointwise <;> simp only [load_at, ← Nat.add_assoc, Nat.reduceAdd, Nat.zero_add, Nat.add_zero]
    rfl

end Cert.OddIdeal.Row

end
-- ==== Proof.OddTab.lean ====
/-
  The odd projection's launch: the flags' tables, the arrays its host code lays out, and the windows' blocks.
-/
module

public import proofs.«01_k».proof.Proof.OddHall
public import proofs.«01_k».proof.Proof.OddQ
public import proofs.«01_k».proof.Proof.OddK
public import proofs.«01_k».proof.Proof.OddV
public import proofs.«01_k».proof.Proof.OddGate
public import Idealize.ShloMosaic.Lib.StableHlo.ReadAt

@[expose] public section

set_option maxRecDepth 16384

noncomputable section

namespace Cert.OddIdeal.Row

open Cert.OddIdeal Cert.OddIdeal.Gen Cert.Rows Cert.OddRows
open Idealize.ShloMosaic Idealize.ShloMosaic.TcCoe Idealize.SL.Sem

/-- The first table's word at a point. -/
theorem word0 : ∀ t : Fin grid0.N, (View.readAt (Elt Ideal) tbM0_0.view (Rect.unit (s := S66) (k0_off1 (grid0.coords t)) S1.size (k0_off1_inb (grid0.coords t))).toLoadRect
    (fun i => lit0 (S66.rowMajor i)) (Shape.Idx.first Nat.one_pos) : BitVec 32) = if t.val % 16 = 0 ∨ 64 ≤ t.val then 1#32 else 0#32 := by
  decide +kernel

/-- The second table's word at a point. -/
theorem word1 : ∀ t : Fin grid0.N, (View.readAt (Elt Ideal) tbM0_1.view (Rect.unit (s := S66) (k0_off1 (grid0.coords t)) S1.size (k0_off1_inb (grid0.coords t))).toLoadRect
    (fun i => lit1 (S66.rowMajor i)) (Shape.Idx.first Nat.one_pos) : BitVec 32) = if t.val % 16 = 15 ∨ 64 ≤ t.val then 1#32 else 0#32 := by
  decide +kernel

variable (m : (ℓ : Loc nD τ sig) → Buf (Elt Ideal) ℓ)

/-- The zero word is zero. -/
theorem zero_word : Ideal.ofBits .f32 0#32 = 0 := by
  rw [← show ((constant (F := Ideal) S_ FTy.f32 0#32) Idealize.ShloMosaic.ix0 : EReal) = Ideal.ofBits .f32 0#32 from rfl]
  pointwise

/-- The first table. -/
theorem V_first (c : Dev nD) : V m c main_c = fun i => lit0 (S66.rowMajor i) := by
  funext i
  obtain ⟨n, rfl⟩ : ∃ n : Fin 66, i = ix1 n := ⟨⟨(i 0).val, (i 0).isLt⟩, funext fun a => match a with | ⟨0, _⟩ => rfl⟩
  unfold V
  after_reads_at

/-- The second table. -/
theorem V_last (c : Dev nD) : V m c main_c_0 = fun i => lit1 (S66.rowMajor i) := by
  funext i
  obtain ⟨n, rfl⟩ : ∃ n : Fin 66, i = ix1 n := ⟨⟨(i 0).val, (i 0).isLt⟩, funext fun a => match a with | ⟨0, _⟩ => rfl⟩
  unfold V
  after_reads_at

/-- The shifts enter the launch as they stand in the argument. -/
theorem V_shift (c : Dev nD) (b : Fin 8) (d : Fin 1024) : V m c main_v0 (ix3 b 0 d) = m ((c : Thread nD τ).loc main_arg2) (ix2 b d) := by
  unfold V
  after_reads_at

/-- The scales enter the launch as they stand in the argument. -/
theorem V_scale (c : Dev nD) (b : Fin 8) (d : Fin 1024) : V m c main_v1 (ix3 b 0 d) = m ((c : Thread nD τ).loc main_arg3) (ix2 b d) := by
  unfold V
  after_reads_at

/-- The weights enter the launch as they stand in the argument. -/
theorem V_w (c : Dev nD) (b : Fin 1024) (d : Fin 4128) : V m c main_v3 (ix2 b ⟨d.val, by omega⟩) = m ((c : Thread nD τ).loc main_arg4) (ix2 b d) := by
  unfold V
  after_reads_at

/-- The rows' gain. -/
theorem V_g (c : Dev nD) (d : Fin 1024) : V m c main_v9 (ix2 0 d) = m ((c : Thread nD τ).loc main_arg1) (ix1 d) := by
  unfold V
  after_reads_at

/-- The decay rates of both directions. -/
theorem V_a (c : Dev nD) (e : Fin 128) : V m c main_v6 (ix2 0 e) = (if h : e.val < 8 then m ((c : Thread nD τ).loc main_arg6) (ix1 ⟨e.val, h⟩)
    else if h' : e.val - 8 < 8 then m ((c : Thread nD τ).loc main_arg7) (ix1 ⟨e.val - 8, h'⟩) else 0 : EReal) := by
  unfold V
  after_reads_at
  by_cases h : e.val < 8
  · rw [dif_pos h, dif_pos h]
    after_reads_simp
  · rw [dif_neg h, dif_neg h]
    by_cases h' : e.val - 8 < 8
    · rw [dif_pos h', dif_pos h']
      after_reads_simp
    · rw [dif_neg h', dif_neg h']
      after_reads_at

/-- The decay biases of both directions. -/
theorem V_b (c : Dev nD) (e : Fin 128) : V m c main_v8 (ix2 0 e) = (if h : e.val < 8 then m ((c : Thread nD τ).loc main_arg8) (ix1 ⟨e.val, h⟩)
    else if h' : e.val - 8 < 8 then m ((c : Thread nD τ).loc main_arg9) (ix1 ⟨e.val - 8, h'⟩) else 0 : EReal) := by
  unfold V
  after_reads_at
  by_cases h : e.val < 8
  · rw [dif_pos h, dif_pos h]
    after_reads_simp
  · rw [dif_neg h, dif_neg h]
    by_cases h' : e.val - 8 < 8
    · rw [dif_pos h', dif_pos h']
      after_reads_simp
    · rw [dif_neg h', dif_neg h']
      after_reads_at

/-- The windows' block indices at a point. -/
theorem idx (hO : Ok m) (t : Fin (cfgM m hO).N) : ((cfgM m hO).win 0).index t = ![t.val, 0] ∧ ((cfgM m hO).win 1).index t = ![64 * t.val - 1, 0] ∧ ((cfgM m hO).win 2).index t = ![min (64 * (t.val + 1)) 4223, 0]
    ∧ ((cfgM m hO).win 3).index t = ![0, 0] ∧ ((cfgM m hO).win 4).index t = ![min (t.val / 16) 4, 0, 0] ∧ ((cfgM m hO).win 5).index t = ![min (t.val / 16) 4, 0, 0]
    ∧ ((cfgM m hO).win 6).index t = ![0, 0] ∧ ((cfgM m hO).win 7).index t = ![0, 0] ∧ ((cfgM m hO).win 8).index t = ![0, 0] ∧ ((cfgM m hO).win 9).index t = ![0, 0] :=
  (by decide +kernel : ∀ t : Fin grid0.N, cc0_transform_0 (grid0.coords t) = ![t.val, 0] ∧ cc0_transform_1 (grid0.coords t) = ![64 * t.val - 1, 0] ∧ cc0_transform_2 (grid0.coords t) = ![min (64 * (t.val + 1)) 4223, 0]
    ∧ cc0_transform_3 (grid0.coords t) = ![0, 0] ∧ cc0_transform_4 (grid0.coords t) = ![min (t.val / 16) 4, 0, 0] ∧ cc0_transform_5 (grid0.coords t) = ![min (t.val / 16) 4, 0, 0]
    ∧ cc0_transform_6 (grid0.coords t) = ![0, 0] ∧ cc0_transform_7 (grid0.coords t) = ![0, 0] ∧ cc0_transform_8 (grid0.coords t) = ![0, 0] ∧ cc0_transform_9 (grid0.coords t) = ![0, 0]) t

/-- What the row before a point's block is scaled with. -/
theorem keep_prev (hO : Ok m) (c : Dev nD) (t : Fin (cfgM m hO).N) :
    kernelRun0_A.sl.r_4 (F := Ideal) c (grid0.coords t) (tbl m 0) = (if t.val % 16 = 0 ∨ 64 ≤ t.val then 0 else 1 : EReal) := by
  rw [show tbl m 0 = fun i => lit0 (S66.rowMajor i) from V_first m 0]
  unfold kernelRun0_A.sl.r_4 k0_pay4 kernelRun0_A.sl.r
  dsimp only
  have e := word0 t
  refine (congrArg (fun w : BitVec 32 => (Scalar.subf (FloatOps.ofBits FTy.f32 1065353216#32) (Scalar.sitofp (F := Ideal) FTy.f32 w) : EReal)) e).trans ?_
  split
  · pointwise
    simp
    show ((1 : ℝ) : EReal) - ((1 : ℝ) : EReal) = 0
    rw [← EReal.coe_sub, sub_self, EReal.coe_zero]
  · pointwise
    simp

/-- What the row after a point's block is scaled with. -/
theorem keep_next (hO : Ok m) (c : Dev nD) (t : Fin (cfgM m hO).N) :
    kernelRun0_A.sl.r_5 (F := Ideal) c (grid0.coords t) (tbl m 1) = (if t.val % 16 = 15 ∨ 64 ≤ t.val then 0 else 1 : EReal) := by
  rw [show tbl m 1 = fun i => lit1 (S66.rowMajor i) from V_last m 0]
  unfold kernelRun0_A.sl.r_5 k0_pay5 kernelRun0_A.sl.r_1
  dsimp only
  have e := word1 t
  refine (congrArg (fun w : BitVec 32 => (Scalar.subf (FloatOps.ofBits FTy.f32 1065353216#32) (Scalar.sitofp (F := Ideal) FTy.f32 w) : EReal)) e).trans ?_
  split
  · pointwise
    simp
    show ((1 : ℝ) : EReal) - ((1 : ℝ) : EReal) = 0
    rw [← EReal.coe_sub, sub_self, EReal.coe_zero]
  · pointwise
    simp

/-- The result windows' block indices at a point. -/
theorem idxOut (hO : Ok m) (t : Fin (cfgM m hO).N) : ((cfgM m hO).win 10).index t = ![t.val, 0] ∧ ((cfgM m hO).win 11).index t = ![t.val, 0] ∧ ((cfgM m hO).win 12).index t = ![t.val, 0]
    ∧ ((cfgM m hO).win 13).index t = ![t.val, 0] ∧ ((cfgM m hO).win 14).index t = ![t.val, 0] :=
  (by decide +kernel : ∀ t : Fin grid0.N, cc0_transform_10 (grid0.coords t) = ![t.val, 0] ∧ cc0_transform_11 (grid0.coords t) = ![t.val, 0] ∧ cc0_transform_12 (grid0.coords t) = ![t.val, 0]
    ∧ cc0_transform_13 (grid0.coords t) = ![t.val, 0] ∧ cc0_transform_14 (grid0.coords t) = ![t.val, 0]) t

/-- The first coordinate of a point is the point. -/
theorem coord (t : Fin grid0.N) : (grid0.coords t 0).val = t.val :=
  (by decide +kernel : ∀ t : Fin grid0.N, (grid0.coords t 0).val = t.val) t

/-- There are 66 points. -/
theorem t_lt (hO : Ok m) (t : Fin (cfgM m hO).N) : t.val < 66 := lt_of_lt_of_eq t.isLt N_0

/-- A block of the rows, an entry. -/
theorem read_x (hO : Ok m) (t : Fin (cfgM m hO).N) (X : Vec Ideal S33792x1024 .f32) (r : Fin 512) (d : Fin 1024) :
    (((cfgM m hO).win 0).blk t).view.read (Elt Ideal) X (ix2 r d) = X (ix2 ⟨t.val * 512 + r.val, by have := t_lt m hO t; omega⟩ d) := by
  have := t_lt m hO t
  blk_ext [idx m hO t]

/-- The eight rows before a block, an entry. -/
theorem read_p (hO : Ok m) (t : Fin (cfgM m hO).N) (X : Vec Ideal S33792x1024 .f32) (r : Fin 8) (d : Fin 1024) :
    (((cfgM m hO).win 1).blk t).view.read (Elt Ideal) X (ix2 r d) = X (ix2 ⟨(64 * t.val - 1) * 8 + r.val, by have := t_lt m hO t; omega⟩ d) := by
  have := t_lt m hO t
  blk_ext [idx m hO t]

/-- The eight rows after a block, an entry. -/
theorem read_n (hO : Ok m) (t : Fin (cfgM m hO).N) (X : Vec Ideal S33792x1024 .f32) (r : Fin 8) (d : Fin 1024) :
    (((cfgM m hO).win 2).blk t).view.read (Elt Ideal) X (ix2 r d) = X (ix2 ⟨min (64 * (t.val + 1)) 4223 * 8 + r.val, by have := t_lt m hO t; omega⟩ d) := by
  have := t_lt m hO t
  blk_ext [idx m hO t]

/-- The gain's block, an entry. -/
theorem read_g (hO : Ok m) (t : Fin (cfgM m hO).N) (X : Vec Ideal S1x1024 .f32) (d : Fin 1024) : (((cfgM m hO).win 3).blk t).view.read (Elt Ideal) X (ix2 0 d) = X (ix2 0 d) := by
  have := t_lt m hO t
  blk_ext [idx m hO t]

/-- A block of the shifts, an entry. -/
theorem read_sh (hO : Ok m) (t : Fin (cfgM m hO).N) (X : Vec Ideal S8x1x1024 .f32) (d : Fin 1024) :
    (((cfgM m hO).win 4).blk t).view.read (Elt Ideal) X (ix3 0 0 d) = X (ix3 ⟨min (t.val / 16) 4, by omega⟩ 0 d) := by
  have := t_lt m hO t
  blk_ext [idx m hO t]

/-- A block of the scales, an entry. -/
theorem read_sc (hO : Ok m) (t : Fin (cfgM m hO).N) (X : Vec Ideal S8x1x1024 .f32) (d : Fin 1024) :
    (((cfgM m hO).win 5).blk t).view.read (Elt Ideal) X (ix3 0 0 d) = X (ix3 ⟨min (t.val / 16) 4, by omega⟩ 0 d) := by
  have := t_lt m hO t
  blk_ext [idx m hO t]

/-- The weights' block, an entry. -/
theorem read_w (hO : Ok m) (t : Fin (cfgM m hO).N) (X : Vec Ideal S1024x4224 .bf16) (d : Fin 1024) (k : Fin 4224) :
    (((cfgM m hO).win 6).blk t).view.read (Elt Ideal) X (ix2 d k) = X (ix2 d k) := by
  have := t_lt m hO t
  blk_ext [idx m hO t]

/-- The block of the convolution's weights, an entry. -/
theorem read_c (hO : Ok m) (t : Fin (cfgM m hO).N) (X : Vec Ideal S3x3072 .f32) (d : Fin 3) (k : Fin 3072) :
    (((cfgM m hO).win 7).blk t).view.read (Elt Ideal) X (ix2 d k) = X (ix2 d k) := by
  have := t_lt m hO t
  blk_ext [idx m hO t]

/-- The decay rates' block, an entry. -/
theorem read_a (hO : Ok m) (t : Fin (cfgM m hO).N) (X : Vec Ideal S1x128 .f32) (d : Fin 128) : (((cfgM m hO).win 8).blk t).view.read (Elt Ideal) X (ix2 0 d) = X (ix2 0 d) := by
  have := t_lt m hO t
  blk_ext [idx m hO t]

/-- The decay biases' block, an entry. -/
theorem read_b (hO : Ok m) (t : Fin (cfgM m hO).N) (X : Vec Ideal S1x128 .f32) (d : Fin 128) : (((cfgM m hO).win 9).blk t).view.read (Elt Ideal) X (ix2 0 d) = X (ix2 0 d) := by
  have := t_lt m hO t
  blk_ext [idx m hO t]

/-- Where a block of result 1 lies in the whole. -/
theorem read_o0 (hO : Ok m) (t : Fin (cfgM m hO).N) (X : Vec Ideal S33792x1024 .bf16) (y : S512x1024.Idx) :
    X ((((cfgM m hO).win 10).blk t).view.emb y) = X (ix2 ⟨t.val * 512 + (y 0).val, by have := t_lt m hO t; have : (y 0).val < 512 := (y 0).isLt; omega⟩ ⟨(y 1).val, (y 1).isLt⟩) := by
  have := t_lt m hO t
  blk_ext [idxOut m hO t]

/-- Where a block of result 2 lies in the whole. -/
theorem read_o1 (hO : Ok m) (t : Fin (cfgM m hO).N) (X : Vec Ideal S33792x1024 .bf16) (y : S512x1024.Idx) :
    X ((((cfgM m hO).win 11).blk t).view.emb y) = X (ix2 ⟨t.val * 512 + (y 0).val, by have := t_lt m hO t; have : (y 0).val < 512 := (y 0).isLt; omega⟩ ⟨(y 1).val, (y 1).isLt⟩) := by
  have := t_lt m hO t
  blk_ext [idxOut m hO t]

/-- Where a block of result 3 lies in the whole. -/
theorem read_o2 (hO : Ok m) (t : Fin (cfgM m hO).N) (X : Vec Ideal S33792x1024 .bf16) (y : S512x1024.Idx) :
    X ((((cfgM m hO).win 12).blk t).view.emb y) = X (ix2 ⟨t.val * 512 + (y 0).val, by have := t_lt m hO t; have : (y 0).val < 512 := (y 0).isLt; omega⟩ ⟨(y 1).val, (y 1).isLt⟩) := by
  have := t_lt m hO t
  blk_ext [idxOut m hO t]

/-- Where a block of result 4 lies in the whole. -/
theorem read_o3 (hO : Ok m) (t : Fin (cfgM m hO).N) (X : Vec Ideal S33792x1024 .bf16) (y : S512x1024.Idx) :
    X ((((cfgM m hO).win 13).blk t).view.emb y) = X (ix2 ⟨t.val * 512 + (y 0).val, by have := t_lt m hO t; have : (y 0).val < 512 := (y 0).isLt; omega⟩ ⟨(y 1).val, (y 1).isLt⟩) := by
  have := t_lt m hO t
  blk_ext [idxOut m hO t]

/-- Where a block of result 5 lies in the whole. -/
theorem read_o4 (hO : Ok m) (t : Fin (cfgM m hO).N) (X : Vec Ideal S33792x128 .f32) (y : S512x128.Idx) :
    X ((((cfgM m hO).win 14).blk t).view.emb y) = X (ix2 ⟨t.val * 512 + (y 0).val, by have := t_lt m hO t; have : (y 0).val < 512 := (y 0).isLt; omega⟩ ⟨(y 1).val, (y 1).isLt⟩) := by
  have := t_lt m hO t
  blk_ext [idxOut m hO t]

end Cert.OddIdeal.Row

end
-- ==== Proof.OddBlock.lean ====
/-
  The odd projection's blocks: what a point leaves is the projection convolved, normed and gated at its tokens.
-/
module

public import proofs.«01_k».proof.Proof.OddTab
public import Idealize.ShloMosaic.Lib.Pipeline.Covers

@[expose] public section

set_option maxRecDepth 16384

noncomputable section

namespace Cert.OddIdeal.Row

open Cert.OddIdeal Cert.OddIdeal.Gen Cert.Rows Cert.OddRows
open Idealize.ShloMosaic Idealize.ShloMosaic.TcCoe Idealize.SL.Sem

/-- Whether a point is among the context's. -/
theorem bit_ctx : ∀ t : Fin 66, Scalar.cmpi .sge (BitVec.ofNat 32 t.val) 64#32 = BitVec.ofBool (decide (64 ≤ t.val)) := by decide +kernel

/-- Whether a row opens a context sequence. -/
theorem bit_open : ∀ r : Fin 512, IntOp.cmpi .eq (IntOp.andi (BitVec.ofNat 32 r.val) 255#32) 0#32 = BitVec.ofBool (decide (r.val % 256 = 0)) := by decide +kernel

/-- Whether a row closes a context sequence. -/
theorem bit_close : ∀ r : Fin 512, IntOp.cmpi .eq (IntOp.andi (BitVec.ofNat 32 r.val) 255#32) 255#32 = BitVec.ofBool (decide (r.val % 256 = 255)) := by decide +kernel

/-- Whether a row is the block's first. -/
theorem bit_first : ∀ r : Fin 512, IntOp.cmpi .eq (BitVec.ofNat 32 r.val) 0#32 = BitVec.ofBool (decide (r.val = 0)) := by decide +kernel

/-- Whether a row is the block's last. -/
theorem bit_last : ∀ r : Fin 512, IntOp.cmpi .eq (BitVec.ofNat 32 r.val) 511#32 = BitVec.ofBool (decide (r.val = 511)) := by decide +kernel

/-- Whether a lane holds a decay. -/
theorem bit_decay : ∀ e : Fin 128, IntOp.cmpi .slt (BitVec.ofNat 32 e.val) 16#32 = BitVec.ofBool (decide (e.val < 16)) := by decide +kernel

/-- Whether a lane holds a decay or a write strength. -/
theorem bit_gate : ∀ e : Fin 128, IntOp.cmpi .slt (BitVec.ofNat 32 e.val) 32#32 = BitVec.ofBool (decide (e.val < 32)) := by decide +kernel

/-- A choice by a truth value. -/
theorem select_bool (p : Prop) [Decidable p] (a b : EReal) : Scalar.select (BitVec.ofBool (decide p)) a b = if p then a else b := by
  by_cases h : p <;> simp [h, Scalar.select]

/-- Both of two truth values. -/
theorem and_bool (p q : Prop) [Decidable p] [Decidable q] : IntOp.andi (BitVec.ofBool (decide p)) (BitVec.ofBool (decide q)) = BitVec.ofBool (decide (p ∧ q)) := by
  by_cases h : p <;> by_cases h' : q <;> simp [h, h', IntOp.andi]

/-- The row before, by cases. -/
theorem bprev_eq (H : FVec Ideal S528x1024 .bf16) (w : Vec Ideal S1024x4224 .bf16) (t : Fin 66) (kp : EReal) (r : Fin 512) (k : Fin 4224) :
    bprev H w (BitVec.ofNat 32 t.val) kp r k = if 64 ≤ t.val ∧ r.val % 256 = 0 then 0 else if r.val = 0 then bcol H w 519 k * kp else bcol H w ⟨r.val - 1, by omega⟩ k := by
  unfold bprev
  rw [bit_ctx, bit_open, bit_first, and_bool, select_bool, select_bool]
  split
  · rfl
  · split
    · rfl
    · exact congrArg (bcol H w · k) (Fin.ext (show (r.val + 512 - 1) % 512 = r.val - 1 by omega))

/-- The row after, by cases. -/
theorem bnext_eq (H : FVec Ideal S528x1024 .bf16) (w : Vec Ideal S1024x4224 .bf16) (t : Fin 66) (kn : EReal) (r : Fin 512) (k : Fin 4224) :
    bnext H w (BitVec.ofNat 32 t.val) kn r k = if 64 ≤ t.val ∧ r.val % 256 = 255 then 0 else if r.val = 511 then bcol H w 520 k * kn else bcol H w ⟨r.val + 1, by omega⟩ k := by
  unfold bnext
  rw [bit_ctx, bit_close, bit_last, and_bool, select_bool, select_bool]
  split
  · rfl
  · split
    · rfl
    · exact congrArg (bcol H w · k) (Fin.ext (show (r.val + 512 - 511) % 512 = r.val + 1 by omega))

/-- A row of the block. -/
theorem brow_in (x0 : Vec Ideal S512x1024 .bf16) (x1 x2 : Vec Ideal S8x1024 .bf16) (a : Fin 528) (d : Fin 1024) (h : a.val < 512) :
    brow x0 x1 x2 a d = x0 (ix2 ⟨a.val, h⟩ d) := dif_pos h

/-- The row before the block. -/
theorem brow_before (x0 : Vec Ideal S512x1024 .bf16) (x1 x2 : Vec Ideal S8x1024 .bf16) (d : Fin 1024) :
    brow x0 x1 x2 519 d = x1 (ix2 7 d) :=
  (dif_neg (show ¬ (519 : Fin 528).val < 512 by decide)).trans (dif_pos (show (519 : Fin 528).val - 512 < 8 by decide))

/-- The row after the block. -/
theorem brow_after (x0 : Vec Ideal S512x1024 .bf16) (x1 x2 : Vec Ideal S8x1024 .bf16) (d : Fin 1024) :
    brow x0 x1 x2 520 d = x2 (ix2 0 d) :=
  (dif_neg (show ¬ (520 : Fin 528).val < 512 by decide)).trans (dif_neg (show ¬ (520 : Fin 528).val - 512 < 8 by decide))

/-- The row before, from what the block's columns are. -/
theorem prev_of (P : Fin 33792 → Fin 4128 → EReal) (H : FVec Ideal S528x1024 .bf16) (w : Vec Ideal S1024x4224 .bf16) (t : Fin 66) (r : Fin 512) (k : Fin 4224) (j : Fin 4128)
    (hin : ∀ (a : Fin 528) (n : Fin 33792), a.val < 512 → n.val = t.val * 512 + a.val → bcol H w a k = P n j)
    (hout : ∀ n : Fin 33792, t.val % 16 ≠ 0 → t.val < 64 → n.val + 1 = t.val * 512 → bcol H w 519 k = P n j) :
    bprev H w (BitVec.ofNat 32 t.val) (if t.val % 16 = 0 ∨ 64 ≤ t.val then 0 else 1) r k = prev P ⟨t.val * 512 + r.val, by omega⟩ j := by
  rw [bprev_eq]
  unfold prev len
  dsimp only
  by_cases hc : 64 ≤ t.val
  · rw [if_neg (show ¬ t.val * 512 + r.val < 32768 by omega)]
    by_cases h0 : r.val % 256 = 0
    · rw [if_pos ⟨hc, h0⟩, if_pos (by omega)]
    · rw [if_neg (fun h => h0 h.2), if_neg (by omega), if_neg (by omega)]
      exact hin _ _ (by dsimp only; omega) (by dsimp only; omega)
  · rw [if_pos (show t.val * 512 + r.val < 32768 by omega), if_neg (fun h => hc h.1)]
    by_cases h0 : r.val = 0
    · rw [if_pos h0]
      by_cases h1 : t.val % 16 = 0
      · rw [if_pos (Or.inl h1), if_pos (by omega), mul_zero]
      · rw [if_neg (by omega), if_neg (by omega), mul_one]
        exact hout _ h1 (by omega) (by dsimp only; omega)
    · rw [if_neg h0, if_neg (by omega)]
      exact hin _ _ (by dsimp only; omega) (by dsimp only; omega)

/-- The row after, from what the block's columns are. -/
theorem next_of (P : Fin 33792 → Fin 4128 → EReal) (H : FVec Ideal S528x1024 .bf16) (w : Vec Ideal S1024x4224 .bf16) (t : Fin 66) (r : Fin 512) (k : Fin 4224) (j : Fin 4128)
    (hin : ∀ (a : Fin 528) (n : Fin 33792), a.val < 512 → n.val = t.val * 512 + a.val → bcol H w a k = P n j)
    (hout : ∀ n : Fin 33792, t.val % 16 ≠ 15 → t.val < 64 → n.val = t.val * 512 + 512 → bcol H w 520 k = P n j) :
    bnext H w (BitVec.ofNat 32 t.val) (if t.val % 16 = 15 ∨ 64 ≤ t.val then 0 else 1) r k = next P ⟨t.val * 512 + r.val, by omega⟩ j := by
  rw [bnext_eq]
  unfold next len
  dsimp only
  by_cases hc : 64 ≤ t.val
  · rw [if_neg (show ¬ t.val * 512 + r.val < 32768 by omega)]
    by_cases h0 : r.val % 256 = 255
    · rw [if_pos ⟨hc, h0⟩, if_pos (by omega)]
    · rw [if_neg (fun h => h0 h.2), if_neg (by omega), if_neg (by omega)]
      exact hin _ _ (by dsimp only; omega) (by dsimp only; omega)
  · rw [if_pos (show t.val * 512 + r.val < 32768 by omega), if_neg (fun h => hc h.1)]
    by_cases h0 : r.val = 511
    · rw [if_pos h0]
      by_cases h1 : t.val % 16 = 15
      · rw [if_pos (Or.inl h1), if_pos (by omega), mul_zero]
      · rw [if_neg (by omega), if_neg (by omega), mul_one]
        exact hout _ h1 (by omega) (by dsimp only; omega)
    · rw [if_neg h0, if_neg (by omega)]
      exact hin _ _ (by dsimp only; omega) (by dsimp only; omega)

variable (m : (ℓ : Loc nD τ sig) → Buf (Elt Ideal) ℓ)

/-- The tokens' rows. -/
def aX (c : Dev nD) (n : Fin 33792) (d : Fin 1024) : EReal := m ((c : Thread nD τ).loc main_arg0) (ix2 n d)

/-- The rows' gain. -/
def aG (c : Dev nD) (d : Fin 1024) : EReal := m ((c : Thread nD τ).loc main_arg1) (ix1 d)

/-- The shifts. -/
def aSH (c : Dev nD) (b : Fin 8) (d : Fin 1024) : EReal := m ((c : Thread nD τ).loc main_arg2) (ix2 b d)

/-- The scales. -/
def aSC (c : Dev nD) (b : Fin 8) (d : Fin 1024) : EReal := m ((c : Thread nD τ).loc main_arg3) (ix2 b d)

/-- The weights. -/
def aW (c : Dev nD) (d : Fin 1024) (j : Fin 4128) : EReal := m ((c : Thread nD τ).loc main_arg4) (ix2 d j)

/-- The convolution's weights. -/
def aC (c : Dev nD) (k : Fin 3) (j : Fin 3072) : EReal := m ((c : Thread nD τ).loc main_arg5) (ix2 k j)

/-- The forward decay rates. -/
def aAF (c : Dev nD) (e : Fin 8) : EReal := m ((c : Thread nD τ).loc main_arg6) (ix1 e)

/-- The backward decay rates. -/
def aAB (c : Dev nD) (e : Fin 8) : EReal := m ((c : Thread nD τ).loc main_arg7) (ix1 e)

/-- The forward decay biases. -/
def aDF (c : Dev nD) (e : Fin 8) : EReal := m ((c : Thread nD τ).loc main_arg8) (ix1 e)

/-- The backward decay biases. -/
def aDB (c : Dev nD) (e : Fin 8) : EReal := m ((c : Thread nD τ).loc main_arg9) (ix1 e)

/-- The projection of core `c`'s arguments. -/
def aP (c : Dev nD) : Fin 33792 → Fin 4128 → EReal := OddRows.proj (aX m c) (aG m c) (aSH m c) (aSC m c) (aW m c)

variable (hO : Ok m)

/-- The token at a row of a point's block. -/
def tok (t : Fin (cfgM m hO).N) (r : Fin 512) : Fin 33792 := ⟨t.val * 512 + r.val, by have := t_lt m hO t; omega⟩

/-- The normed block of a point and its halo. -/
abbrev HA (c : Dev nD) (t : Fin (cfgM m hO).N) : FVec Ideal S528x1024 .bf16 :=
  kernelRun0_A.sl.r_2 c (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (iblk m hO c 5 t)

/-- A column of it, where its row is a token's. -/
theorem col_of (c : Dev nD) (t : Fin (cfgM m hO).N) (a : Fin 528) (n : Fin 33792) (k : Fin 4128)
    (hx : ∀ d, brow (iblk m hO c 0 t) (iblk m hO c 1 t) (iblk m hO c 2 t) a d = aX m c n d) (hm : mrow n = ⟨min (t.val / 16) 4, by omega⟩) :
    bcol (HA m hO c t) (iblk m hO c 6 t) a ⟨k.val, by omega⟩ = aP m c n k := by
  unfold bcol aP OddRows.proj
  refine Finset.sum_congr rfl fun d _ => congrArg₂ (· * ·) ?_ ((read_w m hO t (V m c main_v3) d _).trans (V_w m c d k))
  refine (hall_at c (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (iblk m hO c 5 t) a d).trans ?_
  rw [hm]
  have e0 : brow (iblk m hO c 0 t) (iblk m hO c 1 t) (iblk m hO c 2 t) a = aX m c n := funext hx
  have e1 : (fun e => iblk m hO c 3 t (ix2 0 e) : Fin 1024 → EReal) = aG m c :=
    funext fun e => (read_g m hO t (V m c main_v9) e).trans (V_g m c e)
  have e2 : (fun e => iblk m hO c 4 t (ix3 0 0 e) : Fin 1024 → EReal) = aSH m c ⟨min (t.val / 16) 4, by omega⟩ :=
    funext fun e => (read_sh m hO t (V m c main_v0) e).trans (V_shift m c _ e)
  have e3 : (fun e => iblk m hO c 5 t (ix3 0 0 e) : Fin 1024 → EReal) = aSC m c ⟨min (t.val / 16) 4, by omega⟩ :=
    funext fun e => (read_sc m hO t (V m c main_v1) e).trans (V_scale m c _ e)
  exact congr (congr (congr (congr (congrArg modulated e0) e1) e2) e3) rfl

/-- A column of the block's own rows. -/
theorem col_in (c : Dev nD) (t : Fin (cfgM m hO).N) (r : Fin 528) (n : Fin 33792) (k : Fin 4128) (h : r.val < 512) (hn : n.val = t.val * 512 + r.val) :
    bcol (HA m hO c t) (iblk m hO c 6 t) r ⟨k.val, by omega⟩ = aP m c n k := by
  have := t_lt m hO t
  refine col_of m hO c t r n k (fun d => ?_) (Fin.ext (show min (n.val / 8192) 4 = min (t.val / 16) 4 by omega))
  refine (brow_in _ _ _ r d h).trans ?_
  refine (read_x m hO t (V m c main_arg0) ⟨r.val, h⟩ d).trans ((congrFun (V_main_arg0 m c) _).trans ?_)
  exact congrArg (fun q => aX m c q d) (Fin.ext hn.symm)

/-- A column of the row before the block. -/
theorem col_before (c : Dev nD) (t : Fin (cfgM m hO).N) (n : Fin 33792) (k : Fin 4128) (h : t.val % 16 ≠ 0) (h' : t.val < 64) (hn : n.val + 1 = t.val * 512) :
    bcol (HA m hO c t) (iblk m hO c 6 t) 519 ⟨k.val, by omega⟩ = aP m c n k := by
  refine col_of m hO c t 519 n k (fun d => ?_) (Fin.ext (show min (n.val / 8192) 4 = min (t.val / 16) 4 by omega))
  refine (brow_before _ _ _ d).trans ?_
  refine (read_p m hO t (V m c main_arg0) _ d).trans ((congrFun (V_main_arg0 m c) _).trans ?_)
  refine congrArg (fun q => aX m c q d) (Fin.ext ?_)
  show (64 * t.val - 1) * 8 + 7 = n.val
  omega

/-- A column of the row after the block. -/
theorem col_after (c : Dev nD) (t : Fin (cfgM m hO).N) (n : Fin 33792) (k : Fin 4128) (h : t.val % 16 ≠ 15) (h' : t.val < 64) (hn : n.val = t.val * 512 + 512) :
    bcol (HA m hO c t) (iblk m hO c 6 t) 520 ⟨k.val, by omega⟩ = aP m c n k := by
  refine col_of m hO c t 520 n k (fun d => ?_) (Fin.ext (show min (n.val / 8192) 4 = min (t.val / 16) 4 by omega))
  refine (brow_after _ _ _ d).trans ?_
  refine (read_n m hO t (V m c main_arg0) _ d).trans ((congrFun (V_main_arg0 m c) _).trans ?_)
  refine congrArg (fun q => aX m c q d) (Fin.ext ?_)
  show min (64 * (t.val + 1)) 4223 * 8 + 0 = n.val
  omega

/-- The row before, as the block has it, is the token's. -/
theorem prev_at (c : Dev nD) (t : Fin (cfgM m hO).N) (r : Fin 512) (k : Fin 4128) :
    bprev (HA m hO c t) (iblk m hO c 6 t) (BitVec.ofNat 32 (grid0.coords t 0).val) (if t.val % 16 = 0 ∨ 64 ≤ t.val then 0 else 1) r ⟨k.val, by omega⟩
      = prev (aP m c) (tok m hO t r) k := by
  have ht := t_lt m hO t
  rw [coord t]
  exact prev_of (aP m c) (HA m hO c t) (iblk m hO c 6 t) ⟨t.val, ht⟩ r ⟨k.val, by omega⟩ k (fun a n h hn => col_in m hO c t a n k h hn)
    (fun n h h' hn => col_before m hO c t n k h h' hn)

/-- The row after, as the block has it, is the token's. -/
theorem next_at (c : Dev nD) (t : Fin (cfgM m hO).N) (r : Fin 512) (k : Fin 4128) :
    bnext (HA m hO c t) (iblk m hO c 6 t) (BitVec.ofNat 32 (grid0.coords t 0).val) (if t.val % 16 = 15 ∨ 64 ≤ t.val then 0 else 1) r ⟨k.val, by omega⟩
      = next (aP m c) (tok m hO t r) k := by
  have ht := t_lt m hO t
  rw [coord t]
  exact next_of (aP m c) (HA m hO c t) (iblk m hO c 6 t) ⟨t.val, ht⟩ r ⟨k.val, by omega⟩ k (fun a n h hn => col_in m hO c t a n k h hn)
    (fun n h h' hn => col_after m hO c t n k h h' hn)

/-- The convolved and gated block at its tokens. -/
theorem act_at (c : Dev nD) (t : Fin (cfgM m hO).N) (r : Fin 512) (k : Fin 3072) :
    bact (HA m hO c t) (iblk m hO c 6 t) (iblk m hO c 7 t) (BitVec.ofNat 32 (grid0.coords t 0).val)
      (kernelRun0_A.sl.r_4 (F := Ideal) c (grid0.coords t) (tbl m 0)) (kernelRun0_A.sl.r_5 (F := Ideal) c (grid0.coords t) (tbl m 1)) r k
      = act (aP m c) (aC m c) (tok m hO t r) k := by
  rw [keep_prev m hO, keep_next m hO]
  have e : ∀ j : Fin 3, iblk m hO c 7 t (ix2 j k) = aC m c j k := fun j => (read_c m hO t (V m c main_arg5) j k).trans (congrFun (V_main_arg5 m c) _)
  have e1 : bconv (HA m hO c t) (iblk m hO c 6 t) (iblk m hO c 7 t) (BitVec.ofNat 32 (grid0.coords t 0).val)
      (if t.val % 16 = 0 ∨ 64 ≤ t.val then 0 else 1) (if t.val % 16 = 15 ∨ 64 ≤ t.val then 0 else 1) r k
      = prev (aP m c) (tok m hO t r) ⟨k.val, by omega⟩ * aC m c 0 k + aP m c (tok m hO t r) ⟨k.val, by omega⟩ * aC m c 1 k
        + next (aP m c) (tok m hO t r) ⟨k.val, by omega⟩ * aC m c 2 k := by
    unfold bconv
    exact congrArg₂ (· + ·) (congrArg₂ (· + ·) (congrArg₂ (· * ·) (prev_at m hO c t r ⟨k.val, by omega⟩) (e 0))
      (congrArg₂ (· * ·) (col_in m hO c t _ _ ⟨k.val, by omega⟩ r.isLt rfl) (e 1))) (congrArg₂ (· * ·) (next_at m hO c t r ⟨k.val, by omega⟩) (e 2))
  unfold bact act gated
  rw [e1]

/-- A column of the block without its halo. -/
theorem hcol_at (c : Dev nD) (t : Fin (cfgM m hO).N) (r : Fin 512) (k : Fin 4224) (h : k.val < 4128) :
    hcol (kernelRun0_A.sl.r_3 c (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (iblk m hO c 5 t)) (iblk m hO c 6 t) r k = aP m c (tok m hO t r) ⟨k.val, h⟩ := by
  refine Eq.trans ?_ (col_in m hO c t ⟨r.val, by omega⟩ (tok m hO t r) ⟨k.val, h⟩ r.isLt rfl)
  unfold hcol bcol
  exact Finset.sum_congr rfl fun d _ => congrArg₂ (· * ·) (hb_at c (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (iblk m hO c 5 t) r d) rfl

/-- The word of one is one. -/
theorem one_word : Ideal.ofBits .f32 0x3F800000#32 = 1 := by
  rw [← show ((constant (F := Ideal) S_ FTy.f32 0x3F800000#32) Idealize.ShloMosaic.ix0 : EReal) = Ideal.ofBits .f32 0x3F800000#32 from rfl]
  pointwise

/-- A lane of the gates. -/
theorem gate_at (P : Fin 33792 → Fin 4128 → EReal) (AF AB DF DB : Fin 8 → EReal) (n : Fin 33792) (e : Fin 128) (a α β : EReal)
    (ha : ∀ h : e.val < 32, a = P n ⟨4096 + e.val, by omega⟩) (hα : α = if h : e.val < 8 then AF ⟨e.val, h⟩ else if h' : e.val - 8 < 8 then AB ⟨e.val - 8, h'⟩ else 0)
    (hβ : β = if h : e.val < 8 then DF ⟨e.val, h⟩ else if h' : e.val - 8 < 8 then DB ⟨e.val - 8, h'⟩ else 0) :
    bgate a α β e = oG P AF AB DF DB n e := by
  unfold bgate oG decay strength
  rw [bit_decay, bit_gate, select_bool, select_bool]
  by_cases h : e.val < 8
  · rw [if_pos (by omega), dif_pos h, ha (by omega), hα, hβ, dif_pos h, dif_pos h, zero_sub, zero_sub]
  · rw [dif_neg h]
    by_cases h' : e.val < 16
    · rw [if_pos h', dif_pos h', ha (by omega), hα, hβ, dif_neg h, dif_neg h, dif_pos (by omega), dif_pos (by omega), zero_sub, zero_sub]
    · rw [if_neg h', dif_neg h']
      by_cases h'' : e.val < 32
      · rw [if_pos h'', dif_pos h'', ha h'', one_word, zero_sub]
      · rw [if_neg h'', dif_neg h'']

/-- The first result. -/
def res0 (c : Dev nD) : Buf (Elt Ideal) ((c : Thread nD τ).loc main_v10_0) := fun i => oQ (aP m c) (aC m c) ⟨(i 0).val, (i 0).isLt⟩ ⟨(i 1).val, (i 1).isLt⟩

/-- The second result. -/
def res1 (c : Dev nD) : Buf (Elt Ideal) ((c : Thread nD τ).loc main_v10_1) := fun i => oK (aP m c) (aC m c) ⟨(i 0).val, (i 0).isLt⟩ ⟨(i 1).val, (i 1).isLt⟩

/-- The third result. -/
def res2 (c : Dev nD) : Buf (Elt Ideal) ((c : Thread nD τ).loc main_v10_2) := fun i => oV (aP m c) (aC m c) ⟨(i 0).val, (i 0).isLt⟩ ⟨(i 1).val, (i 1).isLt⟩

/-- The fourth result. -/
def res3 (c : Dev nD) : Buf (Elt Ideal) ((c : Thread nD τ).loc main_v10_3) := fun i => oZ (aP m c) ⟨(i 0).val, (i 0).isLt⟩ ⟨(i 1).val, (i 1).isLt⟩

/-- The fifth result. -/
def res4 (c : Dev nD) : Buf (Elt Ideal) ((c : Thread nD τ).loc main_v10_4) := fun i => oG (aP m c) (aAF m c) (aAB m c) (aDF m c) (aDB m c) ⟨(i 0).val, (i 0).isLt⟩ ⟨(i 1).val, (i 1).isLt⟩

/-- The block of the first result a point leaves. -/
theorem left0 (c : Dev nD) (t : Fin (cfgM m hO).N) (y : S512x1024.Idx) :
    (outsAt0 m hO c t).1 y = oQ (aP m c) (aC m c) (tok m hO t ⟨(y 0).val, (y 0).isLt⟩) ⟨(y 1).val, (y 1).isLt⟩ := by
  obtain ⟨r, hr⟩ : ∃ r : Fin 512, (⟨(y 0).val, (y 0).isLt⟩ : Fin 512) = r := ⟨_, rfl⟩
  obtain ⟨e, he⟩ : ∃ e : Fin 1024, (⟨(y 1).val, (y 1).isLt⟩ : Fin 1024) = e := ⟨_, rfl⟩
  unfold outsAt0
  dsimp only
  rw [hr, he, out10_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) y r e (congrArg Fin.val hr) (congrArg Fin.val he)]
  unfold oQ
  simp only [act_at m hO]

/-- The block of the second result a point leaves. -/
theorem left1 (c : Dev nD) (t : Fin (cfgM m hO).N) (y : S512x1024.Idx) :
    (outsAt0 m hO c t).2.1 y = oK (aP m c) (aC m c) (tok m hO t ⟨(y 0).val, (y 0).isLt⟩) ⟨(y 1).val, (y 1).isLt⟩ := by
  obtain ⟨r, hr⟩ : ∃ r : Fin 512, (⟨(y 0).val, (y 0).isLt⟩ : Fin 512) = r := ⟨_, rfl⟩
  obtain ⟨e, he⟩ : ∃ e : Fin 1024, (⟨(y 1).val, (y 1).isLt⟩ : Fin 1024) = e := ⟨_, rfl⟩
  unfold outsAt0
  dsimp only
  rw [hr, he, out11_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) y r e (congrArg Fin.val hr) (congrArg Fin.val he)]
  unfold oK
  simp only [act_at m hO]

/-- The block of the third result a point leaves. -/
theorem left2 (c : Dev nD) (t : Fin (cfgM m hO).N) (y : S512x1024.Idx) :
    (outsAt0 m hO c t).2.2.1 y = oV (aP m c) (aC m c) (tok m hO t ⟨(y 0).val, (y 0).isLt⟩) ⟨(y 1).val, (y 1).isLt⟩ := by
  obtain ⟨r, hr⟩ : ∃ r : Fin 512, (⟨(y 0).val, (y 0).isLt⟩ : Fin 512) = r := ⟨_, rfl⟩
  obtain ⟨e, he⟩ : ∃ e : Fin 1024, (⟨(y 1).val, (y 1).isLt⟩ : Fin 1024) = e := ⟨_, rfl⟩
  unfold outsAt0
  dsimp only
  rw [hr, he, out12_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) y r e (congrArg Fin.val hr) (congrArg Fin.val he)]
  unfold oV
  exact act_at m hO c t r _

/-- The block of the fourth result a point leaves. -/
theorem left3 (c : Dev nD) (t : Fin (cfgM m hO).N) (y : S512x1024.Idx) :
    (outsAt0 m hO c t).2.2.2.1 y = oZ (aP m c) (tok m hO t ⟨(y 0).val, (y 0).isLt⟩) ⟨(y 1).val, (y 1).isLt⟩ := by
  obtain ⟨r, hr⟩ : ∃ r : Fin 512, (⟨(y 0).val, (y 0).isLt⟩ : Fin 512) = r := ⟨_, rfl⟩
  obtain ⟨e, he⟩ : ∃ e : Fin 1024, (⟨(y 1).val, (y 1).isLt⟩ : Fin 1024) = e := ⟨_, rfl⟩
  unfold outsAt0
  dsimp only
  rw [hr, he, out13_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) y r e (congrArg Fin.val hr) (congrArg Fin.val he)]
  unfold oZ
  exact hcol_at m hO c t r _ _

/-- The block of the fifth result a point leaves. -/
theorem left4 (c : Dev nD) (t : Fin (cfgM m hO).N) (y : S512x128.Idx) :
    (outsAt0 m hO c t).2.2.2.2 y = oG (aP m c) (aAF m c) (aAB m c) (aDF m c) (aDB m c) (tok m hO t ⟨(y 0).val, (y 0).isLt⟩) ⟨(y 1).val, (y 1).isLt⟩ := by
  obtain ⟨r, hr⟩ : ∃ r : Fin 512, (⟨(y 0).val, (y 0).isLt⟩ : Fin 512) = r := ⟨_, rfl⟩
  obtain ⟨e, he⟩ : ∃ e : Fin 128, (⟨(y 1).val, (y 1).isLt⟩ : Fin 128) = e := ⟨_, rfl⟩
  unfold outsAt0
  dsimp only
  rw [hr, he, out14_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) y r e (congrArg Fin.val hr) (congrArg Fin.val he)]
  exact gate_at _ _ _ _ _ _ e _ _ _ (fun h => hcol_at m hO c t r ⟨4096 + e.val, by omega⟩ (by dsimp only; omega))
    ((read_a m hO t (V m c main_v6) e).trans (V_a m c e)) ((read_b m hO t (V m c main_v8) e).trans (V_b m c e))

/-- The points' blocks of the first result make it up. -/
theorem covers0 : ((cfgM m hO).win 10).Covers :=
  Pipeline.Window.covers_of_index_surj _ rfl (by decide : ∀ a : Fin 2, 0 < (![512, 1024] : Fin 2 → Nat) a) fun β => by
    have h0 : (β (0 : Fin 2)).val < (33792 + 512 - 1) / 512 := (β (0 : Fin 2)).isLt
    have h1 : (β (1 : Fin 2)).val < (1024 + 1024 - 1) / 1024 := (β (1 : Fin 2)).isLt
    refine ⟨⟨(β (0 : Fin 2)).val, h0⟩, fun a => ?_⟩
    refine (congrFun (idxOut m hO _).1 a).trans ?_
    revert a
    exact Fin.forall_fin_two.mpr ⟨rfl, (show 0 = (β (1 : Fin 2)).val by omega)⟩

/-- After the last point the first result is complete. -/
theorem final0 (c : Dev nD) : (dats m hO 0 c).arrAt 10 (cfgM m hO).N = res0 m c := by
  refine (dats m hO 0 c).arrAt_eq_of_covers 10 _ (covers0 m hO) fun t _ y => ?_
  blk_simp
  rw [after0_10, read_o0 m hO t (res0 m c) y]
  exact left0 m hO c t y

/-- The points' blocks of the second result make it up. -/
theorem covers1 : ((cfgM m hO).win 11).Covers :=
  Pipeline.Window.covers_of_index_surj _ rfl (by decide : ∀ a : Fin 2, 0 < (![512, 1024] : Fin 2 → Nat) a) fun β => by
    have h0 : (β (0 : Fin 2)).val < (33792 + 512 - 1) / 512 := (β (0 : Fin 2)).isLt
    have h1 : (β (1 : Fin 2)).val < (1024 + 1024 - 1) / 1024 := (β (1 : Fin 2)).isLt
    refine ⟨⟨(β (0 : Fin 2)).val, h0⟩, fun a => ?_⟩
    refine (congrFun (idxOut m hO _).2.1 a).trans ?_
    revert a
    exact Fin.forall_fin_two.mpr ⟨rfl, (show 0 = (β (1 : Fin 2)).val by omega)⟩

/-- After the last point the second result is complete. -/
theorem final1 (c : Dev nD) : (dats m hO 0 c).arrAt 11 (cfgM m hO).N = res1 m c := by
  refine (dats m hO 0 c).arrAt_eq_of_covers 11 _ (covers1 m hO) fun t _ y => ?_
  blk_simp
  rw [after0_11, read_o1 m hO t (res1 m c) y]
  exact left1 m hO c t y

/-- The points' blocks of the third result make it up. -/
theorem covers2 : ((cfgM m hO).win 12).Covers :=
  Pipeline.Window.covers_of_index_surj _ rfl (by decide : ∀ a : Fin 2, 0 < (![512, 1024] : Fin 2 → Nat) a) fun β => by
    have h0 : (β (0 : Fin 2)).val < (33792 + 512 - 1) / 512 := (β (0 : Fin 2)).isLt
    have h1 : (β (1 : Fin 2)).val < (1024 + 1024 - 1) / 1024 := (β (1 : Fin 2)).isLt
    refine ⟨⟨(β (0 : Fin 2)).val, h0⟩, fun a => ?_⟩
    refine (congrFun (idxOut m hO _).2.2.1 a).trans ?_
    revert a
    exact Fin.forall_fin_two.mpr ⟨rfl, (show 0 = (β (1 : Fin 2)).val by omega)⟩

/-- After the last point the third result is complete. -/
theorem final2 (c : Dev nD) : (dats m hO 0 c).arrAt 12 (cfgM m hO).N = res2 m c := by
  refine (dats m hO 0 c).arrAt_eq_of_covers 12 _ (covers2 m hO) fun t _ y => ?_
  blk_simp
  rw [after0_12, read_o2 m hO t (res2 m c) y]
  exact left2 m hO c t y

/-- The points' blocks of the fourth result make it up. -/
theorem covers3 : ((cfgM m hO).win 13).Covers :=
  Pipeline.Window.covers_of_index_surj _ rfl (by decide : ∀ a : Fin 2, 0 < (![512, 1024] : Fin 2 → Nat) a) fun β => by
    have h0 : (β (0 : Fin 2)).val < (33792 + 512 - 1) / 512 := (β (0 : Fin 2)).isLt
    have h1 : (β (1 : Fin 2)).val < (1024 + 1024 - 1) / 1024 := (β (1 : Fin 2)).isLt
    refine ⟨⟨(β (0 : Fin 2)).val, h0⟩, fun a => ?_⟩
    refine (congrFun (idxOut m hO _).2.2.2.1 a).trans ?_
    revert a
    exact Fin.forall_fin_two.mpr ⟨rfl, (show 0 = (β (1 : Fin 2)).val by omega)⟩

/-- After the last point the fourth result is complete. -/
theorem final3 (c : Dev nD) : (dats m hO 0 c).arrAt 13 (cfgM m hO).N = res3 m c := by
  refine (dats m hO 0 c).arrAt_eq_of_covers 13 _ (covers3 m hO) fun t _ y => ?_
  blk_simp
  rw [after0_13, read_o3 m hO t (res3 m c) y]
  exact left3 m hO c t y

/-- The points' blocks of the fifth result make it up. -/
theorem covers4 : ((cfgM m hO).win 14).Covers :=
  Pipeline.Window.covers_of_index_surj _ rfl (by decide : ∀ a : Fin 2, 0 < (![512, 128] : Fin 2 → Nat) a) fun β => by
    have h0 : (β (0 : Fin 2)).val < (33792 + 512 - 1) / 512 := (β (0 : Fin 2)).isLt
    have h1 : (β (1 : Fin 2)).val < (128 + 128 - 1) / 128 := (β (1 : Fin 2)).isLt
    refine ⟨⟨(β (0 : Fin 2)).val, h0⟩, fun a => ?_⟩
    refine (congrFun (idxOut m hO _).2.2.2.2 a).trans ?_
    revert a
    exact Fin.forall_fin_two.mpr ⟨rfl, (show 0 = (β (1 : Fin 2)).val by omega)⟩

/-- After the last point the fifth result is complete. -/
theorem final4 (c : Dev nD) : (dats m hO 0 c).arrAt 14 (cfgM m hO).N = res4 m c := by
  refine (dats m hO 0 c).arrAt_eq_of_covers 14 _ (covers4 m hO) fun t _ y => ?_
  blk_simp
  rw [after0_14, read_o4 m hO t (res4 m c) y]
  exact left4 m hO c t y

end Cert.OddIdeal.Row

end
-- ==== Proof.OddRun.lean ====
/-
  The odd projection's run: its five results complete, its arguments unchanged.
-/
module

public import proofs.«01_k».proof.Proof.Gen.OddIdeal.Frame
public import proofs.«01_k».proof.Proof.OddBlock

@[expose] public section

noncomputable section

namespace Cert.OddIdeal.Row

open Cert.OddIdeal Cert.OddIdeal.Gen
open Idealize.ShloMosaic Idealize.ShloMosaic.TcCoe Idealize.SL.Sem

variable (m : (ℓ : Loc nD τ sig) → Buf (Elt Ideal) ℓ) (ρ : Dev nD → PrngReg)

set_option maxHeartbeats 4000000 in
/-- The run, read: the five results, the arguments unchanged. -/
theorem run (hO : Ok m) :
    θ_run defs (onTc (τ := τ) (main (F := Ideal))) ⟨m, fun _ => 0, ρ⟩ fun r => ∀ c : Dev nD,
      r.2.mem ((c.tc : Thread nD τ).loc main_v10_0) = res0 m c
      ∧ r.2.mem ((c.tc : Thread nD τ).loc main_v10_1) = res1 m c
      ∧ r.2.mem ((c.tc : Thread nD τ).loc main_v10_2) = res2 m c
      ∧ r.2.mem ((c.tc : Thread nD τ).loc main_v10_3) = res3 m c
      ∧ r.2.mem ((c.tc : Thread nD τ).loc main_v10_4) = res4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).1 10).trans (final0 m hO c),
      ((h c).1 11).trans (final1 m hO c),
      ((h c).1 12).trans (final2 m hO c),
      ((h c).1 13).trans (final3 m hO c),
      ((h c).1 14).trans (final4 m hO c),
      ((h c).1 2).trans (((dats m hO 0 c).arrAt_in 2 rfl _).trans ((A_eq m hO c 2).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).1 7).trans (((dats m hO 0 c).arrAt_in 7 rfl _).trans ((A_eq m hO c 7).trans (V_main_arg5 m c))),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩) (run_main m ρ hO)

end Cert.OddIdeal.Row

end
-- ==== Proof.OddRef.lean ====
/-
  The odd projection's reference read at an entry.
-/
module

public import proofs.«01_k».proof.Proof.Gen.OddReferenceIdeal.Run
public import proofs.«01_k».proof.Proof.OddSpec
public import proofs.«01_k».proof.Proof.Join
public import Idealize.ShloMosaic.Lib.Pipeline.ValueKit

@[expose] public section

set_option maxRecDepth 16384

noncomputable section

namespace Cert.OddReferenceIdeal.Row

open Cert.OddReferenceIdeal Cert.OddReferenceIdeal.Gen Cert.OddReferenceIdeal.Value
open Idealize.ShloMosaic Idealize.ShloMosaic.TcCoe Idealize.SL.Sem Idealize.ShloMosaic.StableHlo
open Cert.Rows Cert.OddRows

variable (V0 : Valuation τ sig (Elt Ideal))

/-- The projection of the arguments. -/
def aP : Fin 33792 → Fin 4128 → EReal :=
  OddRows.proj (fun n d => V0 (Proc.devRef .tc main_arg0) (ix2 n d)) (fun d => V0 (Proc.devRef .tc main_arg1) (ix1 d))
    (fun b d => V0 (Proc.devRef .tc main_arg2) (ix2 b d)) (fun b d => V0 (Proc.devRef .tc main_arg3) (ix2 b d))
    (fun d j => V0 (Proc.devRef .tc main_arg4) (ix2 d j))

/-- The convolution's weights. -/
def aC (k : Fin 3) (j : Fin 3072) : EReal := V0 (Proc.devRef .tc main_arg5) (ix2 k j)

/-- A latent token's projection. -/
theorem lat_at (b : Fin 4) (q : Fin 8192) (k : Fin 4128) : res_main_v25 V0 (ix3 b q k) = aP V0 ⟨b.val * 8192 + q.val, by omega⟩ k := by
  have e : mrow ⟨b.val * 8192 + q.val, by omega⟩ = ⟨b.val, by omega⟩ := Fin.ext (show min ((b.val * 8192 + q.val) / 8192) 4 = b.val by omega)
  unfold aP OddRows.proj
  rw [e]
  unfold modulated res_main_v25 res_main_v1
  pointwise

/-- A context token's projection. -/
theorem ctx_at (b : Fin 4) (q : Fin 256) (k : Fin 4128) : res_main_v134 V0 (ix3 b q k) = aP V0 ⟨32768 + (b.val * 256 + q.val), by omega⟩ k := by
  have e : mrow ⟨32768 + (b.val * 256 + q.val), by omega⟩ = 4 := Fin.ext (show min ((32768 + (b.val * 256 + q.val)) / 8192) 4 = 4 by omega)
  unfold aP OddRows.proj
  rw [e]
  unfold modulated res_main_v134 res_main_v108
  pointwise

/-- The integer zero is zero. -/
theorem zero_int : (FloatOps.sitofp (F := Ideal) FTy.f32 (0#32 : BitVec 32) : EReal) = 0 := by
  show ((((0#32 : BitVec 32).toInt : ℝ)) : EReal) = 0
  simp

/-- A latent row of the padded projection. -/
theorem lat_pad (b : Fin 4) (q : Fin 8194) (k : Fin 3072) : res_main_v27 V0 (ix3 b q k)
    = if h : 1 ≤ q.val ∧ q.val - 1 < 8192 then res_main_v25 V0 (ix3 b ⟨q.val - 1, h.2⟩ ⟨k.val, by omega⟩) else (0 : EReal) := by
  unfold res_main_v27
  pointwise
  split
  · rfl
  · exact zero_int

/-- A latent row's row before. -/
theorem lat_prev (b : Fin 4) (q : Fin 8192) (k : Fin 3072) : res_main_v27 V0 (ix3 b ⟨q.val, by omega⟩ k) = prev (aP V0) ⟨b.val * 8192 + q.val, by omega⟩ ⟨k.val, by omega⟩ := by
  rw [lat_pad]
  unfold prev len
  dsimp only
  rw [if_pos (show b.val * 8192 + q.val < 32768 by omega)]
  by_cases h : q.val = 0
  · rw [dif_neg (show ¬ (1 ≤ q.val ∧ q.val - 1 < 8192) by omega), if_pos (by omega)]
  · rw [dif_pos (show 1 ≤ q.val ∧ q.val - 1 < 8192 by omega), if_neg (by omega), lat_at]
    exact congrFun (congrArg (aP V0) (Fin.ext (show b.val * 8192 + (q.val - 1) = b.val * 8192 + q.val - 1 by omega))) _

/-- A latent row itself. -/
theorem lat_mid (b : Fin 4) (q : Fin 8192) (k : Fin 3072) : res_main_v27 V0 (ix3 b ⟨1 + q.val, by omega⟩ k) = aP V0 ⟨b.val * 8192 + q.val, by omega⟩ ⟨k.val, by omega⟩ := by
  rw [lat_pad]
  dsimp only
  rw [dif_pos (show 1 ≤ 1 + q.val ∧ 1 + q.val - 1 < 8192 by omega), lat_at]
  exact congrFun (congrArg (aP V0) (Fin.ext (show b.val * 8192 + (1 + q.val - 1) = b.val * 8192 + q.val by omega))) _

/-- A latent row's row after. -/
theorem lat_next (b : Fin 4) (q : Fin 8192) (k : Fin 3072) : res_main_v27 V0 (ix3 b ⟨2 + q.val, by omega⟩ k) = next (aP V0) ⟨b.val * 8192 + q.val, by omega⟩ ⟨k.val, by omega⟩ := by
  rw [lat_pad]
  unfold next len
  dsimp only
  rw [if_pos (show b.val * 8192 + q.val < 32768 by omega)]
  by_cases h : q.val = 8191
  · rw [dif_neg (show ¬ (1 ≤ 2 + q.val ∧ 2 + q.val - 1 < 8192) by omega), if_pos (by omega)]
  · rw [dif_pos (show 1 ≤ 2 + q.val ∧ 2 + q.val - 1 < 8192 by omega), if_neg (by omega), lat_at]
    exact congrFun (congrArg (aP V0) (Fin.ext (show b.val * 8192 + (2 + q.val - 1) = min (b.val * 8192 + q.val + 1) 33791 by omega))) _

/-- A context row of the padded projection. -/
theorem ctx_pad (b : Fin 4) (q : Fin 258) (k : Fin 3072) : res_main_v136 V0 (ix3 b q k)
    = if h : 1 ≤ q.val ∧ q.val - 1 < 256 then res_main_v134 V0 (ix3 b ⟨q.val - 1, h.2⟩ ⟨k.val, by omega⟩) else (0 : EReal) := by
  unfold res_main_v136
  pointwise
  split
  · rfl
  · exact zero_int

/-- A context row's row before. -/
theorem ctx_prev (b : Fin 4) (q : Fin 256) (k : Fin 3072) : res_main_v136 V0 (ix3 b ⟨q.val, by omega⟩ k) = prev (aP V0) ⟨32768 + (b.val * 256 + q.val), by omega⟩ ⟨k.val, by omega⟩ := by
  rw [ctx_pad]
  unfold prev len
  dsimp only
  rw [if_neg (show ¬ 32768 + (b.val * 256 + q.val) < 32768 by omega)]
  by_cases h : q.val = 0
  · rw [dif_neg (show ¬ (1 ≤ q.val ∧ q.val - 1 < 256) by omega), if_pos (by omega)]
  · rw [dif_pos (show 1 ≤ q.val ∧ q.val - 1 < 256 by omega), if_neg (by omega), ctx_at]
    exact congrFun (congrArg (aP V0) (Fin.ext (show 32768 + (b.val * 256 + (q.val - 1)) = 32768 + (b.val * 256 + q.val) - 1 by omega))) _

/-- A context row itself. -/
theorem ctx_mid (b : Fin 4) (q : Fin 256) (k : Fin 3072) : res_main_v136 V0 (ix3 b ⟨1 + q.val, by omega⟩ k) = aP V0 ⟨32768 + (b.val * 256 + q.val), by omega⟩ ⟨k.val, by omega⟩ := by
  rw [ctx_pad]
  dsimp only
  rw [dif_pos (show 1 ≤ 1 + q.val ∧ 1 + q.val - 1 < 256 by omega), ctx_at]
  exact congrFun (congrArg (aP V0) (Fin.ext (show 32768 + (b.val * 256 + (1 + q.val - 1)) = 32768 + (b.val * 256 + q.val) by omega))) _

/-- A context row's row after. -/
theorem ctx_next (b : Fin 4) (q : Fin 256) (k : Fin 3072) : res_main_v136 V0 (ix3 b ⟨2 + q.val, by omega⟩ k) = next (aP V0) ⟨32768 + (b.val * 256 + q.val), by omega⟩ ⟨k.val, by omega⟩ := by
  rw [ctx_pad]
  unfold next len
  dsimp only
  rw [if_neg (show ¬ 32768 + (b.val * 256 + q.val) < 32768 by omega)]
  by_cases h : q.val = 255
  · rw [dif_neg (show ¬ (1 ≤ 2 + q.val ∧ 2 + q.val - 1 < 256) by omega), if_pos (by omega)]
  · rw [dif_pos (show 1 ≤ 2 + q.val ∧ 2 + q.val - 1 < 256 by omega), if_neg (by omega), ctx_at]
    exact congrFun (congrArg (aP V0) (Fin.ext (show 32768 + (b.val * 256 + (2 + q.val - 1)) = min (32768 + (b.val * 256 + q.val) + 1) 33791 by omega))) _

/-- A latent row, convolved and gated. -/
theorem lat_conv (b : Fin 4) (q : Fin 8192) (k : Fin 3072) : res_main_v48 V0 (ix3 b q k) = act (aP V0) (aC V0) ⟨b.val * 8192 + q.val, by omega⟩ k := by
  unfold res_main_v48
  pointwise
  unfold res_main_v47
  pointwise
  rw [gated_eq, lat_prev, lat_mid, lat_next]
  rfl

/-- The same, by the token's number. -/
theorem lat_act (n : Fin 32768) (k : Fin 3072) : res_main_v48 V0 (ix3 ⟨n.val / 8192, by omega⟩ ⟨n.val % 8192, by omega⟩ k) = act (aP V0) (aC V0) ⟨n.val, by omega⟩ k := by
  rw [lat_conv]
  exact congrFun (congrArg (act (aP V0) (aC V0)) (Fin.ext (Nat.div_add_mod' _ _))) _

/-- A latent token's projection, by its number. -/
theorem lat_tok (n : Fin 32768) (k : Fin 4128) : res_main_v25 V0 (ix3 ⟨n.val / 8192, by omega⟩ ⟨n.val % 8192, by omega⟩ k) = aP V0 ⟨n.val, by omega⟩ k := by
  rw [lat_at]
  exact congrFun (congrArg (aP V0) (Fin.ext (Nat.div_add_mod' _ _))) _

/-- A context row, convolved and gated. -/
theorem ctx_conv (b : Fin 4) (q : Fin 256) (k : Fin 3072) : res_main_v157 V0 (ix3 b q k) = act (aP V0) (aC V0) ⟨32768 + (b.val * 256 + q.val), by omega⟩ k := by
  unfold res_main_v157
  pointwise
  unfold res_main_v156
  pointwise
  rw [gated_eq, ctx_prev, ctx_mid, ctx_next]
  rfl

/-- The same, by the token's number. -/
theorem ctx_act (n : Fin 1024) (k : Fin 3072) : res_main_v157 V0 (ix3 ⟨n.val / 256, by omega⟩ ⟨n.val % 256, by omega⟩ k) = act (aP V0) (aC V0) ⟨32768 + n.val, by omega⟩ k := by
  rw [ctx_conv]
  exact congrFun (congrArg (act (aP V0) (aC V0)) (Fin.ext (congrArg (32768 + ·) (Nat.div_add_mod' _ _)))) _

/-- A context token's projection, by its number. -/
theorem ctx_tok (n : Fin 1024) (k : Fin 4128) : res_main_v134 V0 (ix3 ⟨n.val / 256, by omega⟩ ⟨n.val % 256, by omega⟩ k) = aP V0 ⟨32768 + n.val, by omega⟩ k := by
  rw [ctx_at]
  exact congrFun (congrArg (aP V0) (Fin.ext (congrArg (32768 + ·) (Nat.div_add_mod' _ _)))) _

end Cert.OddReferenceIdeal.Row

end
-- ==== Proof.OddRefQ.lean ====
/-
  The queries of the odd projection's reference.
-/
module

public import proofs.«01_k».proof.Proof.Gen.OddReferenceIdeal.Run
public import proofs.«01_k».proof.Proof.OddRef
public import proofs.«01_k».proof.Proof.Join
public import Idealize.ShloMosaic.Lib.Pipeline.ValueKit

@[expose] public section

set_option maxRecDepth 16384

noncomputable section

namespace Cert.OddReferenceIdeal.Row

open Cert.OddReferenceIdeal Cert.OddReferenceIdeal.Gen Cert.OddReferenceIdeal.Value
open Idealize.ShloMosaic Idealize.ShloMosaic.TcCoe Idealize.SL.Sem Idealize.ShloMosaic.StableHlo
open Cert.Rows Cert.OddRows

variable (V0 : Valuation τ sig (Elt Ideal))

/-- The narrowing cast keeps the number. -/
theorem trunc_at {s : Shape} (X : FVec Ideal s .f32) (h : FTy.bits .bf16 < FTy.bits .f32) (i : s.Idx) : (truncf .bf16 X h i : EReal) = X i := rfl

/-- An array by head and lane, flattened, at an entry of a latent row. -/
theorem lat_flat (X : FVec Ideal S4x8192x8x128 .f32) (h : Shape.ShapeCasts S4x8192x8x128 S32768x1024) (n : Fin 32768) (e : Fin 1024) :
    shapeCast S32768x1024 X h (ix2 n e) = X (ix4 ⟨n.val / 8192, by omega⟩ ⟨n.val % 8192, by omega⟩ ⟨e.val / 128, by omega⟩ ⟨e.val % 128, by omega⟩) := by
  pointwise

/-- Normed heads at an entry, a latent array: the queries. -/
theorem lat_qn (X : FVec Ideal S4x8192x8x128 .f32) (b : Fin 4) (q : Fin 8192) (h : Fin 8) (l : Fin 128) :
    (((mulf (mulf X (broadcastInDim S4x8192x8x128 ![0, 1, 2, 3] bcast_S4x8192x8x1_S4x8192x8x128_0_1_2_3 (Host.rsqrt (addf (broadcastInDim S4x8192x8x1 ![0, 1, 2] bcast_S4x8192x8_S4x8192x8x1_0_1_2 (Host.reduceAdd (mulf X X) (constant S_ .f32 0x00000000#32) reducesTo_S4x8192x8x128_S4x8192x8_d3 h_S_)) (broadcastInDim S4x8192x8x1 ![] bcast_S_S4x8192x8x1 (constant S_ .f32 0x358637BD#32)))))) (broadcastInDim S4x8192x8x128 ![] bcast_S_S4x8192x8x128 (constant S_ .f32 0x3DB504F3#32))) : FVec Ideal S4x8192x8x128 .f32) (ix4 b q h l) : EReal) = unit (fun x => X (ix4 b q h x)) l * Ideal.ofBits .f32 0x3DB504F3#32 := by
  unfold unit
  pointwise

/-- The queries of a latent row before the norm. -/
theorem lat_qc (b : Fin 4) (q : Fin 8192) (h : Fin 8) (x : Fin 128) : res_main_v50 V0 (ix4 b q h x) = res_main_v48 V0 (ix3 b q ⟨h.val * 128 + x.val, by omega⟩) := by
  unfold res_main_v50
  pointwise

/-- The queries, a latent row. -/
theorem lat_q (n : Fin 32768) (e : Fin 1024) : val5 V0 (Proc.devRef .tc main_v221) (ix2 ⟨n.val, by omega⟩ e) = oQ (aP V0) (aC V0) ⟨n.val, by omega⟩ e := by
  rw [val5_main_v221]
  refine (trunc_at _ _ _).trans ((join_left (a := 32768) (b := 1024) (k := 33792) (d := 1024) _ _ _ n _ e).trans ((lat_flat _ _ n e).trans ?_))
  refine (lat_qn (res_main_v50 V0) _ _ _ _).trans ?_
  have hx : (fun x : Fin 128 => res_main_v50 V0 (ix4 ⟨n.val / 8192, by omega⟩ ⟨n.val % 8192, by omega⟩ ⟨e.val / 128, by omega⟩ x) : Fin 128 → EReal) = _ :=
    funext fun x => (lat_qc V0 _ _ _ x).trans (lat_act V0 n _)
  exact congrArg (fun t => unit t ⟨e.val % 128, by omega⟩ * Ideal.ofBits .f32 0x3DB504F3#32) hx

/-- An array by head and lane, flattened, at an entry of a context row. -/
theorem ctx_flat (X : FVec Ideal S4x256x8x128 .f32) (h : Shape.ShapeCasts S4x256x8x128 S1024x1024) (n : Fin 1024) (e : Fin 1024) :
    shapeCast S1024x1024 X h (ix2 n e) = X (ix4 ⟨n.val / 256, by omega⟩ ⟨n.val % 256, by omega⟩ ⟨e.val / 128, by omega⟩ ⟨e.val % 128, by omega⟩) := by
  pointwise

/-- Normed heads at an entry, a context array: the queries. -/
theorem ctx_qn (X : FVec Ideal S4x256x8x128 .f32) (b : Fin 4) (q : Fin 256) (h : Fin 8) (l : Fin 128) :
    (((mulf (mulf X (broadcastInDim S4x256x8x128 ![0, 1, 2, 3] bcast_S4x256x8x1_S4x256x8x128_0_1_2_3 (Host.rsqrt (addf (broadcastInDim S4x256x8x1 ![0, 1, 2] bcast_S4x256x8_S4x256x8x1_0_1_2 (Host.reduceAdd (mulf X X) (constant S_ .f32 0x00000000#32) reducesTo_S4x256x8x128_S4x256x8_d3 h_S_)) (broadcastInDim S4x256x8x1 ![] bcast_S_S4x256x8x1 (constant S_ .f32 0x358637BD#32)))))) (broadcastInDim S4x256x8x128 ![] bcast_S_S4x256x8x128 (constant S_ .f32 0x3DB504F3#32))) : FVec Ideal S4x256x8x128 .f32) (ix4 b q h l) : EReal) = unit (fun x => X (ix4 b q h x)) l * Ideal.ofBits .f32 0x3DB504F3#32 := by
  unfold unit
  pointwise

/-- The queries of a context row before the norm. -/
theorem ctx_qc (b : Fin 4) (q : Fin 256) (h : Fin 8) (x : Fin 128) : res_main_v159 V0 (ix4 b q h x) = res_main_v157 V0 (ix3 b q ⟨h.val * 128 + x.val, by omega⟩) := by
  unfold res_main_v159
  pointwise

/-- The queries, a context row. -/
theorem ctx_q (n : Fin 1024) (e : Fin 1024) : val5 V0 (Proc.devRef .tc main_v221) (ix2 ⟨32768 + n.val, by omega⟩ e) = oQ (aP V0) (aC V0) ⟨32768 + n.val, by omega⟩ e := by
  rw [val5_main_v221]
  refine (trunc_at _ _ _).trans ((join_right (a := 32768) (b := 1024) (k := 33792) (d := 1024) _ _ _ n _ e).trans ((ctx_flat _ _ n e).trans ?_))
  refine (ctx_qn (res_main_v159 V0) _ _ _ _).trans ?_
  have hx : (fun x : Fin 128 => res_main_v159 V0 (ix4 ⟨n.val / 256, by omega⟩ ⟨n.val % 256, by omega⟩ ⟨e.val / 128, by omega⟩ x) : Fin 128 → EReal) = _ :=
    funext fun x => (ctx_qc V0 _ _ _ x).trans (ctx_act V0 n _)
  exact congrArg (fun t => unit t ⟨e.val % 128, by omega⟩ * Ideal.ofBits .f32 0x3DB504F3#32) hx

end Cert.OddReferenceIdeal.Row

end
-- ==== Proof.OddRefK.lean ====
/-
  The keys of the odd projection's reference.
-/
module

public import proofs.«01_k».proof.Proof.Gen.OddReferenceIdeal.Run
public import proofs.«01_k».proof.Proof.OddRefQ
public import proofs.«01_k».proof.Proof.Join
public import Idealize.ShloMosaic.Lib.Pipeline.ValueKit

@[expose] public section

set_option maxRecDepth 16384

noncomputable section

namespace Cert.OddReferenceIdeal.Row

open Cert.OddReferenceIdeal Cert.OddReferenceIdeal.Gen Cert.OddReferenceIdeal.Value
open Idealize.ShloMosaic Idealize.ShloMosaic.TcCoe Idealize.SL.Sem Idealize.ShloMosaic.StableHlo
open Cert.Rows Cert.OddRows

variable (V0 : Valuation τ sig (Elt Ideal))

/-- Normed heads at an entry, a latent array: the keys. -/
theorem lat_kn (X : FVec Ideal S4x8192x8x128 .f32) (b : Fin 4) (q : Fin 8192) (h : Fin 8) (l : Fin 128) :
    (((mulf X (broadcastInDim S4x8192x8x128 ![0, 1, 2, 3] bcast_S4x8192x8x1_S4x8192x8x128_0_1_2_3 (Host.rsqrt (addf (broadcastInDim S4x8192x8x1 ![0, 1, 2] bcast_S4x8192x8_S4x8192x8x1_0_1_2 (Host.reduceAdd (mulf X X) (constant S_ .f32 0x00000000#32) reducesTo_S4x8192x8x128_S4x8192x8_d3 h_S_)) (broadcastInDim S4x8192x8x1 ![] bcast_S_S4x8192x8x1 (constant S_ .f32 0x358637BD#32)))))) : FVec Ideal S4x8192x8x128 .f32) (ix4 b q h l) : EReal) = unit (fun x => X (ix4 b q h x)) l := by
  unfold unit
  pointwise

/-- The keys of a latent row before the norm. -/
theorem lat_kc (b : Fin 4) (q : Fin 8192) (h : Fin 8) (x : Fin 128) : res_main_v62 V0 (ix4 b q h x) = res_main_v48 V0 (ix3 b q ⟨1024 + (h.val * 128 + x.val), by omega⟩) := by
  unfold res_main_v62
  pointwise

/-- The keys, a latent row. -/
theorem lat_k (n : Fin 32768) (e : Fin 1024) : val5 V0 (Proc.devRef .tc main_v222) (ix2 ⟨n.val, by omega⟩ e) = oK (aP V0) (aC V0) ⟨n.val, by omega⟩ e := by
  rw [val5_main_v222]
  refine (trunc_at _ _ _).trans ((join_left (a := 32768) (b := 1024) (k := 33792) (d := 1024) _ _ _ n _ e).trans ((lat_flat _ _ n e).trans ?_))
  refine (lat_kn (res_main_v62 V0) _ _ _ _).trans ?_
  have hx : (fun x : Fin 128 => res_main_v62 V0 (ix4 ⟨n.val / 8192, by omega⟩ ⟨n.val % 8192, by omega⟩ ⟨e.val / 128, by omega⟩ x) : Fin 128 → EReal) = _ :=
    funext fun x => (lat_kc V0 _ _ _ x).trans (lat_act V0 n _)
  exact congrArg (fun t => unit t ⟨e.val % 128, by omega⟩) hx

/-- Normed heads at an entry, a context array: the keys. -/
theorem ctx_kn (X : FVec Ideal S4x256x8x128 .f32) (b : Fin 4) (q : Fin 256) (h : Fin 8) (l : Fin 128) :
    (((mulf X (broadcastInDim S4x256x8x128 ![0, 1, 2, 3] bcast_S4x256x8x1_S4x256x8x128_0_1_2_3 (Host.rsqrt (addf (broadcastInDim S4x256x8x1 ![0, 1, 2] bcast_S4x256x8_S4x256x8x1_0_1_2 (Host.reduceAdd (mulf X X) (constant S_ .f32 0x00000000#32) reducesTo_S4x256x8x128_S4x256x8_d3 h_S_)) (broadcastInDim S4x256x8x1 ![] bcast_S_S4x256x8x1 (constant S_ .f32 0x358637BD#32)))))) : FVec Ideal S4x256x8x128 .f32) (ix4 b q h l) : EReal) = unit (fun x => X (ix4 b q h x)) l := by
  unfold unit
  pointwise

/-- The keys of a context row before the norm. -/
theorem ctx_kc (b : Fin 4) (q : Fin 256) (h : Fin 8) (x : Fin 128) : res_main_v171 V0 (ix4 b q h x) = res_main_v157 V0 (ix3 b q ⟨1024 + (h.val * 128 + x.val), by omega⟩) := by
  unfold res_main_v171
  pointwise

/-- The keys, a context row. -/
theorem ctx_k (n : Fin 1024) (e : Fin 1024) : val5 V0 (Proc.devRef .tc main_v222) (ix2 ⟨32768 + n.val, by omega⟩ e) = oK (aP V0) (aC V0) ⟨32768 + n.val, by omega⟩ e := by
  rw [val5_main_v222]
  refine (trunc_at _ _ _).trans ((join_right (a := 32768) (b := 1024) (k := 33792) (d := 1024) _ _ _ n _ e).trans ((ctx_flat _ _ n e).trans ?_))
  refine (ctx_kn (res_main_v171 V0) _ _ _ _).trans ?_
  have hx : (fun x : Fin 128 => res_main_v171 V0 (ix4 ⟨n.val / 256, by omega⟩ ⟨n.val % 256, by omega⟩ ⟨e.val / 128, by omega⟩ x) : Fin 128 → EReal) = _ :=
    funext fun x => (ctx_kc V0 _ _ _ x).trans (ctx_act V0 n _)
  exact congrArg (fun t => unit t ⟨e.val % 128, by omega⟩) hx

end Cert.OddReferenceIdeal.Row

end
-- ==== Proof.OddRefOut.lean ====
/-
  The five results of the odd projection's reference, whole.
-/
module

public import proofs.«01_k».proof.Proof.Gen.OddReferenceIdeal.Run
public import proofs.«01_k».proof.Proof.OddRefQ
public import proofs.«01_k».proof.Proof.OddRefK
public import proofs.«01_k».proof.Proof.Join
public import Idealize.ShloMosaic.Lib.Pipeline.ValueKit

@[expose] public section

set_option maxRecDepth 16384

noncomputable section

namespace Cert.OddReferenceIdeal.Row

open Cert.OddReferenceIdeal Cert.OddReferenceIdeal.Gen Cert.OddReferenceIdeal.Value
open Idealize.ShloMosaic Idealize.ShloMosaic.TcCoe Idealize.SL.Sem Idealize.ShloMosaic.StableHlo
open Cert.Rows Cert.OddRows

variable (V0 : Valuation τ sig (Elt Ideal))

/-- The forward decay rates. -/
def aAF (e : Fin 8) : EReal := V0 (Proc.devRef .tc main_arg6) (ix1 e)

/-- The backward decay rates. -/
def aAB (e : Fin 8) : EReal := V0 (Proc.devRef .tc main_arg7) (ix1 e)

/-- The forward decay biases. -/
def aDF (e : Fin 8) : EReal := V0 (Proc.devRef .tc main_arg8) (ix1 e)

/-- The backward decay biases. -/
def aDB (e : Fin 8) : EReal := V0 (Proc.devRef .tc main_arg9) (ix1 e)

/-- The word of one is one. -/
theorem one_word : Ideal.ofBits .f32 0x3F800000#32 = 1 := by
  rw [← show ((constant (F := Ideal) S_ FTy.f32 0x3F800000#32) Idealize.ShloMosaic.ix0 : EReal) = Ideal.ofBits .f32 0x3F800000#32 from rfl]
  pointwise

/-- The softplus the reference takes, times the rate. -/
theorem soft (P : Fin 4128 → EReal) (j j' : Fin 4128) (hj : j.val = j'.val) (a d w : EReal) {_ : Decidable (P j + d ≠ P j + d)} :
    (-Ideal.exp a * if P j + d ≠ P j + d then w else max (P j + d) 0 + Ideal.log1p (Ideal.exp (-FloatOps.absf (F := Ideal) (φ := .f32) (P j + d)))) = decay a (P j' + d) := by
  obtain rfl := Fin.ext hj
  rw [if_neg (fun h => h rfl)]
  rfl

/-- The logistic the reference takes. -/
theorem logistic (P : Fin 4128 → EReal) (j j' : Fin 4128) (hj : j.val = j'.val) : Ideal.div 1 (1 + Ideal.exp (-P j)) = strength (P j') := by
  obtain rfl := Fin.ext hj
  unfold strength
  rw [one_word]

/-- The values, a latent row. -/
theorem lat_v (n : Fin 32768) (e : Fin 1024) : val5 V0 (Proc.devRef .tc main_v223) (ix2 ⟨n.val, by omega⟩ e) = oV (aP V0) (aC V0) ⟨n.val, by omega⟩ e := by
  rw [val5_main_v223]
  refine (trunc_at _ _ _).trans ((join_left (a := 32768) (b := 1024) (k := 33792) (d := 1024) _ _ _ n _ e).trans ?_)
  pointwise
  exact lat_act V0 n _

/-- The output gates, a latent row. -/
theorem lat_z (n : Fin 32768) (e : Fin 1024) : val5 V0 (Proc.devRef .tc main_v224) (ix2 ⟨n.val, by omega⟩ e) = oZ (aP V0) ⟨n.val, by omega⟩ e := by
  rw [val5_main_v224]
  refine (trunc_at _ _ _).trans ((join_left (a := 32768) (b := 1024) (k := 33792) (d := 1024) _ _ _ n _ e).trans ?_)
  pointwise
  exact lat_tok V0 n _

set_option maxHeartbeats 4000000 in
/-- The decays and write strengths, a latent row. -/
theorem lat_g (n : Fin 32768) (e : Fin 128) : val5 V0 (Proc.devRef .tc main_v220) (ix2 ⟨n.val, by omega⟩ e)
    = oG (aP V0) (aAF V0) (aAB V0) (aDF V0) (aDB V0) ⟨n.val, by omega⟩ e := by
  rw [val5_main_v220]
  refine (join_left (a := 32768) (b := 1024) (k := 33792) (d := 128) _ _ _ n _ e).trans ?_
  unfold oG
  pointwise
  have ht : ∀ k, res_main_v25 V0 (ix3 ⟨n.val / 8192, by omega⟩ ⟨n.val % 8192, by omega⟩ k) = aP V0 ⟨n.val, by omega⟩ k := lat_tok V0 n
  generalize aP V0 ⟨n.val, by omega⟩ = A at ht ⊢
  by_cases h : e.val < 8
  · rw [dif_pos h, dif_pos h]
    unfold res_main_call2_v3 res_main_call2_cst res_main_v78
    pointwise
    exact (soft (fun j => res_main_v25 V0 (ix3 ⟨n.val / 8192, by omega⟩ ⟨n.val % 8192, by omega⟩ j)) ⟨4096 + e.val, by omega⟩ ⟨4096 + e.val, by omega⟩ rfl (aAF V0 ⟨e.val, h⟩) (aDF V0 ⟨e.val, h⟩) _).trans
        (congrArg (fun z => decay (aAF V0 ⟨e.val, h⟩) (z + aDF V0 ⟨e.val, h⟩)) (ht ⟨4096 + e.val, by omega⟩))
  · rw [dif_neg h, dif_neg h]
    by_cases h' : e.val < 16
    · rw [dif_pos (show e.val - 8 < 8 by omega), dif_pos h']
      unfold res_main_call3_v3 res_main_call3_cst res_main_v87
      pointwise
      exact (soft (fun j => res_main_v25 V0 (ix3 ⟨n.val / 8192, by omega⟩ ⟨n.val % 8192, by omega⟩ j)) ⟨4104 + (e.val - 8), by omega⟩ ⟨4096 + e.val, by omega⟩ (show 4104 + (e.val - 8) = 4096 + e.val by omega) (aAB V0 ⟨e.val - 8, by omega⟩) (aDB V0 ⟨e.val - 8, by omega⟩) _).trans
        (congrArg (fun z => decay (aAB V0 ⟨e.val - 8, by omega⟩) (z + aDB V0 ⟨e.val - 8, by omega⟩)) (ht ⟨4096 + e.val, by omega⟩))
    · rw [dif_neg (show ¬ e.val - 8 < 8 by omega), dif_neg h']
      by_cases h'' : e.val < 32
      · rw [dif_pos (show e.val - 8 - 8 < 16 by omega), dif_pos h'']
        exact (logistic (fun j => res_main_v25 V0 (ix3 ⟨n.val / 8192, by omega⟩ ⟨n.val % 8192, by omega⟩ j)) ⟨4112 + (e.val - 8 - 8), by omega⟩ ⟨4096 + e.val, by omega⟩ (show 4112 + (e.val - 8 - 8) = 4096 + e.val by omega)).trans
          (congrArg strength (ht ⟨4096 + e.val, by omega⟩))
      · rw [dif_neg (show ¬ e.val - 8 - 8 < 16 by omega), dif_neg h'']

/-- The values, a context row. -/
theorem ctx_v (n : Fin 1024) (e : Fin 1024) : val5 V0 (Proc.devRef .tc main_v223) (ix2 ⟨32768 + n.val, by omega⟩ e) = oV (aP V0) (aC V0) ⟨32768 + n.val, by omega⟩ e := by
  rw [val5_main_v223]
  refine (trunc_at _ _ _).trans ((join_right (a := 32768) (b := 1024) (k := 33792) (d := 1024) _ _ _ n _ e).trans ?_)
  pointwise
  exact ctx_act V0 n _

/-- The output gates, a context row. -/
theorem ctx_z (n : Fin 1024) (e : Fin 1024) : val5 V0 (Proc.devRef .tc main_v224) (ix2 ⟨32768 + n.val, by omega⟩ e) = oZ (aP V0) ⟨32768 + n.val, by omega⟩ e := by
  rw [val5_main_v224]
  refine (trunc_at _ _ _).trans ((join_right (a := 32768) (b := 1024) (k := 33792) (d := 1024) _ _ _ n _ e).trans ?_)
  pointwise
  exact ctx_tok V0 n _

set_option maxHeartbeats 4000000 in
/-- The decays and write strengths, a context row. -/
theorem ctx_g (n : Fin 1024) (e : Fin 128) : val5 V0 (Proc.devRef .tc main_v220) (ix2 ⟨32768 + n.val, by omega⟩ e)
    = oG (aP V0) (aAF V0) (aAB V0) (aDF V0) (aDB V0) ⟨32768 + n.val, by omega⟩ e := by
  rw [val5_main_v220]
  refine (join_right (a := 32768) (b := 1024) (k := 33792) (d := 128) _ _ _ n _ e).trans ?_
  unfold oG
  pointwise
  have ht : ∀ k, res_main_v134 V0 (ix3 ⟨n.val / 256, by omega⟩ ⟨n.val % 256, by omega⟩ k) = aP V0 ⟨32768 + n.val, by omega⟩ k := ctx_tok V0 n
  generalize aP V0 ⟨32768 + n.val, by omega⟩ = A at ht ⊢
  by_cases h : e.val < 8
  · rw [dif_pos h, dif_pos h]
    unfold res_main_call6_v3 res_main_call6_cst res_main_v187
    pointwise
    exact (soft (fun j => res_main_v134 V0 (ix3 ⟨n.val / 256, by omega⟩ ⟨n.val % 256, by omega⟩ j)) ⟨4096 + e.val, by omega⟩ ⟨4096 + e.val, by omega⟩ rfl (aAF V0 ⟨e.val, h⟩) (aDF V0 ⟨e.val, h⟩) _).trans
        (congrArg (fun z => decay (aAF V0 ⟨e.val, h⟩) (z + aDF V0 ⟨e.val, h⟩)) (ht ⟨4096 + e.val, by omega⟩))
  · rw [dif_neg h, dif_neg h]
    by_cases h' : e.val < 16
    · rw [dif_pos (show e.val - 8 < 8 by omega), dif_pos h']
      unfold res_main_call7_v3 res_main_call7_cst res_main_v196
      pointwise
      exact (soft (fun j => res_main_v134 V0 (ix3 ⟨n.val / 256, by omega⟩ ⟨n.val % 256, by omega⟩ j)) ⟨4104 + (e.val - 8), by omega⟩ ⟨4096 + e.val, by omega⟩ (show 4104 + (e.val - 8) = 4096 + e.val by omega) (aAB V0 ⟨e.val - 8, by omega⟩) (aDB V0 ⟨e.val - 8, by omega⟩) _).trans
        (congrArg (fun z => decay (aAB V0 ⟨e.val - 8, by omega⟩) (z + aDB V0 ⟨e.val - 8, by omega⟩)) (ht ⟨4096 + e.val, by omega⟩))
    · rw [dif_neg (show ¬ e.val - 8 < 8 by omega), dif_neg h']
      by_cases h'' : e.val < 32
      · rw [dif_pos (show e.val - 8 - 8 < 16 by omega), dif_pos h'']
        exact (logistic (fun j => res_main_v134 V0 (ix3 ⟨n.val / 256, by omega⟩ ⟨n.val % 256, by omega⟩ j)) ⟨4112 + (e.val - 8 - 8), by omega⟩ ⟨4096 + e.val, by omega⟩ (show 4112 + (e.val - 8 - 8) = 4096 + e.val by omega)).trans
          (congrArg strength (ht ⟨4096 + e.val, by omega⟩))
      · rw [dif_neg (show ¬ e.val - 8 - 8 < 16 by omega), dif_neg h'']

/-- A token is a latent one or a context one. -/
theorem token (p : Fin 33792 → Prop) (hl : ∀ n : Fin 32768, p ⟨n.val, by omega⟩) (hc : ∀ n : Fin 1024, p ⟨32768 + n.val, by omega⟩) (n : Fin 33792) : p n := by
  by_cases h : n.val < 32768
  · exact hl ⟨n.val, h⟩
  · have e : (⟨32768 + (⟨n.val - 32768, by omega⟩ : Fin 1024).val, by omega⟩ : Fin 33792) = n := Fin.ext (show 32768 + (n.val - 32768) = n.val by omega)
    exact e ▸ hc ⟨n.val - 32768, by omega⟩

/-- The first result at an entry. -/
theorem whole0 (n : Fin 33792) (e : Fin 1024) : val5 V0 (Proc.devRef .tc main_v221) (ix2 n e) = oQ (aP V0) (aC V0) n e :=
  token (fun n => val5 V0 (Proc.devRef .tc main_v221) (ix2 n e) = oQ (aP V0) (aC V0) n e) (fun n => lat_q V0 n e) (fun n => ctx_q V0 n e) n

/-- The second result at an entry. -/
theorem whole1 (n : Fin 33792) (e : Fin 1024) : val5 V0 (Proc.devRef .tc main_v222) (ix2 n e) = oK (aP V0) (aC V0) n e :=
  token (fun n => val5 V0 (Proc.devRef .tc main_v222) (ix2 n e) = oK (aP V0) (aC V0) n e) (fun n => lat_k V0 n e) (fun n => ctx_k V0 n e) n

/-- The third result at an entry. -/
theorem whole2 (n : Fin 33792) (e : Fin 1024) : val5 V0 (Proc.devRef .tc main_v223) (ix2 n e) = oV (aP V0) (aC V0) n e :=
  token (fun n => val5 V0 (Proc.devRef .tc main_v223) (ix2 n e) = oV (aP V0) (aC V0) n e) (fun n => lat_v V0 n e) (fun n => ctx_v V0 n e) n

/-- The fourth result at an entry. -/
theorem whole3 (n : Fin 33792) (e : Fin 1024) : val5 V0 (Proc.devRef .tc main_v224) (ix2 n e) = oZ (aP V0) n e :=
  token (fun n => val5 V0 (Proc.devRef .tc main_v224) (ix2 n e) = oZ (aP V0) n e) (fun n => lat_z V0 n e) (fun n => ctx_z V0 n e) n

/-- The fifth result at an entry. -/
theorem whole4 (n : Fin 33792) (e : Fin 128) : val5 V0 (Proc.devRef .tc main_v220) (ix2 n e) = oG (aP V0) (aAF V0) (aAB V0) (aDF V0) (aDB V0) n e :=
  token (fun n => val5 V0 (Proc.devRef .tc main_v220) (ix2 n e) = oG (aP V0) (aAF V0) (aAB V0) (aDF V0) (aDB V0) n e) (fun n => lat_g V0 n e) (fun n => ctx_g V0 n e) n

end Cert.OddReferenceIdeal.Row

end
-- ==== Proof.OddProjection.lean ====
/-
  The odd projection: the kernel's five results are the reference's.
-/
module

public import proofs.«01_k».proof.Defs
public import proofs.«01_k».proof.Proof.OddRun
public import proofs.«01_k».proof.Proof.OddRefOut

@[expose] public section

noncomputable section

namespace Cert.OddProjection

open Idealize.ShloMosaic Idealize.SL.Sem Idealize.ShloMosaic.StableHlo

variable (m : (ℓ : Loc Cert.OddIdeal.nD Cert.OddIdeal.τ Cert.OddIdeal.sig) → Buf (Elt Ideal) ℓ)
  (m' : (ℓ : Loc Cert.OddReferenceIdeal.nD Cert.OddReferenceIdeal.τ Cert.OddReferenceIdeal.sig) → Buf (Elt Ideal) ℓ) (c : Dev Cert.OddIdeal.nD)

/-- The two programs' arguments are the same on a device. -/
structure Same : Prop where
  h0 : m' ((c.tc : Thread Cert.OddReferenceIdeal.nD Cert.OddReferenceIdeal.τ).loc Cert.OddReferenceIdeal.main_arg0) = m ((c.tc : Thread Cert.OddIdeal.nD Cert.OddIdeal.τ).loc Cert.OddIdeal.main_arg0)
  h1 : m' ((c.tc : Thread Cert.OddReferenceIdeal.nD Cert.OddReferenceIdeal.τ).loc Cert.OddReferenceIdeal.main_arg1) = m ((c.tc : Thread Cert.OddIdeal.nD Cert.OddIdeal.τ).loc Cert.OddIdeal.main_arg1)
  h2 : m' ((c.tc : Thread Cert.OddReferenceIdeal.nD Cert.OddReferenceIdeal.τ).loc Cert.OddReferenceIdeal.main_arg2) = m ((c.tc : Thread Cert.OddIdeal.nD Cert.OddIdeal.τ).loc Cert.OddIdeal.main_arg2)
  h3 : m' ((c.tc : Thread Cert.OddReferenceIdeal.nD Cert.OddReferenceIdeal.τ).loc Cert.OddReferenceIdeal.main_arg3) = m ((c.tc : Thread Cert.OddIdeal.nD Cert.OddIdeal.τ).loc Cert.OddIdeal.main_arg3)
  h4 : m' ((c.tc : Thread Cert.OddReferenceIdeal.nD Cert.OddReferenceIdeal.τ).loc Cert.OddReferenceIdeal.main_arg4) = m ((c.tc : Thread Cert.OddIdeal.nD Cert.OddIdeal.τ).loc Cert.OddIdeal.main_arg4)
  h5 : m' ((c.tc : Thread Cert.OddReferenceIdeal.nD Cert.OddReferenceIdeal.τ).loc Cert.OddReferenceIdeal.main_arg5) = m ((c.tc : Thread Cert.OddIdeal.nD Cert.OddIdeal.τ).loc Cert.OddIdeal.main_arg5)
  h6 : m' ((c.tc : Thread Cert.OddReferenceIdeal.nD Cert.OddReferenceIdeal.τ).loc Cert.OddReferenceIdeal.main_arg6) = m ((c.tc : Thread Cert.OddIdeal.nD Cert.OddIdeal.τ).loc Cert.OddIdeal.main_arg6)
  h7 : m' ((c.tc : Thread Cert.OddReferenceIdeal.nD Cert.OddReferenceIdeal.τ).loc Cert.OddReferenceIdeal.main_arg7) = m ((c.tc : Thread Cert.OddIdeal.nD Cert.OddIdeal.τ).loc Cert.OddIdeal.main_arg7)
  h8 : m' ((c.tc : Thread Cert.OddReferenceIdeal.nD Cert.OddReferenceIdeal.τ).loc Cert.OddReferenceIdeal.main_arg8) = m ((c.tc : Thread Cert.OddIdeal.nD Cert.OddIdeal.τ).loc Cert.OddIdeal.main_arg8)
  h9 : m' ((c.tc : Thread Cert.OddReferenceIdeal.nD Cert.OddReferenceIdeal.τ).loc Cert.OddReferenceIdeal.main_arg9) = m ((c.tc : Thread Cert.OddIdeal.nD Cert.OddIdeal.τ).loc Cert.OddIdeal.main_arg9)

variable {m m' c}

/-- From the same arguments the two programs project alike. -/
theorem proj_eq (h : Same m m' c) : Cert.OddReferenceIdeal.Row.aP (launchContents m' c) = Cert.OddIdeal.Row.aP m c := by
  have x : (fun n d => launchContents m' c (Proc.devRef .tc Cert.OddReferenceIdeal.main_arg0) (ix2 n d) : Fin 33792 → Fin 1024 → EReal) = Cert.OddIdeal.Row.aX m c := funext fun n => funext fun d => congrFun h.h0 (ix2 n d)
  have g : (fun d => launchContents m' c (Proc.devRef .tc Cert.OddReferenceIdeal.main_arg1) (ix1 d) : Fin 1024 → EReal) = Cert.OddIdeal.Row.aG m c := funext fun d => congrFun h.h1 (ix1 d)
  have sh : (fun b d => launchContents m' c (Proc.devRef .tc Cert.OddReferenceIdeal.main_arg2) (ix2 b d) : Fin 8 → Fin 1024 → EReal) = Cert.OddIdeal.Row.aSH m c := funext fun b => funext fun d => congrFun h.h2 (ix2 b d)
  have sc : (fun b d => launchContents m' c (Proc.devRef .tc Cert.OddReferenceIdeal.main_arg3) (ix2 b d) : Fin 8 → Fin 1024 → EReal) = Cert.OddIdeal.Row.aSC m c := funext fun b => funext fun d => congrFun h.h3 (ix2 b d)
  have w : (fun d j => launchContents m' c (Proc.devRef .tc Cert.OddReferenceIdeal.main_arg4) (ix2 d j) : Fin 1024 → Fin 4128 → EReal) = Cert.OddIdeal.Row.aW m c := funext fun d => funext fun j => congrFun h.h4 (ix2 d j)
  unfold Cert.OddReferenceIdeal.Row.aP Cert.OddIdeal.Row.aP
  exact congr (congr (congr (congr (congrArg Cert.OddRows.proj x) g) sh) sc) w

/-- The convolution's weights are the same. -/
theorem conv_eq (h : Same m m' c) : Cert.OddReferenceIdeal.Row.aC (launchContents m' c) = Cert.OddIdeal.Row.aC m c := funext fun k => funext fun j => congrFun h.h5 (ix2 k j)

/-- The forward decay rates are the same. -/
theorem aAF_eq (h : Same m m' c) : Cert.OddReferenceIdeal.Row.aAF (launchContents m' c) = Cert.OddIdeal.Row.aAF m c := funext fun e => congrFun h.h6 (ix1 e)

/-- The backward decay rates are the same. -/
theorem aAB_eq (h : Same m m' c) : Cert.OddReferenceIdeal.Row.aAB (launchContents m' c) = Cert.OddIdeal.Row.aAB m c := funext fun e => congrFun h.h7 (ix1 e)

/-- The forward decay biases are the same. -/
theorem aDF_eq (h : Same m m' c) : Cert.OddReferenceIdeal.Row.aDF (launchContents m' c) = Cert.OddIdeal.Row.aDF m c := funext fun e => congrFun h.h8 (ix1 e)

/-- The backward decay biases are the same. -/
theorem aDB_eq (h : Same m m' c) : Cert.OddReferenceIdeal.Row.aDB (launchContents m' c) = Cert.OddIdeal.Row.aDB m c := funext fun e => congrFun h.h9 (ix1 e)

/-- The first result is the same array. -/
theorem equal0 (h : Same m m' c) : Cert.OddReferenceIdeal.Value.val5 (launchContents m' c) (Proc.devRef .tc Cert.OddReferenceIdeal.main_v221) = Cert.OddIdeal.Row.res0 m c := by
  funext i
  obtain ⟨n, e, rfl⟩ : ∃ (n : Fin 33792) (e : Fin 1024), i = ix2 n e :=
    ⟨⟨(i 0).val, (i 0).isLt⟩, ⟨(i 1).val, (i 1).isLt⟩, funext fun a => match a with | ⟨0, _⟩ => rfl | ⟨1, _⟩ => rfl⟩
  refine (Cert.OddReferenceIdeal.Row.whole0 (launchContents m' c) n e).trans ?_
  rw [proj_eq h, conv_eq h]
  rfl

/-- The second result is the same array. -/
theorem equal1 (h : Same m m' c) : Cert.OddReferenceIdeal.Value.val5 (launchContents m' c) (Proc.devRef .tc Cert.OddReferenceIdeal.main_v222) = Cert.OddIdeal.Row.res1 m c := by
  funext i
  obtain ⟨n, e, rfl⟩ : ∃ (n : Fin 33792) (e : Fin 1024), i = ix2 n e :=
    ⟨⟨(i 0).val, (i 0).isLt⟩, ⟨(i 1).val, (i 1).isLt⟩, funext fun a => match a with | ⟨0, _⟩ => rfl | ⟨1, _⟩ => rfl⟩
  refine (Cert.OddReferenceIdeal.Row.whole1 (launchContents m' c) n e).trans ?_
  rw [proj_eq h, conv_eq h]
  rfl

/-- The third result is the same array. -/
theorem equal2 (h : Same m m' c) : Cert.OddReferenceIdeal.Value.val5 (launchContents m' c) (Proc.devRef .tc Cert.OddReferenceIdeal.main_v223) = Cert.OddIdeal.Row.res2 m c := by
  funext i
  obtain ⟨n, e, rfl⟩ : ∃ (n : Fin 33792) (e : Fin 1024), i = ix2 n e :=
    ⟨⟨(i 0).val, (i 0).isLt⟩, ⟨(i 1).val, (i 1).isLt⟩, funext fun a => match a with | ⟨0, _⟩ => rfl | ⟨1, _⟩ => rfl⟩
  refine (Cert.OddReferenceIdeal.Row.whole2 (launchContents m' c) n e).trans ?_
  rw [proj_eq h, conv_eq h]
  rfl

/-- The fourth result is the same array. -/
theorem equal3 (h : Same m m' c) : Cert.OddReferenceIdeal.Value.val5 (launchContents m' c) (Proc.devRef .tc Cert.OddReferenceIdeal.main_v224) = Cert.OddIdeal.Row.res3 m c := by
  funext i
  obtain ⟨n, e, rfl⟩ : ∃ (n : Fin 33792) (e : Fin 1024), i = ix2 n e :=
    ⟨⟨(i 0).val, (i 0).isLt⟩, ⟨(i 1).val, (i 1).isLt⟩, funext fun a => match a with | ⟨0, _⟩ => rfl | ⟨1, _⟩ => rfl⟩
  refine (Cert.OddReferenceIdeal.Row.whole3 (launchContents m' c) n e).trans ?_
  rw [proj_eq h]
  rfl

/-- The fifth result is the same array. -/
theorem equal4 (h : Same m m' c) : Cert.OddReferenceIdeal.Value.val5 (launchContents m' c) (Proc.devRef .tc Cert.OddReferenceIdeal.main_v220) = Cert.OddIdeal.Row.res4 m c := by
  funext i
  obtain ⟨n, e, rfl⟩ : ∃ (n : Fin 33792) (e : Fin 128), i = ix2 n e :=
    ⟨⟨(i 0).val, (i 0).isLt⟩, ⟨(i 1).val, (i 1).isLt⟩, funext fun a => match a with | ⟨0, _⟩ => rfl | ⟨1, _⟩ => rfl⟩
  refine (Cert.OddReferenceIdeal.Row.whole4 (launchContents m' c) n e).trans ?_
  rw [proj_eq h, aAF_eq h, aAB_eq h, aDF_eq h, aDB_eq h]
  rfl

set_option maxHeartbeats 4000000 in
/-- Over the extended reals the kernel's results are the reference's. -/
theorem algebraic : Cert.algebraic_OddIdeal_OddReferenceIdeal := fun m g m' g' _ ha =>
  have hs : ∀ c, Same m m' c := fun c => ⟨(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2.1, (ha c).2.2.2.2.2.2.2.2.2⟩
  ⟨fun c => Cert.OddIdeal.Row.res0 m c, fun c => Cert.OddIdeal.Row.res1 m c, fun c => Cert.OddIdeal.Row.res2 m c, fun c => Cert.OddIdeal.Row.res3 m c, fun c => Cert.OddIdeal.Row.res4 m c,
    Cert.OddIdeal.Row.run m g trivial,
    (θ_run Cert.OddReferenceIdeal.defs _ _).mono
      (fun _ h c => ⟨(h c).1.trans ((Cert.OddReferenceIdeal.Value.val5_main_v221 _).symm.trans (equal0 (hs c))),
        (h c).2.1.trans ((Cert.OddReferenceIdeal.Value.val5_main_v222 _).symm.trans (equal1 (hs c))),
        (h c).2.2.1.trans ((Cert.OddReferenceIdeal.Value.val5_main_v223 _).symm.trans (equal2 (hs c))),
        (h c).2.2.2.1.trans ((Cert.OddReferenceIdeal.Value.val5_main_v224 _).symm.trans (equal3 (hs c))),
        (h c).2.2.2.2.1.trans ((Cert.OddReferenceIdeal.Value.val5_main_v220 _).symm.trans (equal4 (hs c))),
        (h c).2.2.2.2.2⟩)
      (Cert.OddReferenceIdeal.Value.run (F := Ideal) m' g')⟩

end Cert.OddProjection

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores
public import proofs.«01_k».proof.Proof.Gen.Pre_finite_projection
public import proofs.«01_k».proof.Proof.Gen.Kernel.Frame
public import proofs.«01_k».proof.Proof.Gen.KernelIdeal.Frame
public import proofs.«01_k».proof.Proof.Gen.Inproj
public import proofs.«01_k».proof.Proof.Gen.InprojIdeal
public import proofs.«01_k».proof.Proof.Gen.InprojReferenceIdeal
public import proofs.«01_k».proof.Proof.Gen.InprojReferenceIdeal.Run
public import proofs.«01_k».proof.Proof.Gen.Inproj.Frame
public import proofs.«01_k».proof.Proof.Gen.InprojIdeal.Frame
public import proofs.«01_k».proof.Proof.Gen.Odd
public import proofs.«01_k».proof.Proof.Gen.OddIdeal
public import proofs.«01_k».proof.Proof.Gen.OddReferenceIdeal
public import proofs.«01_k».proof.Proof.Gen.OddReferenceIdeal.Run
public import proofs.«01_k».proof.Proof.Gen.Odd.Frame
public import proofs.«01_k».proof.Proof.Gen.OddIdeal.Frame
public import proofs.«01_k».proof.Proof.Run
public import proofs.«01_k».proof.Proof.KRun
public import proofs.«01_k».proof.Proof.Ref
public import proofs.«01_k».proof.Proof.Result
public import proofs.«01_k».proof.Proof.Finite
public import proofs.«01_k».proof.Proof.Projection
public import proofs.«01_k».proof.Proof.OddProjection

@[expose] public section

noncomputable section

namespace Cert.Proof

open Idealize.ShloMosaic Idealize.SL.Sem

/-- The kernel at the machine's floats runs, leaves its arguments and every counter at zero. -/
theorem frame_p : Cert.quiescent_Kernel := fun m ρ _ => Cert.Kernel.Attn.frame_main m ρ
/-- The idealized kernel likewise. -/
theorem frame_pi : Cert.quiescent_KernelIdeal := fun m ρ _ => Cert.KernelIdeal.Attn.frame_main m ρ
/-- The reference likewise. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- The two named constants stand for the values they name. -/
theorem preserves : Cert.preserves_Kernel_KernelIdeal :=
  ⟨IdealRules.named_const.statement Cert.KernelIdeal.κ "scale" .f32 0x3E38AA3B#32 (((1 / 8) * (Real.log 2)⁻¹ : ℝ) : EReal) rfl,
    IdealRules.named_const.statement Cert.KernelIdeal.κ "mask" .f32 0xF149F2CA#32 ⊥ rfl⟩

/-- The two programs' results are one array when their arguments are: each entry is the same average of
    values. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Value.res_out0 m' c = Cert.KernelIdeal.Attn.result m c := by
  funext i
  obtain ⟨n, e, rfl⟩ : ∃ (n : Fin 32768) (e : Fin 512), i = ix2 n e :=
    ⟨⟨(i 0).val, (i 0).isLt⟩, ⟨(i 1).val, (i 1).isLt⟩, funext fun a => match a with | ⟨0, _⟩ => rfl | ⟨1, _⟩ => rfl⟩
  refine (Cert.ReferenceIdeal.Attn.res_at m' c n e).trans ?_
  rw [h0, h1, h2]
  rfl

/-- The precondition, read at every index of the queries and of the keys. -/
theorem reals (m : (ℓ : Loc Cert.KernelIdeal.nD Cert.KernelIdeal.τ Cert.KernelIdeal.sig) → Buf (Elt Ideal) ℓ)
    (h : Cert.Pre_KernelIdeal_finite_scores m) :
    (∀ (c : Dev Cert.KernelIdeal.nD) i, ∃ r : ℝ,
      m ((c.tc : Thread Cert.KernelIdeal.nD Cert.KernelIdeal.τ).loc Cert.KernelIdeal.main_arg0) i = (r : EReal))
    ∧ (∀ (c : Dev Cert.KernelIdeal.nD) i, ∃ r : ℝ,
      m ((c.tc : Thread Cert.KernelIdeal.nD Cert.KernelIdeal.τ).loc Cert.KernelIdeal.main_arg1) i = (r : EReal)) := by
  refine ⟨fun c i => ?_, fun c i => ?_⟩
  · obtain ⟨a, n, d, rfl⟩ : ∃ (a : Fin 8) (n : Fin 33792) (d : Fin 64), i = ix3 a n d :=
      ⟨⟨(i 0).val, (i 0).isLt⟩, ⟨(i 1).val, (i 1).isLt⟩, ⟨(i 2).val, (i 2).isLt⟩,
        funext fun a => match a with | ⟨0, _⟩ => rfl | ⟨1, _⟩ => rfl | ⟨2, _⟩ => rfl⟩
    exact Cert.Pre_finite_scores.Attn.query_real _ _ _ (h c) a n d
  · obtain ⟨a, n, d, rfl⟩ : ∃ (a : Fin 2) (n : Fin 33792) (d : Fin 64), i = ix3 a n d :=
      ⟨⟨(i 0).val, (i 0).isLt⟩, ⟨(i 1).val, (i 1).isLt⟩, ⟨(i 2).val, (i 2).isLt⟩,
        funext fun a => match a with | ⟨0, _⟩ => rfl | ⟨1, _⟩ => rfl | ⟨2, _⟩ => rfl⟩
    exact Cert.Pre_finite_scores.Attn.key_real _ _ _ (h c) a n d

/-- Over the extended reals, where every query and key is a real, the kernel's result is the reference's. -/
theorem algebraic : Cert.algebraic_KernelIdeal_ReferenceIdeal_pre_finite_scores := fun m g m' g' hp ha =>
  ⟨fun c => Cert.KernelIdeal.Attn.result m c, Cert.KernelIdeal.Attn.run m g (reals m hp).1 (reals m hp).2,
    (θ_run Cert.ReferenceIdeal.defs _ _).mono
      (fun _ h c => ⟨(h c).1.trans (same_result m m' c (ha c).1 (ha c).2.1 (ha c).2.2), (h c).2⟩)
      (Cert.ReferenceIdeal.Value.run (F := Ideal) m' g')⟩

/-- The projection's reference runs, leaves its arguments and every counter at zero. -/
theorem frame_projection_ri : Cert.quiescent_InprojReferenceIdeal := fun m ρ _ =>
  (θ_run Cert.InprojReferenceIdeal.defs _ _).mono
    (fun r h => ⟨fun c => (h c).2.2.2.2.2.2, sem_eq_zero_of_no_sems (by decide) r.2⟩)
    (Cert.InprojReferenceIdeal.Value.run (F := Ideal) m ρ)

/-- The odd projection's reference runs, leaves its arguments and every counter at zero. -/
theorem frame_odd_ri : Cert.quiescent_OddReferenceIdeal := fun m ρ _ =>
  (θ_run Cert.OddReferenceIdeal.defs _ _).mono
    (fun r h => ⟨fun c => (h c).2.2.2.2.2, sem_eq_zero_of_no_sems (by decide) r.2⟩)
    (Cert.OddReferenceIdeal.Value.run (F := Ideal) m ρ)

/-- Everything claimed. -/
theorem claim : Cert.Claim := ⟨Cert.Kernel.Gen.facts, Cert.KernelIdeal.Gen.facts, Cert.ReferenceIdeal.Gen.facts,
  Cert.Inproj.Gen.facts, Cert.InprojIdeal.Gen.facts, Cert.InprojReferenceIdeal.Gen.facts,
  Cert.Odd.Gen.facts, Cert.OddIdeal.Gen.facts, Cert.OddReferenceIdeal.Gen.facts,
  Cert.Pre_finite_scores.Gen.facts, Cert.Pre_finite_projection.Gen.facts,
  frame_p, frame_pi, fun m ρ _ => Cert.KernelIdeal.Attn.frame_main m ρ, frame_ri, fun m ρ _ => frame_ri m ρ trivial,
  fun m ρ _ => Cert.Inproj.Gen.frame m ρ, fun m ρ _ => Cert.InprojIdeal.Gen.frame m ρ, fun m ρ _ => Cert.InprojIdeal.Gen.frame m ρ,
  frame_projection_ri, fun m ρ _ => frame_projection_ri m ρ trivial,
  fun m ρ _ => Cert.Odd.Gen.frame m ρ trivial, fun m ρ _ => Cert.OddIdeal.Gen.frame m ρ trivial, frame_odd_ri,
  preserves, algebraic, trivial, Cert.Projection.algebraic, trivial, Cert.OddProjection.algebraic⟩

end Cert.Proof

end
